-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_positions [hPre_positions : Cert.Pre_positions.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_positions.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_positions [hPre_positions : Cert.Pre_positions.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_positions.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_positions [hKernel3Ideal : Cert.Kernel3Ideal.Facts] [hPre_positions : Cert.Pre_positions.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_positions m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_positions [hReference3Ideal : Cert.Reference3Ideal.Facts] [hPre_positions : Cert.Pre_positions.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_positions m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "inv_hw" .f32 0x3BA72F05#32 ((1 / 196 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v75_0)) (v2 : (c : Dev Cert.KernelIdeal.nD) → Buf (Elt Ideal) ((c.tc : Thread Cert.KernelIdeal.nD Cert.KernelIdeal.τ).loc Cert.KernelIdeal.main_v75_1)) (v3 : (c : Dev Cert.KernelIdeal.nD) → Buf (Elt Ideal) ((c.tc : Thread Cert.KernelIdeal.nD Cert.KernelIdeal.τ).loc Cert.KernelIdeal.main_v75_2)) (v4 : (c : Dev Cert.KernelIdeal.nD) → Buf (Elt Ideal) ((c.tc : Thread Cert.KernelIdeal.nD Cert.KernelIdeal.τ).loc Cert.KernelIdeal.main_v75_3)) (v5 : (c : Dev Cert.KernelIdeal.nD) → Buf (Elt Ideal) ((c.tc : Thread Cert.KernelIdeal.nD Cert.KernelIdeal.τ).loc Cert.KernelIdeal.main_v75_4)) (v6 : (c : Dev Cert.KernelIdeal.nD) → Buf (Elt Ideal) ((c.tc : Thread Cert.KernelIdeal.nD Cert.KernelIdeal.τ).loc Cert.KernelIdeal.main_v75_5)) (v7 : (c : Dev Cert.KernelIdeal.nD) → Buf (Elt Ideal) ((c.tc : Thread Cert.KernelIdeal.nD Cert.KernelIdeal.τ).loc Cert.KernelIdeal.main_v75_6)) (v8 : (c : Dev Cert.KernelIdeal.nD) → Buf (Elt Ideal) ((c.tc : Thread Cert.KernelIdeal.nD Cert.KernelIdeal.τ).loc Cert.KernelIdeal.main_v86_1)) (v9 : (c : Dev Cert.KernelIdeal.nD) → Buf (Elt Ideal) ((c.tc : Thread Cert.KernelIdeal.nD Cert.KernelIdeal.τ).loc Cert.KernelIdeal.main_v86_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v75_0) = v1 c
          ∧ r.2.mem ((c.tc : Thread Cert.KernelIdeal.nD Cert.KernelIdeal.τ).loc Cert.KernelIdeal.main_v75_1) = v2 c
          ∧ r.2.mem ((c.tc : Thread Cert.KernelIdeal.nD Cert.KernelIdeal.τ).loc Cert.KernelIdeal.main_v75_2) = v3 c
          ∧ r.2.mem ((c.tc : Thread Cert.KernelIdeal.nD Cert.KernelIdeal.τ).loc Cert.KernelIdeal.main_v75_3) = v4 c
          ∧ r.2.mem ((c.tc : Thread Cert.KernelIdeal.nD Cert.KernelIdeal.τ).loc Cert.KernelIdeal.main_v75_4) = v5 c
          ∧ r.2.mem ((c.tc : Thread Cert.KernelIdeal.nD Cert.KernelIdeal.τ).loc Cert.KernelIdeal.main_v75_5) = v6 c
          ∧ r.2.mem ((c.tc : Thread Cert.KernelIdeal.nD Cert.KernelIdeal.τ).loc Cert.KernelIdeal.main_v75_6) = v7 c
          ∧ r.2.mem ((c.tc : Thread Cert.KernelIdeal.nD Cert.KernelIdeal.τ).loc Cert.KernelIdeal.main_v86_1) = v8 c
          ∧ r.2.mem ((c.tc : Thread Cert.KernelIdeal.nD Cert.KernelIdeal.τ).loc Cert.KernelIdeal.main_v86_2) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v131) = v5 c
          ∧ r.2.mem ((c.tc : Thread Cert.ReferenceIdeal.nD Cert.ReferenceIdeal.τ).loc Cert.ReferenceIdeal.main_v132) = v6 c
          ∧ r.2.mem ((c.tc : Thread Cert.ReferenceIdeal.nD Cert.ReferenceIdeal.τ).loc Cert.ReferenceIdeal.main_v133) = v7 c
          ∧ r.2.mem ((c.tc : Thread Cert.ReferenceIdeal.nD Cert.ReferenceIdeal.τ).loc Cert.ReferenceIdeal.main_v169) = v8 c
          ∧ r.2.mem ((c.tc : Thread Cert.ReferenceIdeal.nD Cert.ReferenceIdeal.τ).loc Cert.ReferenceIdeal.main_v189) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_positions [hKernel3Ideal : Cert.Kernel3Ideal.Facts] [hReference3Ideal : Cert.Reference3Ideal.Facts] [hPre_positions : Cert.Pre_positions.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_positions m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v72_0)) (v1 : (c : Dev Cert.Kernel3Ideal.nD) → Buf (Elt Ideal) ((c.tc : Thread Cert.Kernel3Ideal.nD Cert.Kernel3Ideal.τ).loc Cert.Kernel3Ideal.main_v72_1)) (v2 : (c : Dev Cert.Kernel3Ideal.nD) → Buf (Elt Ideal) ((c.tc : Thread Cert.Kernel3Ideal.nD Cert.Kernel3Ideal.τ).loc Cert.Kernel3Ideal.main_v72_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v72_0) = v0 c
          ∧ r.2.mem ((c.tc : Thread Cert.Kernel3Ideal.nD Cert.Kernel3Ideal.τ).loc Cert.Kernel3Ideal.main_v72_1) = v1 c
          ∧ r.2.mem ((c.tc : Thread Cert.Kernel3Ideal.nD Cert.Kernel3Ideal.τ).loc Cert.Kernel3Ideal.main_v72_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_positions : Cert.Pre_positions.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_positions (hKernel3Ideal := hKernel3Ideal) (hPre_positions := hPre_positions)
    ∧ quiescent_Reference3Ideal (hReference3Ideal := hReference3Ideal)
    ∧ quiescent_Reference3Ideal_pre_positions (hReference3Ideal := hReference3Ideal) (hPre_positions := hPre_positions)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_positions (hKernel3Ideal := hKernel3Ideal) (hReference3Ideal := hReference3Ideal) (hPre_positions := hPre_positions)
-- ==== Pre_positions.lean ====
abbrev S128 : Shape := ⟨1, ![128]⟩
abbrev S128x1x512 : Shape := ⟨3, ![128, 1, 512]⟩
abbrev S1x512 : Shape := ⟨2, ![1, 512]⟩
abbrev S_ : Shape := ⟨0, ![]⟩

class Facts : Prop where
  bcast_S_S128x1x512 : S_.BroadcastsInDim S128x1x512 (![] : Fin 0 → Fin S128x1x512.rank)
  reducesTo_S128x1x512_S_d0_1_2 : S128x1x512.ReducesTo [0, 1, 2] S_
  h_S_ : 0 < S_.numel

variable [Facts]

def fn {F : FTy → Type} [FloatOps F] (main_arg0 : IVec S128 32) (main_arg1 : IVec S128x1x512 32) (main_arg2 : IVec S128x1x512 32) (main_arg3 : IVec S1x512 32) (main_arg4 : IVec S1x512 32) : IVec S_ 1 :=
  let main_c : IVec S_ 32 := constantI S_ 32 0#32
  let main_v0 : IVec S128x1x512 32 := broadcastInDim S128x1x512 ![] bcast_S_S128x1x512 main_c
  let main_v1 : IVec S128x1x512 1 := cmpi .sge main_arg1 main_v0
  let main_c_0 : IVec S_ 32 := constantI S_ 32 196#32
  let main_v2 : IVec S128x1x512 32 := broadcastInDim S128x1x512 ![] bcast_S_S128x1x512 main_c_0
  let main_v3 : IVec S128x1x512 1 := cmpi .slt main_arg1 main_v2
  let main_v4 : IVec S128x1x512 1 := andi main_v1 main_v3
  let main_c_1 : IVec S_ 1 := constantI S_ 1 1#1
  let main_v5 : IVec S_ 1 := (fun x v => Host.reduce IntOp.andi x v reducesTo_S128x1x512_S_d0_1_2 h_S_) main_v4 main_c_1
  let main_c_2 : IVec S_ 32 := constantI S_ 32 0#32
  let main_v6 : IVec S128x1x512 32 := broadcastInDim S128x1x512 ![] bcast_S_S128x1x512 main_c_2
  let main_v7 : IVec S128x1x512 1 := cmpi .sge main_arg2 main_v6
  let main_c_3 : IVec S_ 32 := constantI S_ 32 196#32
  let main_v8 : IVec S128x1x512 32 := broadcastInDim S128x1x512 ![] bcast_S_S128x1x512 main_c_3
  let main_v9 : IVec S128x1x512 1 := cmpi .slt main_arg2 main_v8
  let main_v10 : IVec S128x1x512 1 := andi main_v7 main_v9
  let main_c_4 : IVec S_ 1 := constantI S_ 1 1#1
  let main_v11 : IVec S_ 1 := (fun x v => Host.reduce IntOp.andi x v reducesTo_S128x1x512_S_d0_1_2 h_S_) main_v10 main_c_4
  let main_v12 : IVec S_ 1 := andi main_v5 main_v11
  main_v12
-- ==== Kernel.lean ====
abbrev S128x14x14x512 : Shape := ⟨4, ![128, 14, 14, 512]⟩
abbrev S128 : Shape := ⟨1, ![128]⟩
abbrev S3x3x512x512 : Shape := ⟨4, ![3, 3, 512, 512]⟩
abbrev S512 : Shape := ⟨1, ![512]⟩
abbrev S25088x10 : Shape := ⟨2, ![25088, 10]⟩
abbrev S10 : Shape := ⟨1, ![10]⟩
abbrev S512x10 : Shape := ⟨2, ![512, 10]⟩
abbrev S14 : Shape := ⟨1, ![14]⟩
abbrev S14x1x1x1 : Shape := ⟨4, ![14, 1, 1, 1]⟩
abbrev S1x1x14x1 : Shape := ⟨4, ![1, 1, 14, 1]⟩
abbrev S14x1x14x1 : Shape := ⟨4, ![14, 1, 14, 1]⟩
abbrev S1x14x1x1 : Shape := ⟨4, ![1, 14, 1, 1]⟩
abbrev S1x1x1x14 : Shape := ⟨4, ![1, 1, 1, 14]⟩
abbrev S1x14x1x14 : Shape := ⟨4, ![1, 14, 1, 14]⟩
abbrev S14x14x14x14 : Shape := ⟨4, ![14, 14, 14, 14]⟩
abbrev S_ : Shape := ⟨0, ![]⟩
abbrev S196x196 : Shape := ⟨2, ![196, 196]⟩
abbrev S3x3x14x14x14x14 : Shape := ⟨6, ![3, 3, 14, 14, 14, 14]⟩
abbrev S9x196x196 : Shape := ⟨3, ![9, 196, 196]⟩
abbrev S2x2x7x7x14x14 : Shape := ⟨6, ![2, 2, 7, 7, 14, 14]⟩
abbrev S4x49x196 : Shape := ⟨3, ![4, 49, 196]⟩
abbrev S1x196x196 : Shape := ⟨3, ![1, 196, 196]⟩
abbrev S3x196x196 : Shape := ⟨3, ![3, 196, 196]⟩
abbrev S128x196x512 : Shape := ⟨3, ![128, 196, 512]⟩
abbrev S9x512x512 : Shape := ⟨3, ![9, 512, 512]⟩
abbrev S1x512 : Shape := ⟨2, ![1, 512]⟩
abbrev S128x49x512 : Shape := ⟨3, ![128, 49, 512]⟩
abbrev S128x1x512 : Shape := ⟨3, ![128, 1, 512]⟩
abbrev S8x196x512 : Shape := ⟨3, ![8, 196, 512]⟩
abbrev S8x49x512 : Shape := ⟨3, ![8, 49, 512]⟩
abbrev S8x1x512 : Shape := ⟨3, ![8, 1, 512]⟩
abbrev S9x196x512 : Shape := ⟨3, ![9, 196, 512]⟩
abbrev S1x196x512 : Shape := ⟨3, ![1, 196, 512]⟩
abbrev S196x512 : Shape := ⟨2, ![196, 512]⟩
abbrev S1x1x512 : Shape := ⟨3, ![1, 1, 512]⟩
abbrev S1x512x512 : Shape := ⟨3, ![1, 512, 512]⟩
abbrev S512x512 : Shape := ⟨2, ![512, 512]⟩
abbrev S1x49x196 : Shape := ⟨3, ![1, 49, 196]⟩
abbrev S49x196 : Shape := ⟨2, ![49, 196]⟩
abbrev S49x512 : Shape := ⟨2, ![49, 512]⟩
abbrev S1x49x512 : Shape := ⟨3, ![1, 49, 512]⟩
abbrev S128x25088 : Shape := ⟨2, ![128, 25088]⟩
abbrev S1x10 : Shape := ⟨2, ![1, 10]⟩
abbrev S1x128 : Shape := ⟨2, ![1, 128]⟩
abbrev S128x512 : Shape := ⟨2, ![128, 512]⟩
abbrev S10x512 : Shape := ⟨2, ![10, 512]⟩
abbrev S10x1 : Shape := ⟨2, ![10, 1]⟩
abbrev S128x10 : Shape := ⟨2, ![128, 10]⟩
abbrev S128x1 : Shape := ⟨2, ![128, 1]⟩
abbrev S10x128 : Shape := ⟨2, ![10, 128]⟩

abbrev nBuf : Space → Nat
  | .hbm => 114
  | .vmem => 35
  | .smem => 0
  | _ => 0

abbrev bufTy : (tb : Table) → Fin (tcTables nBuf tb) → BufTy
  | .hbm, ⟨0, _⟩ => ⟨S128x14x14x512, .f32⟩
  | .hbm, ⟨1, _⟩ => ⟨S128, .i32⟩
  | .hbm, ⟨2, _⟩ => ⟨S3x3x512x512, .f32⟩
  | .hbm, ⟨3, _⟩ => ⟨S512, .f32⟩
  | .hbm, ⟨4, _⟩ => ⟨S25088x10, .f32⟩
  | .hbm, ⟨5, _⟩ => ⟨S10, .f32⟩
  | .hbm, ⟨6, _⟩ => ⟨S512x10, .f32⟩
  | .hbm, ⟨7, _⟩ => ⟨S512x10, .f32⟩
  | .hbm, ⟨8, _⟩ => ⟨S10, .f32⟩
  | .hbm, ⟨9, _⟩ => ⟨S10, .f32⟩
  | .hbm, ⟨10, _⟩ => ⟨S14, .f32⟩
  | .hbm, ⟨11, _⟩ => ⟨S14x1x1x1, .f32⟩
  | .hbm, ⟨12, _⟩ => ⟨S1x1x14x1, .f32⟩
  | .hbm, ⟨13, _⟩ => ⟨S14x1x14x1, .f32⟩
  | .hbm, ⟨14, _⟩ => ⟨S14x1x14x1, .f32⟩
  | .hbm, ⟨15, _⟩ => ⟨S14x1x14x1, .f32⟩
  | .hbm, ⟨16, _⟩ => ⟨S14x1x14x1, .f32⟩
  | .hbm, ⟨17, _⟩ => ⟨S1x14x1x1, .f32⟩
  | .hbm, ⟨18, _⟩ => ⟨S1x1x1x14, .f32⟩
  | .hbm, ⟨19, _⟩ => ⟨S1x14x1x14, .f32⟩
  | .hbm, ⟨20, _⟩ => ⟨S1x14x1x14, .f32⟩
  | .hbm, ⟨21, _⟩ => ⟨S1x14x1x14, .f32⟩
  | .hbm, ⟨22, _⟩ => ⟨S1x14x1x14, .f32⟩
  | .hbm, ⟨23, _⟩ => ⟨S14x14x14x14, .f32⟩
  | .hbm, ⟨24, _⟩ => ⟨S14x14x14x14, .f32⟩
  | .hbm, ⟨25, _⟩ => ⟨S14x14x14x14, .f32⟩
  | .hbm, ⟨26, _⟩ => ⟨S_, .f32⟩
  | .hbm, ⟨27, _⟩ => ⟨S14x14x14x14, .f32⟩
  | .hbm, ⟨28, _⟩ => ⟨S14x14x14x14, .f32⟩
  | .hbm, ⟨29, _⟩ => ⟨S_, .f32⟩
  | .hbm, ⟨30, _⟩ => ⟨S14x14x14x14, .f32⟩
  | .hbm, ⟨31, _⟩ => ⟨S14x14x14x14, .f32⟩
  | .hbm, ⟨32, _⟩ => ⟨S_, .f32⟩
  | .hbm, ⟨33, _⟩ => ⟨S14x14x14x14, .f32⟩
  | .hbm, ⟨34, _⟩ => ⟨S14x14x14x14, .f32⟩
  | .hbm, ⟨35, _⟩ => ⟨S_, .f32⟩
  | .hbm, ⟨36, _⟩ => ⟨S14x14x14x14, .f32⟩
  | .hbm, ⟨37, _⟩ => ⟨S14x14x14x14, .f32⟩
  | .hbm, ⟨38, _⟩ => ⟨S_, .f32⟩
  | .hbm, ⟨39, _⟩ => ⟨S14x14x14x14, .f32⟩
  | .hbm, ⟨40, _⟩ => ⟨S14x14x14x14, .f32⟩
  | .hbm, ⟨41, _⟩ => ⟨S196x196, .f32⟩
  | .hbm, ⟨42, _⟩ => ⟨S196x196, .f32⟩
  | .hbm, ⟨43, _⟩ => ⟨S3x3x14x14x14x14, .i32⟩
  | .hbm, ⟨44, _⟩ => ⟨S3x3x14x14x14x14, .i32⟩
  | .hbm, ⟨45, _⟩ => ⟨S3x3x14x14x14x14, .i32⟩
  | .hbm, ⟨46, _⟩ => ⟨S3x3x14x14x14x14, .i32⟩
  | .hbm, ⟨47, _⟩ => ⟨S3x3x14x14x14x14, .i32⟩
  | .hbm, ⟨48, _⟩ => ⟨S3x3x14x14x14x14, .i32⟩
  | .hbm, ⟨49, _⟩ => ⟨S3x3x14x14x14x14, .i32⟩
  | .hbm, ⟨50, _⟩ => ⟨S_, .i32⟩
  | .hbm, ⟨51, _⟩ => ⟨S3x3x14x14x14x14, .i32⟩
  | .hbm, ⟨52, _⟩ => ⟨S3x3x14x14x14x14, .i32⟩
  | .hbm, ⟨53, _⟩ => ⟨S3x3x14x14x14x14, .i1⟩
  | .hbm, ⟨54, _⟩ => ⟨S3x3x14x14x14x14, .i32⟩
  | .hbm, ⟨55, _⟩ => ⟨S_, .i32⟩
  | .hbm, ⟨56, _⟩ => ⟨S3x3x14x14x14x14, .i32⟩
  | .hbm, ⟨57, _⟩ => ⟨S3x3x14x14x14x14, .i32⟩
  | .hbm, ⟨58, _⟩ => ⟨S3x3x14x14x14x14, .i1⟩
  | .hbm, ⟨59, _⟩ => ⟨S3x3x14x14x14x14, .i1⟩
  | .hbm, ⟨60, _⟩ => ⟨S3x3x14x14x14x14, .f32⟩
  | .hbm, ⟨61, _⟩ => ⟨S9x196x196, .f32⟩
  | .hbm, ⟨62, _⟩ => ⟨S2x2x7x7x14x14, .i32⟩
  | .hbm, ⟨63, _⟩ => ⟨S2x2x7x7x14x14, .i32⟩
  | .hbm, ⟨64, _⟩ => ⟨S2x2x7x7x14x14, .i32⟩
  | .hbm, ⟨65, _⟩ => ⟨S2x2x7x7x14x14, .i32⟩
  | .hbm, ⟨66, _⟩ => ⟨S2x2x7x7x14x14, .i32⟩
  | .hbm, ⟨67, _⟩ => ⟨S2x2x7x7x14x14, .i32⟩
  | .hbm, ⟨68, _⟩ => ⟨S_, .i32⟩
  | .hbm, ⟨69, _⟩ => ⟨S2x2x7x7x14x14, .i32⟩
  | .hbm, ⟨70, _⟩ => ⟨S2x2x7x7x14x14, .i32⟩
  | .hbm, ⟨71, _⟩ => ⟨S2x2x7x7x14x14, .i32⟩
  | .hbm, ⟨72, _⟩ => ⟨S2x2x7x7x14x14, .i1⟩
  | .hbm, ⟨73, _⟩ => ⟨S_, .i32⟩
  | .hbm, ⟨74, _⟩ => ⟨S2x2x7x7x14x14, .i32⟩
  | .hbm, ⟨75, _⟩ => ⟨S2x2x7x7x14x14, .i32⟩
  | .hbm, ⟨76, _⟩ => ⟨S2x2x7x7x14x14, .i32⟩
  | .hbm, ⟨77, _⟩ => ⟨S2x2x7x7x14x14, .i1⟩
  | .hbm, ⟨78, _⟩ => ⟨S2x2x7x7x14x14, .i1⟩
  | .hbm, ⟨79, _⟩ => ⟨S2x2x7x7x14x14, .f32⟩
  | .hbm, ⟨80, _⟩ => ⟨S4x49x196, .f32⟩
  | .hbm, ⟨81, _⟩ => ⟨S196x196, .bf16⟩
  | .hbm, ⟨82, _⟩ => ⟨S196x196, .f32⟩
  | .hbm, ⟨83, _⟩ => ⟨S196x196, .f32⟩
  | .hbm, ⟨84, _⟩ => ⟨S196x196, .bf16⟩
  | .hbm, ⟨85, _⟩ => ⟨S196x196, .f32⟩
  | .hbm, ⟨86, _⟩ => ⟨S196x196, .f32⟩
  | .hbm, ⟨87, _⟩ => ⟨S1x196x196, .f32⟩
  | .hbm, ⟨88, _⟩ => ⟨S1x196x196, .f32⟩
  | .hbm, ⟨89, _⟩ => ⟨S1x196x196, .f32⟩
  | .hbm, ⟨90, _⟩ => ⟨S3x196x196, .f32⟩
  | .hbm, ⟨91, _⟩ => ⟨S128x196x512, .f32⟩
  | .hbm, ⟨92, _⟩ => ⟨S9x512x512, .f32⟩
  | .hbm, ⟨93, _⟩ => ⟨S1x512, .f32⟩
  | .hbm, ⟨94, _⟩ => ⟨S128x196x512, .f32⟩
  | .hbm, ⟨95, _⟩ => ⟨S128x196x512, .f32⟩
  | .hbm, ⟨96, _⟩ => ⟨S128x49x512, .f32⟩
  | .hbm, ⟨97, _⟩ => ⟨S128x1x512, .f32⟩
  | .hbm, ⟨98, _⟩ => ⟨S128x1x512, .f32⟩
  | .hbm, ⟨99, _⟩ => ⟨S128x1x512, .i32⟩
  | .hbm, ⟨100, _⟩ => ⟨S128x1x512, .i32⟩
  | .hbm, ⟨101, _⟩ => ⟨S128x25088, .f32⟩
  | .hbm, ⟨102, _⟩ => ⟨S1x10, .f32⟩
  | .hbm, ⟨103, _⟩ => ⟨S128, .f32⟩
  | .hbm, ⟨104, _⟩ => ⟨S1x128, .f32⟩
  | .hbm, ⟨105, _⟩ => ⟨S128x512, .f32⟩
  | .hbm, ⟨106, _⟩ => ⟨S128x512, .f32⟩
  | .hbm, ⟨107, _⟩ => ⟨S10x512, .f32⟩
  | .hbm, ⟨108, _⟩ => ⟨S10x512, .f32⟩
  | .hbm, ⟨109, _⟩ => ⟨S10x1, .f32⟩
  | .hbm, ⟨110, _⟩ => ⟨S10x1, .f32⟩
  | .hbm, ⟨111, _⟩ => ⟨S128x10, .f32⟩
  | .hbm, ⟨112, _⟩ => ⟨S1x512, .i32⟩
  | .hbm, ⟨113, _⟩ => ⟨S1x512, .i32⟩
  | .local _ .vmem, ⟨0, _⟩ => ⟨S8x196x512, .f32⟩
  | .local _ .vmem, ⟨1, _⟩ => ⟨S8x196x512, .f32⟩
  | .local _ .vmem, ⟨2, _⟩ => ⟨S3x196x196, .f32⟩
  | .local _ .vmem, ⟨3, _⟩ => ⟨S9x196x196, .f32⟩
  | .local _ .vmem, ⟨4, _⟩ => ⟨S4x49x196, .f32⟩
  | .local _ .vmem, ⟨5, _⟩ => ⟨S9x512x512, .f32⟩
  | .local _ .vmem, ⟨6, _⟩ => ⟨S1x512, .f32⟩
  | .local _ .vmem, ⟨7, _⟩ => ⟨S8x196x512, .f32⟩
  | .local _ .vmem, ⟨8, _⟩ => ⟨S8x196x512, .f32⟩
  | .local _ .vmem, ⟨9, _⟩ => ⟨S8x196x512, .f32⟩
  | .local _ .vmem, ⟨10, _⟩ => ⟨S8x196x512, .f32⟩
  | .local _ .vmem, ⟨11, _⟩ => ⟨S8x49x512, .f32⟩
  | .local _ .vmem, ⟨12, _⟩ => ⟨S8x49x512, .f32⟩
  | .local _ .vmem, ⟨13, _⟩ => ⟨S8x1x512, .f32⟩
  | .local _ .vmem, ⟨14, _⟩ => ⟨S8x1x512, .f32⟩
  | .local _ .vmem, ⟨15, _⟩ => ⟨S8x1x512, .f32⟩
  | .local _ .vmem, ⟨16, _⟩ => ⟨S8x1x512, .f32⟩
  | .local _ .vmem, ⟨17, _⟩ => ⟨S8x1x512, .i32⟩
  | .local _ .vmem, ⟨18, _⟩ => ⟨S8x1x512, .i32⟩
  | .local _ .vmem, ⟨19, _⟩ => ⟨S8x1x512, .i32⟩
  | .local _ .vmem, ⟨20, _⟩ => ⟨S8x1x512, .i32⟩
  | .local _ .vmem, ⟨21, _⟩ => ⟨S9x196x512, .f32⟩
  | .local _ .vmem, ⟨22, _⟩ => ⟨S128x25088, .f32⟩
  | .local _ .vmem, ⟨23, _⟩ => ⟨S25088x10, .f32⟩
  | .local _ .vmem, ⟨24, _⟩ => ⟨S1x10, .f32⟩
  | .local _ .vmem, ⟨25, _⟩ => ⟨S1x128, .f32⟩
  | .local _ .vmem, ⟨26, _⟩ => ⟨S128x512, .f32⟩
  | .local _ .vmem, ⟨27, _⟩ => ⟨S128x512, .f32⟩
  | .local _ .vmem, ⟨28, _⟩ => ⟨S10x512, .f32⟩
  | .local _ .vmem, ⟨29, _⟩ => ⟨S10x512, .f32⟩
  | .local _ .vmem, ⟨30, _⟩ => ⟨S10x1, .f32⟩
  | .local _ .vmem, ⟨31, _⟩ => ⟨S10x1, .f32⟩
  | .local _ .vmem, ⟨32, _⟩ => ⟨S128x10, .f32⟩
  | .local _ .vmem, ⟨33, _⟩ => ⟨S1x512, .i32⟩
  | .local _ .vmem, ⟨34, _⟩ => ⟨S1x512, .i32⟩
  | _, _ => ⟨S128x14x14x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75_0 : Ref sig .tc := ⟨.hbm, 94, rfl⟩
abbrev main_v75_1 : Ref sig .tc := ⟨.hbm, 95, rfl⟩
abbrev main_v75_2 : Ref sig .tc := ⟨.hbm, 96, rfl⟩
abbrev main_v75_3 : Ref sig .tc := ⟨.hbm, 97, rfl⟩
abbrev main_v75_4 : Ref sig .tc := ⟨.hbm, 98, rfl⟩
abbrev main_v75_5 : Ref sig .tc := ⟨.hbm, 99, rfl⟩
abbrev main_v75_6 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86_0 : Ref sig .tc := ⟨.hbm, 111, rfl⟩
abbrev main_v86_1 : Ref sig .tc := ⟨.hbm, 112, rfl⟩
abbrev main_v86_2 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x196x196 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x196x196 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x49x196 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x196x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x196x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x49x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := .none

abbrev stage1_0 : Fin 1 → Memref sig .tc .vmem S128x25088 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S25088x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S10x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S10x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S10x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S10x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x512 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x512 .i32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== KernelIdeal.lean ====
variable {F : FTy → Type} [FloatOps F] [Named F]
def κ : String → Option EReal := fun
  | "inv_hw" => some ((1 / 196 : ℝ) : EReal)
  | _ => none
-- ==== ReferenceIdeal.lean ====
abbrev S128x14x14x512 : Shape := ⟨4, ![128, 14, 14, 512]⟩
abbrev S128 : Shape := ⟨1, ![128]⟩
abbrev S3x3x512x512 : Shape := ⟨4, ![3, 3, 512, 512]⟩
abbrev S512 : Shape := ⟨1, ![512]⟩
abbrev S25088x10 : Shape := ⟨2, ![25088, 10]⟩
abbrev S10 : Shape := ⟨1, ![10]⟩
abbrev S512x10 : Shape := ⟨2, ![512, 10]⟩
abbrev S14 : Shape := ⟨1, ![14]⟩
abbrev S14x1x1x1 : Shape := ⟨4, ![14, 1, 1, 1]⟩
abbrev S1x1x14x1 : Shape := ⟨4, ![1, 1, 14, 1]⟩
abbrev S14x1x14x1 : Shape := ⟨4, ![14, 1, 14, 1]⟩
abbrev S1x14x1x1 : Shape := ⟨4, ![1, 14, 1, 1]⟩
abbrev S1x1x1x14 : Shape := ⟨4, ![1, 1, 1, 14]⟩
abbrev S1x14x1x14 : Shape := ⟨4, ![1, 14, 1, 14]⟩
abbrev S14x14x14x14 : Shape := ⟨4, ![14, 14, 14, 14]⟩
abbrev S_ : Shape := ⟨0, ![]⟩
abbrev S128x196x512 : Shape := ⟨3, ![128, 196, 512]⟩
abbrev S128x512 : Shape := ⟨2, ![128, 512]⟩
abbrev S128x512x1 : Shape := ⟨3, ![128, 512, 1]⟩
abbrev S128x512x2 : Shape := ⟨3, ![128, 512, 2]⟩
abbrev S128x512x14x14 : Shape := ⟨4, ![128, 512, 14, 14]⟩
abbrev S128x16x16x512 : Shape := ⟨4, ![128, 16, 16, 512]⟩
abbrev S1x1x512x512 : Shape := ⟨4, ![1, 1, 512, 512]⟩
abbrev S512x512 : Shape := ⟨2, ![512, 512]⟩
abbrev S1x1x1x512 : Shape := ⟨4, ![1, 1, 1, 512]⟩
abbrev S128x7x7x512 : Shape := ⟨4, ![128, 7, 7, 512]⟩
abbrev S128x49x512 : Shape := ⟨3, ![128, 49, 512]⟩
abbrev S128x1x512 : Shape := ⟨3, ![128, 1, 512]⟩
abbrev S128x25088 : Shape := ⟨2, ![128, 25088]⟩
abbrev S128x10 : Shape := ⟨2, ![128, 10]⟩
abbrev S1x10 : Shape := ⟨2, ![1, 10]⟩
abbrev S128x1 : Shape := ⟨2, ![128, 1]⟩
abbrev S512x128 : Shape := ⟨2, ![512, 128]⟩
abbrev S1x512 : Shape := ⟨2, ![1, 512]⟩

abbrev nBuf : Space → Nat
  | .hbm => 352
  | .vmem => 0
  | .smem => 0
  | _ => 0

abbrev hbmTy0_0 (i : Nat) : BufTy := match i % 128 with
  | 0 => ⟨S128x14x14x512, .f32⟩
  | 1 => ⟨S128, .i32⟩
  | 2 => ⟨S3x3x512x512, .f32⟩
  | 3 => ⟨S512, .f32⟩
  | 4 => ⟨S25088x10, .f32⟩
  | 5 => ⟨S10, .f32⟩
  | 6 => ⟨S512x10, .f32⟩
  | 7 => ⟨S512x10, .f32⟩
  | 8 => ⟨S10, .f32⟩
  | 9 => ⟨S10, .f32⟩
  | 10 => ⟨S14, .f32⟩
  | 11 => ⟨S14x1x1x1, .f32⟩
  | 12 => ⟨S1x1x14x1, .f32⟩
  | 13 => ⟨S14x1x14x1, .f32⟩
  | 14 => ⟨S14x1x14x1, .f32⟩
  | 15 => ⟨S14x1x14x1, .f32⟩
  | 16 => ⟨S14x1x14x1, .f32⟩
  | 17 => ⟨S1x14x1x1, .f32⟩
  | 18 => ⟨S1x1x1x14, .f32⟩
  | 19 => ⟨S1x14x1x14, .f32⟩
  | 20 => ⟨S1x14x1x14, .f32⟩
  | 21 => ⟨S1x14x1x14, .f32⟩
  | 22 => ⟨S1x14x1x14, .f32⟩
  | 23 => ⟨S14x14x14x14, .f32⟩
  | 24 => ⟨S14x14x14x14, .f32⟩
  | 25 => ⟨S14x14x14x14, .f32⟩
  | 26 => ⟨S_, .f32⟩
  | 27 => ⟨S14x14x14x14, .f32⟩
  | 28 => ⟨S14x14x14x14, .f32⟩
  | 29 => ⟨S_, .f32⟩
  | 30 => ⟨S14x14x14x14, .f32⟩
  | 31 => ⟨S14x14x14x14, .f32⟩
  | 32 => ⟨S_, .f32⟩
  | 33 => ⟨S14x14x14x14, .f32⟩
  | 34 => ⟨S14x14x14x14, .f32⟩
  | 35 => ⟨S_, .f32⟩
  | 36 => ⟨S14x14x14x14, .f32⟩
  | 37 => ⟨S14x14x14x14, .f32⟩
  | 38 => ⟨S_, .f32⟩
  | 39 => ⟨S14x14x14x14, .f32⟩
  | 40 => ⟨S14x14x14x14, .f32⟩
  | 41 => ⟨S128x196x512, .f32⟩
  | 42 => ⟨S128x196x512, .i32⟩
  | 43 => ⟨S_, .f32⟩
  | 44 => ⟨S_, .i32⟩
  | 45 => ⟨S128x512, .f32⟩
  | 46 => ⟨S128x512, .i32⟩
  | 47 => ⟨S_, .i32⟩
  | 48 => ⟨S_, .i32⟩
  | 49 => ⟨S128x512, .i32⟩
  | 50 => ⟨S128x512, .i32⟩
  | 51 => ⟨S128x512, .i32⟩
  | 52 => ⟨S_, .i32⟩
  | 53 => ⟨S128x512, .i32⟩
  | 54 => ⟨S128x512, .i1⟩
  | 55 => ⟨S128x512, .i32⟩
  | 56 => ⟨S128x512, .i32⟩
  | 57 => ⟨S_, .i32⟩
  | 58 => ⟨S128x512, .i32⟩
  | 59 => ⟨S128x512, .i1⟩
  | 60 => ⟨S128x512, .i1⟩
  | 61 => ⟨S_, .i32⟩
  | 62 => ⟨S128x512, .i32⟩
  | 63 => ⟨S128x512, .i32⟩
  | 64 => ⟨S128x512, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128x512, .i32⟩
  | 72 => ⟨S128x512, .i32⟩
  | 73 => ⟨S_, .i32⟩
  | 74 => ⟨S128x512, .i32⟩
  | 75 => ⟨S128x512, .i1⟩
  | 76 => ⟨S_, .i32⟩
  | 77 => ⟨S128x512, .i32⟩
  | 78 => ⟨S128x512, .i1⟩
  | 79 => ⟨S_, .i32⟩
  | 80 => ⟨S_, .i1⟩
  | 81 => ⟨S128x512, .i1⟩
  | 82 => ⟨S128x512, .i1⟩
  | 83 => ⟨S128x512, .i1⟩
  | 84 => ⟨S128x512, .i32⟩
  | 85 => ⟨S128x512, .i32⟩
  | 86 => ⟨S128x512, .i32⟩
  | 87 => ⟨S_, .i32⟩
  | 88 => ⟨S128x512, .i32⟩
  | 89 => ⟨S128x512, .i1⟩
  | 90 => ⟨S_, .i32⟩
  | 91 => ⟨S128x512, .i32⟩
  | 92 => ⟨S128x512, .i32⟩
  | 93 => ⟨S128x512, .i32⟩
  | 94 => ⟨S_, .i32⟩
  | 95 => ⟨S128x512, .i32⟩
  | 96 => ⟨S128x512, .i1⟩
  | 97 => ⟨S_, .i32⟩
  | 98 => ⟨S128x512, .i32⟩
  | 99 => ⟨S128x512, .i32⟩
  | 100 => ⟨S128x512, .i32⟩
  | 101 => ⟨S128x512x1, .i32⟩
  | 102 => ⟨S128x512x1, .i32⟩
  | 103 => ⟨S128x512x2, .i32⟩
  | 104 => ⟨S128x512x14x14, .f32⟩
  | 105 => ⟨S128x14x14x512, .f32⟩
  | 106 => ⟨S128x14x14x512, .f32⟩
  | 107 => ⟨S_, .f32⟩
  | 108 => ⟨S128x14x14x512, .f32⟩
  | 109 => ⟨S128x14x14x512, .f32⟩
  | 110 => ⟨S_, .i32⟩
  | 111 => ⟨S_, .f32⟩
  | 112 => ⟨S128x16x16x512, .f32⟩
  | 113 => ⟨S128x14x14x512, .f32⟩
  | 114 => ⟨S1x1x512x512, .f32⟩
  | 115 => ⟨S512x512, .f32⟩
  | 116 => ⟨S128x14x14x512, .f32⟩
  | 117 => ⟨S_, .f32⟩
  | 118 => ⟨S128x14x14x512, .f32⟩
  | 119 => ⟨S128x14x14x512, .f32⟩
  | 120 => ⟨S128x14x14x512, .f32⟩
  | 121 => ⟨S1x1x512x512, .f32⟩
  | 122 => ⟨S512x512, .f32⟩
  | 123 => ⟨S128x14x14x512, .f32⟩
  | 124 => ⟨S128x14x14x512, .f32⟩
  | 125 => ⟨S128x14x14x512, .f32⟩
  | 126 => ⟨S1x1x512x512, .f32⟩
  | 127 => ⟨S512x512, .f32⟩
  | _ => ⟨S128x14x14x512, .f32⟩

abbrev hbmTy0_1 (i : Nat) : BufTy := match i % 128 with
  | 0 => ⟨S128x14x14x512, .f32⟩
  | 1 => ⟨S128x14x14x512, .f32⟩
  | 2 => ⟨S128x14x14x512, .f32⟩
  | 3 => ⟨S1x1x512x512, .f32⟩
  | 4 => ⟨S512x512, .f32⟩
  | 5 => ⟨S128x14x14x512, .f32⟩
  | 6 => ⟨S128x14x14x512, .f32⟩
  | 7 => ⟨S128x14x14x512, .f32⟩
  | 8 => ⟨S1x1x512x512, .f32⟩
  | 9 => ⟨S512x512, .f32⟩
  | 10 => ⟨S128x14x14x512, .f32⟩
  | 11 => ⟨S128x14x14x512, .f32⟩
  | 12 => ⟨S128x14x14x512, .f32⟩
  | 13 => ⟨S1x1x512x512, .f32⟩
  | 14 => ⟨S512x512, .f32⟩
  | 15 => ⟨S128x14x14x512, .f32⟩
  | 16 => ⟨S128x14x14x512, .f32⟩
  | 17 => ⟨S128x14x14x512, .f32⟩
  | 18 => ⟨S1x1x512x512, .f32⟩
  | 19 => ⟨S512x512, .f32⟩
  | 20 => ⟨S128x14x14x512, .f32⟩
  | 21 => ⟨S128x14x14x512, .f32⟩
  | 22 => ⟨S128x14x14x512, .f32⟩
  | 23 => ⟨S1x1x512x512, .f32⟩
  | 24 => ⟨S512x512, .f32⟩
  | 25 => ⟨S128x14x14x512, .f32⟩
  | 26 => ⟨S128x14x14x512, .f32⟩
  | 27 => ⟨S128x14x14x512, .f32⟩
  | 28 => ⟨S1x1x512x512, .f32⟩
  | 29 => ⟨S512x512, .f32⟩
  | 30 => ⟨S128x14x14x512, .f32⟩
  | 31 => ⟨S128x14x14x512, .f32⟩
  | 32 => ⟨S1x1x1x512, .f32⟩
  | 33 => ⟨S128x14x14x512, .f32⟩
  | 34 => ⟨S128x14x14x512, .f32⟩
  | 35 => ⟨S_, .f32⟩
  | 36 => ⟨S128x14x14x512, .f32⟩
  | 37 => ⟨S128x14x14x512, .f32⟩
  | 38 => ⟨S128x196x512, .f32⟩
  | 39 => ⟨S128x196x512, .i32⟩
  | 40 => ⟨S_, .f32⟩
  | 41 => ⟨S_, .i32⟩
  | 42 => ⟨S128x512, .f32⟩
  | 43 => ⟨S128x512, .i32⟩
  | 44 => ⟨S_, .i32⟩
  | 45 => ⟨S_, .i32⟩
  | 46 => ⟨S128x512, .i32⟩
  | 47 => ⟨S128x512, .i32⟩
  | 48 => ⟨S128x512, .i32⟩
  | 49 => ⟨S_, .i32⟩
  | 50 => ⟨S128x512, .i32⟩
  | 51 => ⟨S128x512, .i1⟩
  | 52 => ⟨S128x512, .i32⟩
  | 53 => ⟨S128x512, .i32⟩
  | 54 => ⟨S_, .i32⟩
  | 55 => ⟨S128x512, .i32⟩
  | 56 => ⟨S128x512, .i1⟩
  | 57 => ⟨S128x512, .i1⟩
  | 58 => ⟨S_, .i32⟩
  | 59 => ⟨S128x512, .i32⟩
  | 60 => ⟨S128x512, .i32⟩
  | 61 => ⟨S128x512, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S128x512, .i32⟩
  | 69 => ⟨S128x512, .i32⟩
  | 70 => ⟨S_, .i32⟩
  | 71 => ⟨S128x512, .i32⟩
  | 72 => ⟨S128x512, .i1⟩
  | 73 => ⟨S_, .i32⟩
  | 74 => ⟨S128x512, .i32⟩
  | 75 => ⟨S128x512, .i1⟩
  | 76 => ⟨S_, .i32⟩
  | 77 => ⟨S_, .i1⟩
  | 78 => ⟨S128x512, .i1⟩
  | 79 => ⟨S128x512, .i1⟩
  | 80 => ⟨S128x512, .i1⟩
  | 81 => ⟨S128x512, .i32⟩
  | 82 => ⟨S128x512, .i32⟩
  | 83 => ⟨S128x512, .i32⟩
  | 84 => ⟨S_, .i32⟩
  | 85 => ⟨S128x512, .i32⟩
  | 86 => ⟨S128x512, .i1⟩
  | 87 => ⟨S_, .i32⟩
  | 88 => ⟨S128x512, .i32⟩
  | 89 => ⟨S128x512, .i32⟩
  | 90 => ⟨S128x512, .i32⟩
  | 91 => ⟨S_, .i32⟩
  | 92 => ⟨S128x512, .i32⟩
  | 93 => ⟨S128x512, .i1⟩
  | 94 => ⟨S_, .i32⟩
  | 95 => ⟨S128x512, .i32⟩
  | 96 => ⟨S128x512, .i32⟩
  | 97 => ⟨S128x512, .i32⟩
  | 98 => ⟨S128x512x1, .i32⟩
  | 99 => ⟨S128x512x1, .i32⟩
  | 100 => ⟨S128x512x2, .i32⟩
  | 101 => ⟨S128x512x14x14, .f32⟩
  | 102 => ⟨S128x14x14x512, .f32⟩
  | 103 => ⟨S128x14x14x512, .f32⟩
  | 104 => ⟨S_, .f32⟩
  | 105 => ⟨S128x14x14x512, .f32⟩
  | 106 => ⟨S128x14x14x512, .f32⟩
  | 107 => ⟨S_, .f32⟩
  | 108 => ⟨S_, .f32⟩
  | 109 => ⟨S128x7x7x512, .f32⟩
  | 110 => ⟨S128x196x512, .f32⟩
  | 111 => ⟨S128x196x512, .f32⟩
  | 112 => ⟨S128x49x512, .f32⟩
  | 113 => ⟨S_, .f32⟩
  | 114 => ⟨S128x512, .f32⟩
  | 115 => ⟨S_, .f32⟩
  | 116 => ⟨S128x512, .f32⟩
  | 117 => ⟨S128x512, .f32⟩
  | 118 => ⟨S128x1x512, .f32⟩
  | 119 => ⟨S_, .f32⟩
  | 120 => ⟨S128x512, .f32⟩
  | 121 => ⟨S_, .f32⟩
  | 122 => ⟨S128x512, .f32⟩
  | 123 => ⟨S128x512, .f32⟩
  | 124 => ⟨S128x1x512, .f32⟩
  | 125 => ⟨S128x1x512, .i32⟩
  | 126 => ⟨S128x1x512, .i32⟩
  | 127 => ⟨S128x25088, .f32⟩
  | _ => ⟨S128x14x14x512, .f32⟩

abbrev hbmTy0_2 (i : Nat) : BufTy := match i % 128 with
  | 0 => ⟨S128x10, .f32⟩
  | 1 => ⟨S1x10, .f32⟩
  | 2 => ⟨S128x10, .f32⟩
  | 3 => ⟨S128x10, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x10, .f32⟩
  | 11 => ⟨S128x10, .f32⟩
  | 12 => ⟨S128x10, .f32⟩
  | 13 => ⟨S_, .f32⟩
  | 14 => ⟨S128, .f32⟩
  | 15 => ⟨S128x1, .f32⟩
  | 16 => ⟨S128x10, .f32⟩
  | 17 => ⟨S128x10, .f32⟩
  | 18 => ⟨S128x512, .f32⟩
  | 19 => ⟨S128x1, .i32⟩
  | 20 => ⟨S1x10, .i32⟩
  | 21 => ⟨S128x10, .i32⟩
  | 22 => ⟨S128x10, .i32⟩
  | 23 => ⟨S128x10, .i1⟩
  | 24 => ⟨S128x10, .f32⟩
  | 25 => ⟨S_, .f32⟩
  | 26 => ⟨S10, .f32⟩
  | 27 => ⟨S10, .f32⟩
  | 28 => ⟨S512x128, .f32⟩
  | 29 => ⟨S512x10, .f32⟩
  | 30 => ⟨S512x10, .f32⟩
  | 31 => ⟨S1x10, .f32⟩
  | 32 => ⟨S_, .f32⟩
  | 33 => ⟨S1x10, .f32⟩
  | 34 => ⟨S1x10, .i1⟩
  | 35 => ⟨S1x10, .f32⟩
  | 36 => ⟨S_, .f32⟩
  | 37 => ⟨S1x10, .f32⟩
  | 38 => ⟨S1x10, .i1⟩
  | 39 => ⟨S1x10, .f32⟩
  | 40 => ⟨S_, .f32⟩
  | 41 => ⟨S_, .f32⟩
  | 42 => ⟨S1x10, .f32⟩
  | 43 => ⟨S1x10, .f32⟩
  | 44 => ⟨S512x10, .f32⟩
  | 45 => ⟨S512x10, .f32⟩
  | 46 => ⟨S_, .f32⟩
  | 47 => ⟨S_, .f32⟩
  | 48 => ⟨S512x10, .i1⟩
  | 49 => ⟨S512x10, .f32⟩
  | 50 => ⟨S512x10, .f32⟩
  | 51 => ⟨S512x10, .i32⟩
  | 52 => ⟨S_, .f32⟩
  | 53 => ⟨S_, .i32⟩
  | 54 => ⟨S512, .f32⟩
  | 55 => ⟨S512, .i32⟩
  | 56 => ⟨S1x512, .i32⟩
  | 57 => ⟨S128x512, .f32⟩
  | 58 => ⟨S128x1, .i32⟩
  | 59 => ⟨S1x10, .i32⟩
  | 60 => ⟨S128x10, .i32⟩
  | 61 => ⟨S128x10, .i32⟩
  | 62 => ⟨S128x10, .i1⟩
  | 63 => ⟨S128x10, .f32⟩
  | 64 => ⟨S_, .f32⟩
  | 65 => ⟨S10, .f32⟩
  | 66 => ⟨S10, .f32⟩
  | 67 => ⟨S512x128, .f32⟩
  | 68 => ⟨S512x10, .f32⟩
  | 69 => ⟨S512x10, .f32⟩
  | 70 => ⟨S1x10, .f32⟩
  | 71 => ⟨S_, .f32⟩
  | 72 => ⟨S1x10, .f32⟩
  | 73 => ⟨S1x10, .i1⟩
  | 74 => ⟨S1x10, .f32⟩
  | 75 => ⟨S_, .f32⟩
  | 76 => ⟨S1x10, .f32⟩
  | 77 => ⟨S1x10, .i1⟩
  | 78 => ⟨S1x10, .f32⟩
  | 79 => ⟨S_, .f32⟩
  | 80 => ⟨S_, .f32⟩
  | 81 => ⟨S1x10, .f32⟩
  | 82 => ⟨S1x10, .f32⟩
  | 83 => ⟨S512x10, .f32⟩
  | 84 => ⟨S512x10, .f32⟩
  | 85 => ⟨S_, .f32⟩
  | 86 => ⟨S_, .f32⟩
  | 87 => ⟨S512x10, .i1⟩
  | 88 => ⟨S512x10, .f32⟩
  | 89 => ⟨S512x10, .f32⟩
  | 90 => ⟨S512x10, .i32⟩
  | 91 => ⟨S_, .f32⟩
  | 92 => ⟨S_, .i32⟩
  | 93 => ⟨S512, .f32⟩
  | 94 => ⟨S512, .i32⟩
  | 95 => ⟨S1x512, .i32⟩
  | _ => ⟨S128x14x14x512, .f32⟩

abbrev hbmTy (i : Nat) : BufTy := match i / 128 with
  | 0 => hbmTy0_0 i
  | 1 => hbmTy0_1 i
  | 2 => hbmTy0_2 i
  | _ => ⟨S128x14x14x512, .f32⟩

abbrev bufTy : (tb : Table) → Fin (tcTables nBuf tb) → BufTy
  | .hbm, ⟨i, _⟩ => hbmTy i
  | _, _ => ⟨S128x14x14x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_cst : Ref sig .tc := ⟨.hbm, 43, rfl⟩
abbrev main_call0_c : Ref sig .tc := ⟨.hbm, 44, rfl⟩
abbrev main_call0_v1_0 : Ref sig .tc := ⟨.hbm, 45, rfl⟩
abbrev main_v27 : Ref sig .tc := ⟨.hbm, 46, rfl⟩
abbrev main_c : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v28 : Ref sig .tc := ⟨.hbm, 64, rfl⟩
abbrev main_c_4 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v29 : Ref sig .tc := ⟨.hbm, 86, rfl⟩
abbrev main_c_5 : Ref sig .tc := ⟨.hbm, 87, rfl⟩
abbrev main_v30 : Ref sig .tc := ⟨.hbm, 88, rfl⟩
abbrev main_v31 : Ref sig .tc := ⟨.hbm, 89, rfl⟩
abbrev main_c_6 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_c_7 : Ref sig .tc := ⟨.hbm, 94, rfl⟩
abbrev main_v35 : Ref sig .tc := ⟨.hbm, 95, rfl⟩
abbrev main_v36 : Ref sig .tc := ⟨.hbm, 96, rfl⟩
abbrev main_c_8 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_call3_cst : Ref sig .tc := ⟨.hbm, 107, rfl⟩
abbrev main_call3_v0 : Ref sig .tc := ⟨.hbm, 108, rfl⟩
abbrev main_v46 : Ref sig .tc := ⟨.hbm, 109, rfl⟩
abbrev main_c_9 : Ref sig .tc := ⟨.hbm, 110, rfl⟩
abbrev main_call4_v0 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_cst_10 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_call5_cst : Ref sig .tc := ⟨.hbm, 163, rfl⟩
abbrev main_call5_v0 : Ref sig .tc := ⟨.hbm, 164, rfl⟩
abbrev main_v97 : Ref sig .tc := ⟨.hbm, 165, rfl⟩
abbrev main_v98 : Ref sig .tc := ⟨.hbm, 166, rfl⟩
abbrev main_call6_v0 : Ref sig .tc := ⟨.hbm, 167, rfl⟩
abbrev main_call6_cst : Ref sig .tc := ⟨.hbm, 168, rfl⟩
abbrev main_call6_c : Ref sig .tc := ⟨.hbm, 169, rfl⟩
abbrev main_call6_v1_0 : Ref sig .tc := ⟨.hbm, 170, rfl⟩
abbrev main_v99 : Ref sig .tc := ⟨.hbm, 171, rfl⟩
abbrev main_c_11 : Ref sig .tc := ⟨.hbm, 172, rfl⟩
abbrev main_call7_v0 : Ref sig .tc := ⟨.hbm, 173, rfl⟩
abbrev main_call7_v1 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_call7_v5 : Ref sig .tc := ⟨.hbm, 178, rfl⟩
abbrev main_call7_v6 : Ref sig .tc := ⟨.hbm, 179, rfl⟩
abbrev main_call7_v7 : Ref sig .tc := ⟨.hbm, 180, rfl⟩
abbrev main_call7_v8 : Ref sig .tc := ⟨.hbm, 181, rfl⟩
abbrev main_call7_c : Ref sig .tc := ⟨.hbm, 182, rfl⟩
abbrev main_call7_v9 : Ref sig .tc := ⟨.hbm, 183, rfl⟩
abbrev main_call7_v10 : Ref sig .tc := ⟨.hbm, 184, rfl⟩
abbrev main_call7_v11 : Ref sig .tc := ⟨.hbm, 185, rfl⟩
abbrev main_call7_c_0 : Ref sig .tc := ⟨.hbm, 186, rfl⟩
abbrev main_call7_v12 : Ref sig .tc := ⟨.hbm, 187, rfl⟩
abbrev main_call7_v13 : Ref sig .tc := ⟨.hbm, 188, rfl⟩
abbrev main_v100 : Ref sig .tc := ⟨.hbm, 189, rfl⟩
abbrev main_c_12 : Ref sig .tc := ⟨.hbm, 190, rfl⟩
abbrev main_call8_v0 : Ref sig .tc := ⟨.hbm, 191, rfl⟩
abbrev main_call8_c : Ref sig .tc := ⟨.hbm, 192, rfl⟩
abbrev main_call8_v1 : Ref sig .tc := ⟨.hbm, 193, rfl⟩
abbrev main_call8_c_0 : Ref sig .tc := ⟨.hbm, 194, rfl⟩
abbrev main_call8_v2 : Ref sig .tc := ⟨.hbm, 195, rfl⟩
abbrev main_call8_v3 : Ref sig .tc := ⟨.hbm, 196, rfl⟩
abbrev main_call8_v4 : Ref sig .tc := ⟨.hbm, 197, rfl⟩
abbrev main_call8_c_1 : Ref sig .tc := ⟨.hbm, 198, rfl⟩
abbrev main_call8_v5 : Ref sig .tc := ⟨.hbm, 199, rfl⟩
abbrev main_call8_v6 : Ref sig .tc := ⟨.hbm, 200, rfl⟩
abbrev main_call8_c_2 : Ref sig .tc := ⟨.hbm, 201, rfl⟩
abbrev main_call8_v7 : Ref sig .tc := ⟨.hbm, 202, rfl⟩
abbrev main_call8_v8 : Ref sig .tc := ⟨.hbm, 203, rfl⟩
abbrev main_call8_c_3 : Ref sig .tc := ⟨.hbm, 204, rfl⟩
abbrev main_call8_v9 : Ref sig .tc := ⟨.hbm, 205, rfl⟩
abbrev main_call8_v10 : Ref sig .tc := ⟨.hbm, 206, rfl⟩
abbrev main_call8_v11 : Ref sig .tc := ⟨.hbm, 207, rfl⟩
abbrev main_call8_v12 : Ref sig .tc := ⟨.hbm, 208, rfl⟩
abbrev main_call8_v13 : Ref sig .tc := ⟨.hbm, 209, rfl⟩
abbrev main_call8_v14 : Ref sig .tc := ⟨.hbm, 210, rfl⟩
abbrev main_v101 : Ref sig .tc := ⟨.hbm, 211, rfl⟩
abbrev main_c_13 : Ref sig .tc := ⟨.hbm, 212, rfl⟩
abbrev main_v102 : Ref sig .tc := ⟨.hbm, 213, rfl⟩
abbrev main_v103 : Ref sig .tc := ⟨.hbm, 214, rfl⟩
abbrev main_c_14 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_c_15 : Ref sig .tc := ⟨.hbm, 219, rfl⟩
abbrev main_v107 : Ref sig .tc := ⟨.hbm, 220, rfl⟩
abbrev main_v108 : Ref sig .tc := ⟨.hbm, 221, rfl⟩
abbrev main_c_16 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_call9_cst : Ref sig .tc := ⟨.hbm, 232, rfl⟩
abbrev main_call9_v0 : Ref sig .tc := ⟨.hbm, 233, rfl⟩
abbrev main_v118 : Ref sig .tc := ⟨.hbm, 234, rfl⟩
abbrev main_cst_17 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_cst_18 : Ref sig .tc := ⟨.hbm, 241, rfl⟩
abbrev main_v124 : Ref sig .tc := ⟨.hbm, 242, rfl⟩
abbrev main_cst_19 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_cst_20 : Ref sig .tc := ⟨.hbm, 247, rfl⟩
abbrev main_v128 : Ref sig .tc := ⟨.hbm, 248, rfl⟩
abbrev main_cst_21 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_cst_22 : Ref sig .tc := ⟨.hbm, 260, rfl⟩
abbrev main_v139 : Ref sig .tc := ⟨.hbm, 261, rfl⟩
abbrev main_cst_23 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_cst_24 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_v151 : Ref sig .tc := ⟨.hbm, 280, rfl⟩
abbrev main_cst_25 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_cst_26 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_cst_27 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_cst_28 : Ref sig .tc := ⟨.hbm, 296, rfl⟩
abbrev main_call11_v0 : Ref sig .tc := ⟨.hbm, 297, rfl⟩
abbrev main_call11_v1 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_cst_29 : Ref sig .tc := ⟨.hbm, 302, rfl⟩
abbrev main_call12_v0 : Ref sig .tc := ⟨.hbm, 303, rfl⟩
abbrev main_call12_v1 : Ref sig .tc := ⟨.hbm, 304, rfl⟩
abbrev main_call12_v2 : Ref sig .tc := ⟨.hbm, 305, rfl⟩
abbrev main_v167 : Ref sig .tc := ⟨.hbm, 306, rfl⟩
abbrev main_call13_v0 : Ref sig .tc := ⟨.hbm, 307, rfl⟩
abbrev main_call13_cst : Ref sig .tc := ⟨.hbm, 308, rfl⟩
abbrev main_call13_c : Ref sig .tc := ⟨.hbm, 309, rfl⟩
abbrev main_call13_v1_0 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_call14_v0 : Ref sig .tc := ⟨.hbm, 314, rfl⟩
abbrev main_call14_v1 : Ref sig .tc := ⟨.hbm, 315, rfl⟩
abbrev main_call14_v2 : Ref sig .tc := ⟨.hbm, 316, rfl⟩
abbrev main_call14_v3 : Ref sig .tc := ⟨.hbm, 317, rfl⟩
abbrev main_call14_v4 : Ref sig .tc := ⟨.hbm, 318, rfl⟩
abbrev main_v171 : Ref sig .tc := ⟨.hbm, 319, rfl⟩
abbrev main_cst_30 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_v176 : Ref sig .tc := ⟨.hbm, 325, rfl⟩
abbrev main_v177 : Ref sig .tc := ⟨.hbm, 326, rfl⟩
abbrev main_cst_31 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_cst_32 : Ref sig .tc := ⟨.hbm, 331, rfl⟩
abbrev main_v181 : Ref sig .tc := ⟨.hbm, 332, rfl⟩
abbrev main_v182 : Ref sig .tc := ⟨.hbm, 333, rfl⟩
abbrev main_v183 : Ref sig .tc := ⟨.hbm, 334, rfl⟩
abbrev main_cst_33 : Ref sig .tc := ⟨.hbm, 335, rfl⟩
abbrev main_call15_v0 : Ref sig .tc := ⟨.hbm, 336, rfl⟩
abbrev main_call15_v1 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_cst_34 : Ref sig .tc := ⟨.hbm, 341, rfl⟩
abbrev main_call16_v0 : Ref sig .tc := ⟨.hbm, 342, rfl⟩
abbrev main_call16_v1 : Ref sig .tc := ⟨.hbm, 343, rfl⟩
abbrev main_call16_v2 : Ref sig .tc := ⟨.hbm, 344, rfl⟩
abbrev main_v187 : Ref sig .tc := ⟨.hbm, 345, rfl⟩
abbrev main_call17_v0 : Ref sig .tc := ⟨.hbm, 346, rfl⟩
abbrev main_call17_cst : Ref sig .tc := ⟨.hbm, 347, rfl⟩
abbrev main_call17_c : Ref sig .tc := ⟨.hbm, 348, rfl⟩
abbrev main_call17_v1_0 : Ref sig .tc := ⟨.hbm, 349, rfl⟩
abbrev main_v188 : Ref sig .tc := ⟨.hbm, 350, rfl⟩
abbrev main_v189 : Ref sig .tc := ⟨.hbm, 351, rfl⟩

abbrev nD : Nat := 1
abbrev τ : Topo := Topo.v7x

variable {F : FTy → Type} [FloatOps F]
-- ==== Kernel2.lean ====
abbrev S128x49x512 : Shape := ⟨3, ![128, 49, 512]⟩
abbrev S128 : Shape := ⟨1, ![128]⟩
abbrev S128x1x512 : Shape := ⟨3, ![128, 1, 512]⟩
abbrev S25088x10 : Shape := ⟨2, ![25088, 10]⟩
abbrev S10 : Shape := ⟨1, ![10]⟩
abbrev S512x10 : Shape := ⟨2, ![512, 10]⟩
abbrev S128x25088 : Shape := ⟨2, ![128, 25088]⟩
abbrev S1x10 : Shape := ⟨2, ![1, 10]⟩
abbrev S1x128 : Shape := ⟨2, ![1, 128]⟩
abbrev S128x512 : Shape := ⟨2, ![128, 512]⟩
abbrev S10x512 : Shape := ⟨2, ![10, 512]⟩
abbrev S10x1 : Shape := ⟨2, ![10, 1]⟩
abbrev S128x10 : Shape := ⟨2, ![128, 10]⟩
abbrev S1x512 : Shape := ⟨2, ![1, 512]⟩
abbrev S128x1 : Shape := ⟨2, ![128, 1]⟩
abbrev S10x128 : Shape := ⟨2, ![10, 128]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S128x49x512, .f32⟩
  | .hbm, ⟨1, _⟩ => ⟨S128, .i32⟩
  | .hbm, ⟨2, _⟩ => ⟨S128x1x512, .f32⟩
  | .hbm, ⟨3, _⟩ => ⟨S128x1x512, .f32⟩
  | .hbm, ⟨4, _⟩ => ⟨S25088x10, .f32⟩
  | .hbm, ⟨5, _⟩ => ⟨S10, .f32⟩
  | .hbm, ⟨6, _⟩ => ⟨S512x10, .f32⟩
  | .hbm, ⟨7, _⟩ => ⟨S512x10, .f32⟩
  | .hbm, ⟨8, _⟩ => ⟨S10, .f32⟩
  | .hbm, ⟨9, _⟩ => ⟨S10, .f32⟩
  | .hbm, ⟨10, _⟩ => ⟨S128x25088, .f32⟩
  | .hbm, ⟨11, _⟩ => ⟨S1x10, .f32⟩
  | .hbm, ⟨12, _⟩ => ⟨S128, .f32⟩
  | .hbm, ⟨13, _⟩ => ⟨S1x128, .f32⟩
  | .hbm, ⟨14, _⟩ => ⟨S128x512, .f32⟩
  | .hbm, ⟨15, _⟩ => ⟨S128x512, .f32⟩
  | .hbm, ⟨16, _⟩ => ⟨S10x512, .f32⟩
  | .hbm, ⟨17, _⟩ => ⟨S10x512, .f32⟩
  | .hbm, ⟨18, _⟩ => ⟨S10x1, .f32⟩
  | .hbm, ⟨19, _⟩ => ⟨S10x1, .f32⟩
  | .hbm, ⟨20, _⟩ => ⟨S128x10, .f32⟩
  | .hbm, ⟨21, _⟩ => ⟨S1x512, .i32⟩
  | .hbm, ⟨22, _⟩ => ⟨S1x512, .i32⟩
  | .local _ .vmem, ⟨0, _⟩ => ⟨S128x25088, .f32⟩
  | .local _ .vmem, ⟨1, _⟩ => ⟨S25088x10, .f32⟩
  | .local _ .vmem, ⟨2, _⟩ => ⟨S1x10, .f32⟩
  | .local _ .vmem, ⟨3, _⟩ => ⟨S1x128, .f32⟩
  | .local _ .vmem, ⟨4, _⟩ => ⟨S128x512, .f32⟩
  | .local _ .vmem, ⟨5, _⟩ => ⟨S128x512, .f32⟩
  | .local _ .vmem, ⟨6, _⟩ => ⟨S10x512, .f32⟩
  | .local _ .vmem, ⟨7, _⟩ => ⟨S10x512, .f32⟩
  | .local _ .vmem, ⟨8, _⟩ => ⟨S10x1, .f32⟩
  | .local _ .vmem, ⟨9, _⟩ => ⟨S10x1, .f32⟩
  | .local _ .vmem, ⟨10, _⟩ => ⟨S128x10, .f32⟩
  | .local _ .vmem, ⟨11, _⟩ => ⟨S1x512, .i32⟩
  | .local _ .vmem, ⟨12, _⟩ => ⟨S1x512, .i32⟩
  | _, _ => ⟨S128x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x25088 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25088x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference2Ideal.lean ====
abbrev S128x49x512 : Shape := ⟨3, ![128, 49, 512]⟩
abbrev S128 : Shape := ⟨1, ![128]⟩
abbrev S128x1x512 : Shape := ⟨3, ![128, 1, 512]⟩
abbrev S25088x10 : Shape := ⟨2, ![25088, 10]⟩
abbrev S10 : Shape := ⟨1, ![10]⟩
abbrev S512x10 : Shape := ⟨2, ![512, 10]⟩
abbrev S128x25088 : Shape := ⟨2, ![128, 25088]⟩
abbrev S128x10 : Shape := ⟨2, ![128, 10]⟩
abbrev S1x10 : Shape := ⟨2, ![1, 10]⟩
abbrev S_ : Shape := ⟨0, ![]⟩
abbrev S128x1 : Shape := ⟨2, ![128, 1]⟩
abbrev S128x512 : Shape := ⟨2, ![128, 512]⟩
abbrev S512x128 : Shape := ⟨2, ![512, 128]⟩
abbrev S512 : Shape := ⟨1, ![512]⟩
abbrev S1x512 : Shape := ⟨2, ![1, 512]⟩

abbrev nBuf : Space → Nat
  | .hbm => 107
  | .vmem => 0
  | .smem => 0
  | _ => 0

abbrev bufTy : (tb : Table) → Fin (tcTables nBuf tb) → BufTy
  | .hbm, ⟨0, _⟩ => ⟨S128x49x512, .f32⟩
  | .hbm, ⟨1, _⟩ => ⟨S128, .i32⟩
  | .hbm, ⟨2, _⟩ => ⟨S128x1x512, .f32⟩
  | .hbm, ⟨3, _⟩ => ⟨S128x1x512, .f32⟩
  | .hbm, ⟨4, _⟩ => ⟨S25088x10, .f32⟩
  | .hbm, ⟨5, _⟩ => ⟨S10, .f32⟩
  | .hbm, ⟨6, _⟩ => ⟨S512x10, .f32⟩
  | .hbm, ⟨7, _⟩ => ⟨S512x10, .f32⟩
  | .hbm, ⟨8, _⟩ => ⟨S10, .f32⟩
  | .hbm, ⟨9, _⟩ => ⟨S10, .f32⟩
  | .hbm, ⟨10, _⟩ => ⟨S128x25088, .f32⟩
  | .hbm, ⟨11, _⟩ => ⟨S128x10, .f32⟩
  | .hbm, ⟨12, _⟩ => ⟨S1x10, .f32⟩
  | .hbm, ⟨13, _⟩ => ⟨S128x10, .f32⟩
  | .hbm, ⟨14, _⟩ => ⟨S128x10, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128x1, .f32⟩
  | .hbm, ⟨21, _⟩ => ⟨S128x10, .f32⟩
  | .hbm, ⟨22, _⟩ => ⟨S128x10, .f32⟩
  | .hbm, ⟨23, _⟩ => ⟨S128x10, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S128x10, .f32⟩
  | .hbm, ⟨28, _⟩ => ⟨S128x10, .f32⟩
  | .hbm, ⟨29, _⟩ => ⟨S128x512, .f32⟩
  | .hbm, ⟨30, _⟩ => ⟨S128x1, .i32⟩
  | .hbm, ⟨31, _⟩ => ⟨S1x10, .i32⟩
  | .hbm, ⟨32, _⟩ => ⟨S128x10, .i32⟩
  | .hbm, ⟨33, _⟩ => ⟨S128x10, .i32⟩
  | .hbm, ⟨34, _⟩ => ⟨S128x10, .i1⟩
  | .hbm, ⟨35, _⟩ => ⟨S128x10, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S512x128, .f32⟩
  | .hbm, ⟨40, _⟩ => ⟨S512x10, .f32⟩
  | .hbm, ⟨41, _⟩ => ⟨S512x10, .f32⟩
  | .hbm, ⟨42, _⟩ => ⟨S1x10, .f32⟩
  | .hbm, ⟨43, _⟩ => ⟨S_, .f32⟩
  | .hbm, ⟨44, _⟩ => ⟨S1x10, .f32⟩
  | .hbm, ⟨45, _⟩ => ⟨S1x10, .i1⟩
  | .hbm, ⟨46, _⟩ => ⟨S1x10, .f32⟩
  | .hbm, ⟨47, _⟩ => ⟨S_, .f32⟩
  | .hbm, ⟨48, _⟩ => ⟨S1x10, .f32⟩
  | .hbm, ⟨49, _⟩ => ⟨S1x10, .i1⟩
  | .hbm, ⟨50, _⟩ => ⟨S1x10, .f32⟩
  | .hbm, ⟨51, _⟩ => ⟨S_, .f32⟩
  | .hbm, ⟨52, _⟩ => ⟨S_, .f32⟩
  | .hbm, ⟨53, _⟩ => ⟨S1x10, .f32⟩
  | .hbm, ⟨54, _⟩ => ⟨S1x10, .f32⟩
  | .hbm, ⟨55, _⟩ => ⟨S512x10, .f32⟩
  | .hbm, ⟨56, _⟩ => ⟨S512x10, .f32⟩
  | .hbm, ⟨57, _⟩ => ⟨S_, .f32⟩
  | .hbm, ⟨58, _⟩ => ⟨S_, .f32⟩
  | .hbm, ⟨59, _⟩ => ⟨S512x10, .i1⟩
  | .hbm, ⟨60, _⟩ => ⟨S512x10, .f32⟩
  | .hbm, ⟨61, _⟩ => ⟨S512x10, .f32⟩
  | .hbm, ⟨62, _⟩ => ⟨S512x10, .i32⟩
  | .hbm, ⟨63, _⟩ => ⟨S_, .f32⟩
  | .hbm, ⟨64, _⟩ => ⟨S_, .i32⟩
  | .hbm, ⟨65, _⟩ => ⟨S512, .f32⟩
  | .hbm, ⟨66, _⟩ => ⟨S512, .i32⟩
  | .hbm, ⟨67, _⟩ => ⟨S128x512, .f32⟩
  | .hbm, ⟨68, _⟩ => ⟨S128x1, .i32⟩
  | .hbm, ⟨69, _⟩ => ⟨S1x10, .i32⟩
  | .hbm, ⟨70, _⟩ => ⟨S128x10, .i32⟩
  | .hbm, ⟨71, _⟩ => ⟨S128x10, .i32⟩
  | .hbm, ⟨72, _⟩ => ⟨S128x10, .i1⟩
  | .hbm, ⟨73, _⟩ => ⟨S128x10, .f32⟩
  | .hbm, ⟨74, _⟩ => ⟨S_, .f32⟩
  | .hbm, ⟨75, _⟩ => ⟨S10, .f32⟩
  | .hbm, ⟨76, _⟩ => ⟨S10, .f32⟩
  | .hbm, ⟨77, _⟩ => ⟨S512x128, .f32⟩
  | .hbm, ⟨78, _⟩ => ⟨S512x10, .f32⟩
  | .hbm, ⟨79, _⟩ => ⟨S512x10, .f32⟩
  | .hbm, ⟨80, _⟩ => ⟨S1x10, .f32⟩
  | .hbm, ⟨81, _⟩ => ⟨S_, .f32⟩
  | .hbm, ⟨82, _⟩ => ⟨S1x10, .f32⟩
  | .hbm, ⟨83, _⟩ => ⟨S1x10, .i1⟩
  | .hbm, ⟨84, _⟩ => ⟨S1x10, .f32⟩
  | .hbm, ⟨85, _⟩ => ⟨S_, .f32⟩
  | .hbm, ⟨86, _⟩ => ⟨S1x10, .f32⟩
  | .hbm, ⟨87, _⟩ => ⟨S1x10, .i1⟩
  | .hbm, ⟨88, _⟩ => ⟨S1x10, .f32⟩
  | .hbm, ⟨89, _⟩ => ⟨S_, .f32⟩
  | .hbm, ⟨90, _⟩ => ⟨S_, .f32⟩
  | .hbm, ⟨91, _⟩ => ⟨S1x10, .f32⟩
  | .hbm, ⟨92, _⟩ => ⟨S1x10, .f32⟩
  | .hbm, ⟨93, _⟩ => ⟨S512x10, .f32⟩
  | .hbm, ⟨94, _⟩ => ⟨S512x10, .f32⟩
  | .hbm, ⟨95, _⟩ => ⟨S_, .f32⟩
  | .hbm, ⟨96, _⟩ => ⟨S_, .f32⟩
  | .hbm, ⟨97, _⟩ => ⟨S512x10, .i1⟩
  | .hbm, ⟨98, _⟩ => ⟨S512x10, .f32⟩
  | .hbm, ⟨99, _⟩ => ⟨S512x10, .f32⟩
  | .hbm, ⟨100, _⟩ => ⟨S512x10, .i32⟩
  | .hbm, ⟨101, _⟩ => ⟨S_, .f32⟩
  | .hbm, ⟨102, _⟩ => ⟨S_, .i32⟩
  | .hbm, ⟨103, _⟩ => ⟨S512, .f32⟩
  | .hbm, ⟨104, _⟩ => ⟨S512, .i32⟩
  | .hbm, ⟨105, _⟩ => ⟨S1x512, .i32⟩
  | .hbm, ⟨106, _⟩ => ⟨S1x512, .i32⟩
  | _, _ => ⟨S128x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v33 : Ref sig .tc := ⟨.hbm, 61, rfl⟩
abbrev main_call3_v0 : Ref sig .tc := ⟨.hbm, 62, rfl⟩
abbrev main_call3_cst : Ref sig .tc := ⟨.hbm, 63, rfl⟩
abbrev main_call3_c : Ref sig .tc := ⟨.hbm, 64, rfl⟩
abbrev main_call3_v1_0 : Ref sig .tc := ⟨.hbm, 65, rfl⟩
abbrev main_v34 : Ref sig .tc := ⟨.hbm, 66, rfl⟩
abbrev main_v35 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_9 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_10 : Ref sig .tc := ⟨.hbm, 89, rfl⟩
abbrev main_call5_v0 : Ref sig .tc := ⟨.hbm, 90, rfl⟩
abbrev main_call5_v1 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_11 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_v52 : Ref sig .tc := ⟨.hbm, 99, rfl⟩
abbrev main_call7_v0 : Ref sig .tc := ⟨.hbm, 100, rfl⟩
abbrev main_call7_cst : Ref sig .tc := ⟨.hbm, 101, rfl⟩
abbrev main_call7_c : Ref sig .tc := ⟨.hbm, 102, rfl⟩
abbrev main_call7_v1_0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩

abbrev nD : Nat := 1
abbrev τ : Topo := Topo.v7x

variable {F : FTy → Type} [FloatOps F]
-- ==== Kernel3.lean ====
abbrev S128 : Shape := ⟨1, ![128]⟩
abbrev S128x1x512 : Shape := ⟨3, ![128, 1, 512]⟩
abbrev S1x512 : Shape := ⟨2, ![1, 512]⟩
abbrev S14 : Shape := ⟨1, ![14]⟩
abbrev S14x1x1x1 : Shape := ⟨4, ![14, 1, 1, 1]⟩
abbrev S1x1x14x1 : Shape := ⟨4, ![1, 1, 14, 1]⟩
abbrev S14x1x14x1 : Shape := ⟨4, ![14, 1, 14, 1]⟩
abbrev S1x14x1x1 : Shape := ⟨4, ![1, 14, 1, 1]⟩
abbrev S1x1x1x14 : Shape := ⟨4, ![1, 1, 1, 14]⟩
abbrev S1x14x1x14 : Shape := ⟨4, ![1, 14, 1, 14]⟩
abbrev S14x14x14x14 : Shape := ⟨4, ![14, 14, 14, 14]⟩
abbrev S_ : Shape := ⟨0, ![]⟩
abbrev S196x196 : Shape := ⟨2, ![196, 196]⟩
abbrev S3x3x14x14x14x14 : Shape := ⟨6, ![3, 3, 14, 14, 14, 14]⟩
abbrev S9x196x196 : Shape := ⟨3, ![9, 196, 196]⟩
abbrev S2x2x7x7x14x14 : Shape := ⟨6, ![2, 2, 7, 7, 14, 14]⟩
abbrev S4x49x196 : Shape := ⟨3, ![4, 49, 196]⟩
abbrev S1x196x196 : Shape := ⟨3, ![1, 196, 196]⟩
abbrev S3x196x196 : Shape := ⟨3, ![3, 196, 196]⟩
abbrev S128x196x512 : Shape := ⟨3, ![128, 196, 512]⟩
abbrev S1x1x512 : Shape := ⟨3, ![1, 1, 512]⟩
abbrev S1x196x512 : Shape := ⟨3, ![1, 196, 512]⟩
abbrev S1 : Shape := ⟨1, ![1]⟩
abbrev S196x512 : Shape := ⟨2, ![196, 512]⟩

abbrev nBuf : Space → Nat
  | .hbm => 88
  | .vmem => 13
  | .smem => 1
  | _ => 0

abbrev bufTy : (tb : Table) → Fin (tcTables nBuf tb) → BufTy
  | .hbm, ⟨0, _⟩ => ⟨S128x1x512, .i32⟩
  | .hbm, ⟨1, _⟩ => ⟨S128x1x512, .i32⟩
  | .hbm, ⟨2, _⟩ => ⟨S1x512, .i32⟩
  | .hbm, ⟨3, _⟩ => ⟨S1x512, .i32⟩
  | .hbm, ⟨4, _⟩ => ⟨S14, .f32⟩
  | .hbm, ⟨5, _⟩ => ⟨S14x1x1x1, .f32⟩
  | .hbm, ⟨6, _⟩ => ⟨S1x1x14x1, .f32⟩
  | .hbm, ⟨7, _⟩ => ⟨S14x1x14x1, .f32⟩
  | .hbm, ⟨8, _⟩ => ⟨S14x1x14x1, .f32⟩
  | .hbm, ⟨9, _⟩ => ⟨S14x1x14x1, .f32⟩
  | .hbm, ⟨10, _⟩ => ⟨S14x1x14x1, .f32⟩
  | .hbm, ⟨11, _⟩ => ⟨S1x14x1x1, .f32⟩
  | .hbm, ⟨12, _⟩ => ⟨S1x1x1x14, .f32⟩
  | .hbm, ⟨13, _⟩ => ⟨S1x14x1x14, .f32⟩
  | .hbm, ⟨14, _⟩ => ⟨S1x14x1x14, .f32⟩
  | .hbm, ⟨15, _⟩ => ⟨S1x14x1x14, .f32⟩
  | .hbm, ⟨16, _⟩ => ⟨S1x14x1x14, .f32⟩
  | .hbm, ⟨17, _⟩ => ⟨S14x14x14x14, .f32⟩
  | .hbm, ⟨18, _⟩ => ⟨S14x14x14x14, .f32⟩
  | .hbm, ⟨19, _⟩ => ⟨S14x14x14x14, .f32⟩
  | .hbm, ⟨20, _⟩ => ⟨S_, .f32⟩
  | .hbm, ⟨21, _⟩ => ⟨S14x14x14x14, .f32⟩
  | .hbm, ⟨22, _⟩ => ⟨S14x14x14x14, .f32⟩
  | .hbm, ⟨23, _⟩ => ⟨S_, .f32⟩
  | .hbm, ⟨24, _⟩ => ⟨S14x14x14x14, .f32⟩
  | .hbm, ⟨25, _⟩ => ⟨S14x14x14x14, .f32⟩
  | .hbm, ⟨26, _⟩ => ⟨S_, .f32⟩
  | .hbm, ⟨27, _⟩ => ⟨S14x14x14x14, .f32⟩
  | .hbm, ⟨28, _⟩ => ⟨S14x14x14x14, .f32⟩
  | .hbm, ⟨29, _⟩ => ⟨S_, .f32⟩
  | .hbm, ⟨30, _⟩ => ⟨S14x14x14x14, .f32⟩
  | .hbm, ⟨31, _⟩ => ⟨S14x14x14x14, .f32⟩
  | .hbm, ⟨32, _⟩ => ⟨S_, .f32⟩
  | .hbm, ⟨33, _⟩ => ⟨S14x14x14x14, .f32⟩
  | .hbm, ⟨34, _⟩ => ⟨S14x14x14x14, .f32⟩
  | .hbm, ⟨35, _⟩ => ⟨S196x196, .f32⟩
  | .hbm, ⟨36, _⟩ => ⟨S196x196, .f32⟩
  | .hbm, ⟨37, _⟩ => ⟨S3x3x14x14x14x14, .i32⟩
  | .hbm, ⟨38, _⟩ => ⟨S3x3x14x14x14x14, .i32⟩
  | .hbm, ⟨39, _⟩ => ⟨S3x3x14x14x14x14, .i32⟩
  | .hbm, ⟨40, _⟩ => ⟨S3x3x14x14x14x14, .i32⟩
  | .hbm, ⟨41, _⟩ => ⟨S3x3x14x14x14x14, .i32⟩
  | .hbm, ⟨42, _⟩ => ⟨S3x3x14x14x14x14, .i32⟩
  | .hbm, ⟨43, _⟩ => ⟨S3x3x14x14x14x14, .i32⟩
  | .hbm, ⟨44, _⟩ => ⟨S_, .i32⟩
  | .hbm, ⟨45, _⟩ => ⟨S3x3x14x14x14x14, .i32⟩
  | .hbm, ⟨46, _⟩ => ⟨S3x3x14x14x14x14, .i32⟩
  | .hbm, ⟨47, _⟩ => ⟨S3x3x14x14x14x14, .i1⟩
  | .hbm, ⟨48, _⟩ => ⟨S3x3x14x14x14x14, .i32⟩
  | .hbm, ⟨49, _⟩ => ⟨S_, .i32⟩
  | .hbm, ⟨50, _⟩ => ⟨S3x3x14x14x14x14, .i32⟩
  | .hbm, ⟨51, _⟩ => ⟨S3x3x14x14x14x14, .i32⟩
  | .hbm, ⟨52, _⟩ => ⟨S3x3x14x14x14x14, .i1⟩
  | .hbm, ⟨53, _⟩ => ⟨S3x3x14x14x14x14, .i1⟩
  | .hbm, ⟨54, _⟩ => ⟨S3x3x14x14x14x14, .f32⟩
  | .hbm, ⟨55, _⟩ => ⟨S9x196x196, .f32⟩
  | .hbm, ⟨56, _⟩ => ⟨S2x2x7x7x14x14, .i32⟩
  | .hbm, ⟨57, _⟩ => ⟨S2x2x7x7x14x14, .i32⟩
  | .hbm, ⟨58, _⟩ => ⟨S2x2x7x7x14x14, .i32⟩
  | .hbm, ⟨59, _⟩ => ⟨S2x2x7x7x14x14, .i32⟩
  | .hbm, ⟨60, _⟩ => ⟨S2x2x7x7x14x14, .i32⟩
  | .hbm, ⟨61, _⟩ => ⟨S2x2x7x7x14x14, .i32⟩
  | .hbm, ⟨62, _⟩ => ⟨S_, .i32⟩
  | .hbm, ⟨63, _⟩ => ⟨S2x2x7x7x14x14, .i32⟩
  | .hbm, ⟨64, _⟩ => ⟨S2x2x7x7x14x14, .i32⟩
  | .hbm, ⟨65, _⟩ => ⟨S2x2x7x7x14x14, .i32⟩
  | .hbm, ⟨66, _⟩ => ⟨S2x2x7x7x14x14, .i1⟩
  | .hbm, ⟨67, _⟩ => ⟨S_, .i32⟩
  | .hbm, ⟨68, _⟩ => ⟨S2x2x7x7x14x14, .i32⟩
  | .hbm, ⟨69, _⟩ => ⟨S2x2x7x7x14x14, .i32⟩
  | .hbm, ⟨70, _⟩ => ⟨S2x2x7x7x14x14, .i32⟩
  | .hbm, ⟨71, _⟩ => ⟨S2x2x7x7x14x14, .i1⟩
  | .hbm, ⟨72, _⟩ => ⟨S2x2x7x7x14x14, .i1⟩
  | .hbm, ⟨73, _⟩ => ⟨S2x2x7x7x14x14, .f32⟩
  | .hbm, ⟨74, _⟩ => ⟨S4x49x196, .f32⟩
  | .hbm, ⟨75, _⟩ => ⟨S196x196, .bf16⟩
  | .hbm, ⟨76, _⟩ => ⟨S196x196, .f32⟩
  | .hbm, ⟨77, _⟩ => ⟨S196x196, .f32⟩
  | .hbm, ⟨78, _⟩ => ⟨S196x196, .bf16⟩
  | .hbm, ⟨79, _⟩ => ⟨S196x196, .f32⟩
  | .hbm, ⟨80, _⟩ => ⟨S196x196, .f32⟩
  | .hbm, ⟨81, _⟩ => ⟨S1x196x196, .f32⟩
  | .hbm, ⟨82, _⟩ => ⟨S1x196x196, .f32⟩
  | .hbm, ⟨83, _⟩ => ⟨S1x196x196, .f32⟩
  | .hbm, ⟨84, _⟩ => ⟨S3x196x196, .f32⟩
  | .hbm, ⟨85, _⟩ => ⟨S128x196x512, .f32⟩
  | .hbm, ⟨86, _⟩ => ⟨S128x196x512, .f32⟩
  | .hbm, ⟨87, _⟩ => ⟨S128x196x512, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x512, .i32⟩
  | .local _ .vmem, ⟨5, _⟩ => ⟨S1x512, .i32⟩
  | .local _ .vmem, ⟨6, _⟩ => ⟨S3x196x196, .f32⟩
  | .local _ .vmem, ⟨7, _⟩ => ⟨S1x196x512, .f32⟩
  | .local _ .vmem, ⟨8, _⟩ => ⟨S1x196x512, .f32⟩
  | .local _ .vmem, ⟨9, _⟩ => ⟨S1x196x512, .f32⟩
  | .local _ .vmem, ⟨10, _⟩ => ⟨S1x196x512, .f32⟩
  | .local _ .vmem, ⟨11, _⟩ => ⟨S1x196x512, .f32⟩
  | .local _ .vmem, ⟨12, _⟩ => ⟨S1x196x512, .f32⟩
  | .local _ .smem, ⟨0, _⟩ => ⟨S128, .i32⟩
  | _, _ => ⟨S128x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72_0 : Ref sig .tc := ⟨.hbm, 85, rfl⟩
abbrev main_v72_1 : Ref sig .tc := ⟨.hbm, 86, rfl⟩
abbrev main_v72_2 : Ref sig .tc := ⟨.hbm, 87, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x196x196 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x196x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x196x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x196x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S128 : Shape := ⟨1, ![128]⟩
abbrev S128x1x512 : Shape := ⟨3, ![128, 1, 512]⟩
abbrev S1x512 : Shape := ⟨2, ![1, 512]⟩
abbrev S14 : Shape := ⟨1, ![14]⟩
abbrev S14x1x1x1 : Shape := ⟨4, ![14, 1, 1, 1]⟩
abbrev S1x1x14x1 : Shape := ⟨4, ![1, 1, 14, 1]⟩
abbrev S14x1x14x1 : Shape := ⟨4, ![14, 1, 14, 1]⟩
abbrev S1x14x1x1 : Shape := ⟨4, ![1, 14, 1, 1]⟩
abbrev S1x1x1x14 : Shape := ⟨4, ![1, 1, 1, 14]⟩
abbrev S1x14x1x14 : Shape := ⟨4, ![1, 14, 1, 14]⟩
abbrev S14x14x14x14 : Shape := ⟨4, ![14, 14, 14, 14]⟩
abbrev S_ : Shape := ⟨0, ![]⟩
abbrev S128x512 : Shape := ⟨2, ![128, 512]⟩
abbrev S128x512x1 : Shape := ⟨3, ![128, 512, 1]⟩
abbrev S128x512x2 : Shape := ⟨3, ![128, 512, 2]⟩
abbrev S128x512x14x14 : Shape := ⟨4, ![128, 512, 14, 14]⟩
abbrev S128x14x14x512 : Shape := ⟨4, ![128, 14, 14, 512]⟩
abbrev S512 : Shape := ⟨1, ![512]⟩
abbrev S128x1 : Shape := ⟨2, ![128, 1]⟩
abbrev S128x1x1x512 : Shape := ⟨4, ![128, 1, 1, 512]⟩
abbrev S128x196x512 : Shape := ⟨3, ![128, 196, 512]⟩

abbrev nBuf : Space → Nat
  | .hbm => 189
  | .vmem => 0
  | .smem => 0
  | _ => 0

abbrev hbmTy0_0 (i : Nat) : BufTy := match i % 128 with
  | 0 => ⟨S128, .i32⟩
  | 1 => ⟨S128x1x512, .i32⟩
  | 2 => ⟨S128x1x512, .i32⟩
  | 3 => ⟨S1x512, .i32⟩
  | 4 => ⟨S1x512, .i32⟩
  | 5 => ⟨S14, .f32⟩
  | 6 => ⟨S14x1x1x1, .f32⟩
  | 7 => ⟨S1x1x14x1, .f32⟩
  | 8 => ⟨S14x1x14x1, .f32⟩
  | 9 => ⟨S14x1x14x1, .f32⟩
  | 10 => ⟨S14x1x14x1, .f32⟩
  | 11 => ⟨S14x1x14x1, .f32⟩
  | 12 => ⟨S1x14x1x1, .f32⟩
  | 13 => ⟨S1x1x1x14, .f32⟩
  | 14 => ⟨S1x14x1x14, .f32⟩
  | 15 => ⟨S1x14x1x14, .f32⟩
  | 16 => ⟨S1x14x1x14, .f32⟩
  | 17 => ⟨S1x14x1x14, .f32⟩
  | 18 => ⟨S14x14x14x14, .f32⟩
  | 19 => ⟨S14x14x14x14, .f32⟩
  | 20 => ⟨S14x14x14x14, .f32⟩
  | 21 => ⟨S_, .f32⟩
  | 22 => ⟨S14x14x14x14, .f32⟩
  | 23 => ⟨S14x14x14x14, .f32⟩
  | 24 => ⟨S_, .f32⟩
  | 25 => ⟨S14x14x14x14, .f32⟩
  | 26 => ⟨S14x14x14x14, .f32⟩
  | 27 => ⟨S_, .f32⟩
  | 28 => ⟨S14x14x14x14, .f32⟩
  | 29 => ⟨S14x14x14x14, .f32⟩
  | 30 => ⟨S_, .f32⟩
  | 31 => ⟨S14x14x14x14, .f32⟩
  | 32 => ⟨S14x14x14x14, .f32⟩
  | 33 => ⟨S_, .f32⟩
  | 34 => ⟨S14x14x14x14, .f32⟩
  | 35 => ⟨S14x14x14x14, .f32⟩
  | 36 => ⟨S128x512, .i32⟩
  | 37 => ⟨S_, .i32⟩
  | 38 => ⟨S_, .i32⟩
  | 39 => ⟨S128x512, .i32⟩
  | 40 => ⟨S128x512, .i32⟩
  | 41 => ⟨S128x512, .i32⟩
  | 42 => ⟨S_, .i32⟩
  | 43 => ⟨S128x512, .i32⟩
  | 44 => ⟨S128x512, .i1⟩
  | 45 => ⟨S128x512, .i32⟩
  | 46 => ⟨S128x512, .i32⟩
  | 47 => ⟨S_, .i32⟩
  | 48 => ⟨S128x512, .i32⟩
  | 49 => ⟨S128x512, .i1⟩
  | 50 => ⟨S128x512, .i1⟩
  | 51 => ⟨S_, .i32⟩
  | 52 => ⟨S128x512, .i32⟩
  | 53 => ⟨S128x512, .i32⟩
  | 54 => ⟨S128x512, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S128x512, .i32⟩
  | 62 => ⟨S128x512, .i32⟩
  | 63 => ⟨S_, .i32⟩
  | 64 => ⟨S128x512, .i32⟩
  | 65 => ⟨S128x512, .i1⟩
  | 66 => ⟨S_, .i32⟩
  | 67 => ⟨S128x512, .i32⟩
  | 68 => ⟨S128x512, .i1⟩
  | 69 => ⟨S_, .i32⟩
  | 70 => ⟨S_, .i1⟩
  | 71 => ⟨S128x512, .i1⟩
  | 72 => ⟨S128x512, .i1⟩
  | 73 => ⟨S128x512, .i1⟩
  | 74 => ⟨S128x512, .i32⟩
  | 75 => ⟨S128x512, .i32⟩
  | 76 => ⟨S128x512, .i32⟩
  | 77 => ⟨S_, .i32⟩
  | 78 => ⟨S128x512, .i32⟩
  | 79 => ⟨S128x512, .i1⟩
  | 80 => ⟨S_, .i32⟩
  | 81 => ⟨S128x512, .i32⟩
  | 82 => ⟨S128x512, .i32⟩
  | 83 => ⟨S128x512, .i32⟩
  | 84 => ⟨S_, .i32⟩
  | 85 => ⟨S128x512, .i32⟩
  | 86 => ⟨S128x512, .i1⟩
  | 87 => ⟨S_, .i32⟩
  | 88 => ⟨S128x512, .i32⟩
  | 89 => ⟨S128x512, .i32⟩
  | 90 => ⟨S128x512, .i32⟩
  | 91 => ⟨S128x512x1, .i32⟩
  | 92 => ⟨S128x512x1, .i32⟩
  | 93 => ⟨S128x512x2, .i32⟩
  | 94 => ⟨S128x512x14x14, .f32⟩
  | 95 => ⟨S128x14x14x512, .f32⟩
  | 96 => ⟨S128x512, .i32⟩
  | 97 => ⟨S_, .i32⟩
  | 98 => ⟨S_, .i32⟩
  | 99 => ⟨S128x512, .i32⟩
  | 100 => ⟨S128x512, .i32⟩
  | 101 => ⟨S128x512, .i32⟩
  | 102 => ⟨S_, .i32⟩
  | 103 => ⟨S128x512, .i32⟩
  | 104 => ⟨S128x512, .i1⟩
  | 105 => ⟨S128x512, .i32⟩
  | 106 => ⟨S128x512, .i32⟩
  | 107 => ⟨S_, .i32⟩
  | 108 => ⟨S128x512, .i32⟩
  | 109 => ⟨S128x512, .i1⟩
  | 110 => ⟨S128x512, .i1⟩
  | 111 => ⟨S_, .i32⟩
  | 112 => ⟨S128x512, .i32⟩
  | 113 => ⟨S128x512, .i32⟩
  | 114 => ⟨S128x512, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S128x512, .i32⟩
  | 122 => ⟨S128x512, .i32⟩
  | 123 => ⟨S_, .i32⟩
  | 124 => ⟨S128x512, .i32⟩
  | 125 => ⟨S128x512, .i1⟩
  | 126 => ⟨S_, .i32⟩
  | 127 => ⟨S128x512, .i32⟩
  | _ => ⟨S128, .i32⟩

abbrev hbmTy0_1 (i : Nat) : BufTy := match i % 128 with
  | 0 => ⟨S128x512, .i1⟩
  | 1 => ⟨S_, .i32⟩
  | 2 => ⟨S_, .i1⟩
  | 3 => ⟨S128x512, .i1⟩
  | 4 => ⟨S128x512, .i1⟩
  | 5 => ⟨S128x512, .i1⟩
  | 6 => ⟨S128x512, .i32⟩
  | 7 => ⟨S128x512, .i32⟩
  | 8 => ⟨S128x512, .i32⟩
  | 9 => ⟨S_, .i32⟩
  | 10 => ⟨S128x512, .i32⟩
  | 11 => ⟨S128x512, .i1⟩
  | 12 => ⟨S_, .i32⟩
  | 13 => ⟨S128x512, .i32⟩
  | 14 => ⟨S128x512, .i32⟩
  | 15 => ⟨S128x512, .i32⟩
  | 16 => ⟨S_, .i32⟩
  | 17 => ⟨S128x512, .i32⟩
  | 18 => ⟨S128x512, .i1⟩
  | 19 => ⟨S_, .i32⟩
  | 20 => ⟨S128x512, .i32⟩
  | 21 => ⟨S128x512, .i32⟩
  | 22 => ⟨S128x512, .i32⟩
  | 23 => ⟨S128x512x1, .i32⟩
  | 24 => ⟨S128x512x1, .i32⟩
  | 25 => ⟨S128x512x2, .i32⟩
  | 26 => ⟨S128x512x14x14, .f32⟩
  | 27 => ⟨S128x14x14x512, .f32⟩
  | 28 => ⟨S512, .i32⟩
  | 29 => ⟨S1x512, .i32⟩
  | 30 => ⟨S128x1, .i32⟩
  | 31 => ⟨S128x512, .i32⟩
  | 32 => ⟨S128x512, .i32⟩
  | 33 => ⟨S128x512, .i1⟩
  | 34 => ⟨S128x1x1x512, .i1⟩
  | 35 => ⟨S_, .f32⟩
  | 36 => ⟨S128x14x14x512, .f32⟩
  | 37 => ⟨S128x14x14x512, .f32⟩
  | 38 => ⟨S_, .f32⟩
  | 39 => ⟨S_, .f32⟩
  | 40 => ⟨S128x14x14x512, .i1⟩
  | 41 => ⟨S128x14x14x512, .f32⟩
  | 42 => ⟨S128x14x14x512, .f32⟩
  | 43 => ⟨S512, .i32⟩
  | 44 => ⟨S1x512, .i32⟩
  | 45 => ⟨S128x1, .i32⟩
  | 46 => ⟨S128x512, .i32⟩
  | 47 => ⟨S128x512, .i32⟩
  | 48 => ⟨S128x512, .i1⟩
  | 49 => ⟨S128x1x1x512, .i1⟩
  | 50 => ⟨S_, .f32⟩
  | 51 => ⟨S128x14x14x512, .f32⟩
  | 52 => ⟨S128x14x14x512, .f32⟩
  | 53 => ⟨S_, .f32⟩
  | 54 => ⟨S_, .f32⟩
  | 55 => ⟨S128x14x14x512, .i1⟩
  | 56 => ⟨S128x14x14x512, .f32⟩
  | 57 => ⟨S128x14x14x512, .f32⟩
  | 58 => ⟨S128x196x512, .f32⟩
  | 59 => ⟨S128x196x512, .f32⟩
  | 60 => ⟨S128x196x512, .f32⟩
  | _ => ⟨S128, .i32⟩

abbrev hbmTy (i : Nat) : BufTy := match i / 128 with
  | 0 => hbmTy0_0 i
  | 1 => hbmTy0_1 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_c_4 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v28 : Ref sig .tc := ⟨.hbm, 76, rfl⟩
abbrev main_c_5 : Ref sig .tc := ⟨.hbm, 77, rfl⟩
abbrev main_v29 : Ref sig .tc := ⟨.hbm, 78, rfl⟩
abbrev main_v30 : Ref sig .tc := ⟨.hbm, 79, rfl⟩
abbrev main_c_6 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_c_7 : Ref sig .tc := ⟨.hbm, 84, rfl⟩
abbrev main_v34 : Ref sig .tc := ⟨.hbm, 85, rfl⟩
abbrev main_v35 : Ref sig .tc := ⟨.hbm, 86, rfl⟩
abbrev main_c_8 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_c_9 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v45 : Ref sig .tc := ⟨.hbm, 114, rfl⟩
abbrev main_c_10 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v46 : Ref sig .tc := ⟨.hbm, 136, rfl⟩
abbrev main_c_11 : Ref sig .tc := ⟨.hbm, 137, rfl⟩
abbrev main_v47 : Ref sig .tc := ⟨.hbm, 138, rfl⟩
abbrev main_v48 : Ref sig .tc := ⟨.hbm, 139, rfl⟩
abbrev main_c_12 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_c_13 : Ref sig .tc := ⟨.hbm, 144, rfl⟩
abbrev main_v52 : Ref sig .tc := ⟨.hbm, 145, rfl⟩
abbrev main_v53 : Ref sig .tc := ⟨.hbm, 146, rfl⟩
abbrev main_c_14 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_call4_cst : Ref sig .tc := ⟨.hbm, 163, rfl⟩
abbrev main_call4_v0 : Ref sig .tc := ⟨.hbm, 164, rfl⟩
abbrev main_v69 : Ref sig .tc := ⟨.hbm, 165, rfl⟩
abbrev main_cst_15 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_call6_cst : Ref sig .tc := ⟨.hbm, 178, rfl⟩
abbrev main_call6_v0 : Ref sig .tc := ⟨.hbm, 179, rfl⟩
abbrev main_v78 : Ref sig .tc := ⟨.hbm, 180, rfl⟩
abbrev main_cst_16 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

/-! The reference's operations in thirteen stretches, in the order of its program, and the facts that the run theorem
asks of them: the program is the sequence of these operations, and they touch only the core's own buffers. -/

@[expose] public section

set_option Elab.async false

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Arrays of a shape and an element type. -/
abbrev C (s : Shape) (e : EltTy) {F : FTy → Type} : Type := (⟨s, e⟩ : BufTy).Contents (Elt F)

/-- The position search over one column: its largest value and the position. -/
def search (x : FVec F S128x196x512 .f32) (y : IVec S128x196x512 32) (u : FVec F S_ .f32) (v : IVec S_ 32) (j : S128x512.Idx) :
    F .f32 × BitVec 32 :=
  Host.argReduce reducer_argmax_f32_i32 x y u v reducesTo_S128x196x512_S128x512_d1 h_S_ j

/-- The value part of the position search. -/
def argmaxVal : C S128x196x512 .f32 (F := F) → C S128x196x512 .i32 (F := F) → C S_ .f32 (F := F) → C S_ .i32 (F := F) → C S128x512 .f32 (F := F) :=
  fun x y u v j => (search x y u v j).1

/-- The position part of the position search. -/
def argmaxIdx : C S128x196x512 .f32 (F := F) → C S128x196x512 .i32 (F := F) → C S_ .f32 (F := F) → C S_ .i32 (F := F) → C S128x512 .i32 (F := F) :=
  fun x y u v j => (search x y u v j).2

/-- The value part of the class search. -/
def argmaxVal2 : C S512x10 .f32 (F := F) → C S512x10 .i32 (F := F) → C S_ .f32 (F := F) → C S_ .i32 (F := F) → C S512 .f32 (F := F) :=
  fun x y u v j => (Host.argReduce reducer_argmax_f32_i32 x y u v reducesTo_S512x10_S512_d1 h_S_ j).1

/-- The class part of the class search. -/
def argmaxIdx2 : C S512x10 .f32 (F := F) → C S512x10 .i32 (F := F) → C S_ .f32 (F := F) → C S_ .i32 (F := F) → C S512 .i32 (F := F) :=
  fun x y u v j => (Host.argReduce reducer_argmax_f32_i32 x y u v reducesTo_S512x10_S512_d1 h_S_ j).2

/-- Two arrays of positions side by side. -/
def pair : C S128x512x1 .i32 (F := F) → C S128x512x1 .i32 (F := F) → C S128x512x2 .i32 (F := F) :=
  fun a b => concatenate S128x512x2 2 [⟨S128x512x1, a⟩, ⟨S128x512x1, b⟩] concatenates_S128x512x1_S128x512x1_S128x512x2_d2

/-- The operations that make the position table. -/
abbrev tabO : List (HloOp τ sig (Elt F)) :=
  [ nullary main_v0 (sitofp .f32 (iotaInDim S14 32 0)),
    unary main_v0 main_v1 (broadcastInDim S14x1x1x1 ![0] bcast_S14_S14x1x1x1_0 : C S14 .f32 (F := F) → C S14x1x1x1 .f32 (F := F)),
    unary main_v0 main_v2 (broadcastInDim S1x1x14x1 ![2] bcast_S14_S1x1x14x1_2 : C S14 .f32 (F := F) → C S1x1x14x1 .f32 (F := F)),
    unary main_v1 main_v3 (broadcastInDim S14x1x14x1 ![0, 1, 2, 3] bcast_S14x1x1x1_S14x1x14x1_0_1_2_3 : C S14x1x1x1 .f32 (F := F) → C S14x1x14x1 .f32 (F := F)),
    unary main_v2 main_v4 (broadcastInDim S14x1x14x1 ![0, 1, 2, 3] bcast_S1x1x14x1_S14x1x14x1_0_1_2_3 : C S1x1x14x1 .f32 (F := F) → C S14x1x14x1 .f32 (F := F)),
    binary main_v3 main_v4 main_v5 (subf : C S14x1x14x1 .f32 (F := F) → C S14x1x14x1 .f32 (F := F) → C S14x1x14x1 .f32 (F := F)),
    unary main_v5 main_v6 (Host.absf : C S14x1x14x1 .f32 (F := F) → C S14x1x14x1 .f32 (F := F)),
    unary main_v0 main_v7 (broadcastInDim S1x14x1x1 ![1] bcast_S14_S1x14x1x1_1 : C S14 .f32 (F := F) → C S1x14x1x1 .f32 (F := F)),
    unary main_v0 main_v8 (broadcastInDim S1x1x1x14 ![3] bcast_S14_S1x1x1x14_3 : C S14 .f32 (F := F) → C S1x1x1x14 .f32 (F := F)),
    unary main_v7 main_v9 (broadcastInDim S1x14x1x14 ![0, 1, 2, 3] bcast_S1x14x1x1_S1x14x1x14_0_1_2_3 : C S1x14x1x1 .f32 (F := F) → C S1x14x1x14 .f32 (F := F)),
    unary main_v8 main_v10 (broadcastInDim S1x14x1x14 ![0, 1, 2, 3] bcast_S1x1x1x14_S1x14x1x14_0_1_2_3 : C S1x1x1x14 .f32 (F := F) → C S1x14x1x14 .f32 (F := F)),
    binary main_v9 main_v10 main_v11 (subf : C S1x14x1x14 .f32 (F := F) → C S1x14x1x14 .f32 (F := F) → C S1x14x1x14 .f32 (F := F)),
    unary main_v11 main_v12 (Host.absf : C S1x14x1x14 .f32 (F := F) → C S1x14x1x14 .f32 (F := F)),
    unary main_v6 main_v13 (broadcastInDim S14x14x14x14 ![0, 1, 2, 3] bcast_S14x1x14x1_S14x14x14x14_0_1_2_3 : C S14x1x14x1 .f32 (F := F) → C S14x14x14x14 .f32 (F := F)),
    unary main_v12 main_v14 (broadcastInDim S14x14x14x14 ![0, 1, 2, 3] bcast_S1x14x1x14_S14x14x14x14_0_1_2_3 : C S1x14x1x14 .f32 (F := F) → C S14x14x14x14 .f32 (F := F)),
    binary main_v13 main_v14 main_v15 (addf : C S14x14x14x14 .f32 (F := F) → C S14x14x14x14 .f32 (F := F) → C S14x14x14x14 .f32 (F := F)),
    nullary main_cst (constant S_ .f32 0x40000000#32),
    unary main_cst main_v16 (broadcastInDim S14x14x14x14 ![] bcast_S_S14x14x14x14 : C S_ .f32 (F := F) → C S14x14x14x14 .f32 (F := F)),
    binary main_v16 main_v15 main_v17 (mulf : C S14x14x14x14 .f32 (F := F) → C S14x14x14x14 .f32 (F := F) → C S14x14x14x14 .f32 (F := F)),
    nullary main_cst_0 (constant S_ .f32 0x41600000#32),
    unary main_cst_0 main_v18 (broadcastInDim S14x14x14x14 ![] bcast_S_S14x14x14x14 : C S_ .f32 (F := F) → C S14x14x14x14 .f32 (F := F)),
    binary main_v17 main_v18 main_v19 (Host.divf : C S14x14x14x14 .f32 (F := F) → C S14x14x14x14 .f32 (F := F) → C S14x14x14x14 .f32 (F := F)),
    nullary main_cst_1 (constant S_ .f32 0x3F800000#32),
    unary main_cst_1 main_v20 (broadcastInDim S14x14x14x14 ![] bcast_S_S14x14x14x14 : C S_ .f32 (F := F) → C S14x14x14x14 .f32 (F := F)),
    binary main_v20 main_v19 main_v21 (subf : C S14x14x14x14 .f32 (F := F) → C S14x14x14x14 .f32 (F := F) → C S14x14x14x14 .f32 (F := F)),
    nullary main_cst_2 (constant S_ .f32 0xBF800000#32),
    unary main_cst_2 main_v22 (broadcastInDim S14x14x14x14 ![] bcast_S_S14x14x14x14 : C S_ .f32 (F := F) → C S14x14x14x14 .f32 (F := F)),
    binary main_v21 main_v22 main_v23 (maximumf : C S14x14x14x14 .f32 (F := F) → C S14x14x14x14 .f32 (F := F) → C S14x14x14x14 .f32 (F := F)),
    nullary main_cst_3 (constant S_ .f32 0x3B272F05#32),
    unary main_cst_3 main_v24 (broadcastInDim S14x14x14x14 ![] bcast_S_S14x14x14x14 : C S_ .f32 (F := F) → C S14x14x14x14 .f32 (F := F)),
    binary main_v24 main_v23 main_v25 (mulf : C S14x14x14x14 .f32 (F := F) → C S14x14x14x14 .f32 (F := F) → C S14x14x14x14 .f32 (F := F)) ]

/-- The first position search, and its quotient and remainder by 14. -/
abbrev div1 : List (HloOp τ sig (Elt F)) :=
  [ reshape main_arg0 main_v26 (rfl : (.f32 : EltTy) = .f32) shapeCasts_S128x14x14x512_S128x196x512,
    nullary main_call0_v0 ((iotaInDim S128x196x512 32 1) : C S128x196x512 .i32 (F := F)),
    nullary main_call0_cst ((constant S_ .f32 0xFF800000#32) : C S_ .f32 (F := F)),
    nullary main_call0_c ((constantI S_ 32 0#32) : C S_ .i32 (F := F)),
    quaternary main_v26 main_call0_v0 main_call0_cst main_call0_c main_call0_v1_0 (argmaxVal : C S128x196x512 .f32 (F := F) → C S128x196x512 .i32 (F := F) → C S_ .f32 (F := F) → C S_ .i32 (F := F) → C S128x512 .f32 (F := F)),
    quaternary main_v26 main_call0_v0 main_call0_cst main_call0_c main_v27 (argmaxIdx : C S128x196x512 .f32 (F := F) → C S128x196x512 .i32 (F := F) → C S_ .f32 (F := F) → C S_ .i32 (F := F) → C S128x512 .i32 (F := F)),
    nullary main_c (constantI S_ 32 14#32),
    unary main_c main_call1_v0 (id : C S_ .i32 (F := F) → C S_ .i32 (F := F)),
    unary main_call1_v0 main_call1_v1 ((broadcastInDim S128x512 ![] bcast_S_S128x512) : C S_ .i32 (F := F) → C S128x512 .i32 (F := F)),
    binary main_v27 main_call1_v1 main_call1_v2 (Host.divsi : C S128x512 .i32 (F := F) → C S128x512 .i32 (F := F) → C S128x512 .i32 (F := F)),
    unary main_v27 main_call1_v3 (signi : C S128x512 .i32 (F := F) → C S128x512 .i32 (F := F)),
    unary main_call1_v0 main_call1_v4 (signi : C S_ .i32 (F := F) → C S_ .i32 (F := F)),
    unary main_call1_v4 main_call1_v5 ((broadcastInDim S128x512 ![] bcast_S_S128x512) : C S_ .i32 (F := F) → C S128x512 .i32 (F := F)),
    binary main_call1_v3 main_call1_v5 main_call1_v6 ((cmpi .ne) : C S128x512 .i32 (F := F) → C S128x512 .i32 (F := F) → C S128x512 .i1 (F := F)),
    unary main_call1_v0 main_call1_v7 ((broadcastInDim S128x512 ![] bcast_S_S128x512) : C S_ .i32 (F := F) → C S128x512 .i32 (F := F)),
    binary main_v27 main_call1_v7 main_call1_v8 (Host.remsi : C S128x512 .i32 (F := F) → C S128x512 .i32 (F := F) → C S128x512 .i32 (F := F)),
    nullary main_call1_c ((constantI S_ 32 0#32) : C S_ .i32 (F := F)),
    unary main_call1_c main_call1_v9 ((broadcastInDim S128x512 ![] bcast_S_S128x512) : C S_ .i32 (F := F) → C S128x512 .i32 (F := F)),
    binary main_call1_v8 main_call1_v9 main_call1_v10 ((cmpi .ne) : C S128x512 .i32 (F := F) → C S128x512 .i32 (F := F) → C S128x512 .i1 (F := F)),
    binary main_call1_v6 main_call1_v10 main_call1_v11 (andi : C S128x512 .i1 (F := F) → C S128x512 .i1 (F := F) → C S128x512 .i1 (F := F)),
    nullary main_call1_c_0 ((constantI S_ 32 1#32) : C S_ .i32 (F := F)),
    unary main_call1_c_0 main_call1_v12 ((broadcastInDim S128x512 ![] bcast_S_S128x512) : C S_ .i32 (F := F) → C S128x512 .i32 (F := F)),
    binary main_call1_v2 main_call1_v12 main_call1_v13 (subi : C S128x512 .i32 (F := F) → C S128x512 .i32 (F := F) → C S128x512 .i32 (F := F)),
    ternary main_call1_v11 main_call1_v13 main_call1_v2 main_v28 (select : C S128x512 .i1 (F := F) → C S128x512 .i32 (F := F) → C S128x512 .i32 (F := F) → C S128x512 .i32 (F := F)),
    nullary main_c_4 (constantI S_ 32 14#32),
    unary main_c_4 main_call2_v0 (id : C S_ .i32 (F := F) → C S_ .i32 (F := F)),
    nullary main_call2_c ((constantI S_ 32 0#32) : C S_ .i32 (F := F)),
    binary main_call2_v0 main_call2_c main_call2_v1 ((cmpi .eq) : C S_ .i32 (F := F) → C S_ .i32 (F := F) → C S_ .i1 (F := F)),
    nullary main_call2_c_0 ((constantI S_ 32 1#32) : C S_ .i32 (F := F)),
    ternary main_call2_v1 main_call2_c_0 main_call2_v0 main_call2_v2 (select : C S_ .i1 (F := F) → C S_ .i32 (F := F) → C S_ .i32 (F := F) → C S_ .i32 (F := F)),
    unary main_call2_v2 main_call2_v3 ((broadcastInDim S128x512 ![] bcast_S_S128x512) : C S_ .i32 (F := F) → C S128x512 .i32 (F := F)),
    binary main_v27 main_call2_v3 main_call2_v4 (Host.remsi : C S128x512 .i32 (F := F) → C S128x512 .i32 (F := F) → C S128x512 .i32 (F := F)),
    nullary main_call2_c_1 ((constantI S_ 32 0#32) : C S_ .i32 (F := F)),
    unary main_call2_c_1 main_call2_v5 ((broadcastInDim S128x512 ![] bcast_S_S128x512) : C S_ .i32 (F := F) → C S128x512 .i32 (F := F)),
    binary main_call2_v4 main_call2_v5 main_call2_v6 ((cmpi .ne) : C S128x512 .i32 (F := F) → C S128x512 .i32 (F := F) → C S128x512 .i1 (F := F)),
    nullary main_call2_c_2 ((constantI S_ 32 0#32) : C S_ .i32 (F := F)),
    unary main_call2_c_2 main_call2_v7 ((broadcastInDim S128x512 ![] bcast_S_S128x512) : C S_ .i32 (F := F) → C S128x512 .i32 (F := F)),
    binary main_call2_v4 main_call2_v7 main_call2_v8 ((cmpi .slt) : C S128x512 .i32 (F := F) → C S128x512 .i32 (F := F) → C S128x512 .i1 (F := F)),
    nullary main_call2_c_3 ((constantI S_ 32 0#32) : C S_ .i32 (F := F)),
    binary main_call2_v2 main_call2_c_3 main_call2_v9 ((cmpi .slt) : C S_ .i32 (F := F) → C S_ .i32 (F := F) → C S_ .i1 (F := F)),
    unary main_call2_v9 main_call2_v10 ((broadcastInDim S128x512 ![] bcast_S_S128x512) : C S_ .i1 (F := F) → C S128x512 .i1 (F := F)),
    binary main_call2_v8 main_call2_v10 main_call2_v11 ((cmpi .ne) : C S128x512 .i1 (F := F) → C S128x512 .i1 (F := F) → C S128x512 .i1 (F := F)),
    binary main_call2_v11 main_call2_v6 main_call2_v12 (andi : C S128x512 .i1 (F := F) → C S128x512 .i1 (F := F) → C S128x512 .i1 (F := F)),
    unary main_call2_v2 main_call2_v13 ((broadcastInDim S128x512 ![] bcast_S_S128x512) : C S_ .i32 (F := F) → C S128x512 .i32 (F := F)),
    binary main_call2_v4 main_call2_v13 main_call2_v14 (addi : C S128x512 .i32 (F := F) → C S128x512 .i32 (F := F) → C S128x512 .i32 (F := F)),
    ternary main_call2_v12 main_call2_v14 main_call2_v4 main_v29 (select : C S128x512 .i1 (F := F) → C S128x512 .i32 (F := F) → C S128x512 .i32 (F := F) → C S128x512 .i32 (F := F)) ]

/-- The first masking. -/
abbrev msk1 : List (HloOp τ sig (Elt F)) :=
  [ nullary main_c_5 (constantI S_ 32 0#32),
    unary main_c_5 main_v30 (broadcastInDim S128x512 ![] bcast_S_S128x512 : C S_ .i32 (F := F) → C S128x512 .i32 (F := F)),
    binary main_v28 main_v30 main_v31 (cmpi .slt : C S128x512 .i32 (F := F) → C S128x512 .i32 (F := F) → C S128x512 .i1 (F := F)),
    nullary main_c_6 (constantI S_ 32 14#32),
    unary main_c_6 main_v32 (broadcastInDim S128x512 ![] bcast_S_S128x512 : C S_ .i32 (F := F) → C S128x512 .i32 (F := F)),
    binary main_v28 main_v32 main_v33 (addi : C S128x512 .i32 (F := F) → C S128x512 .i32 (F := F) → C S128x512 .i32 (F := F)),
    ternary main_v31 main_v33 main_v28 main_v34 (select : C S128x512 .i1 (F := F) → C S128x512 .i32 (F := F) → C S128x512 .i32 (F := F) → C S128x512 .i32 (F := F)),
    nullary main_c_7 (constantI S_ 32 0#32),
    unary main_c_7 main_v35 (broadcastInDim S128x512 ![] bcast_S_S128x512 : C S_ .i32 (F := F) → C S128x512 .i32 (F := F)),
    binary main_v29 main_v35 main_v36 (cmpi .slt : C S128x512 .i32 (F := F) → C S128x512 .i32 (F := F) → C S128x512 .i1 (F := F)),
    nullary main_c_8 (constantI S_ 32 14#32),
    unary main_c_8 main_v37 (broadcastInDim S128x512 ![] bcast_S_S128x512 : C S_ .i32 (F := F) → C S128x512 .i32 (F := F)),
    binary main_v29 main_v37 main_v38 (addi : C S128x512 .i32 (F := F) → C S128x512 .i32 (F := F) → C S128x512 .i32 (F := F)),
    ternary main_v36 main_v38 main_v29 main_v39 (select : C S128x512 .i1 (F := F) → C S128x512 .i32 (F := F) → C S128x512 .i32 (F := F) → C S128x512 .i32 (F := F)),
    unary main_v34 main_v40 (broadcastInDim S128x512x1 ![0, 1] bcast_S128x512_S128x512x1_0_1 : C S128x512 .i32 (F := F) → C S128x512x1 .i32 (F := F)),
    unary main_v39 main_v41 (broadcastInDim S128x512x1 ![0, 1] bcast_S128x512_S128x512x1_0_1 : C S128x512 .i32 (F := F) → C S128x512x1 .i32 (F := F)),
    binary main_v40 main_v41 main_v42 (pair (F := F)),
    binary main_v25 main_v42 main_v43 ((fun x i => Host.gather gather_S14x14x14x14_S128x512x2_S128x512x14x14_23_01_n_n_01_2_111414 x i) : C S14x14x14x14 .f32 (F := F) → C S128x512x2 .i32 (F := F) → C S128x512x14x14 .f32 (F := F)),
    unary main_v43 main_v44 ((transpose S128x14x14x512 [0, 2, 3, 1] · transposes_S128x512x14x14_S128x14x14x512_0_2_3_1) : C S128x512x14x14 .f32 (F := F) → C S128x14x14x512 .f32 (F := F)),
    binary main_arg0 main_v44 main_v45 (mulf : C S128x14x14x512 .f32 (F := F) → C S128x14x14x512 .f32 (F := F) → C S128x14x14x512 .f32 (F := F)),
    nullary main_call3_cst ((constant S_ .f32 0x00000000#32) : C S_ .f32 (F := F)),
    unary main_call3_cst main_call3_v0 ((broadcastInDim S128x14x14x512 ![] bcast_S_S128x14x14x512) : C S_ .f32 (F := F) → C S128x14x14x512 .f32 (F := F)),
    binary main_v45 main_call3_v0 main_v46 (maximumf : C S128x14x14x512 .f32 (F := F) → C S128x14x14x512 .f32 (F := F) → C S128x14x14x512 .f32 (F := F)) ]

/-- The zero border around the masked activations. -/
abbrev padO : List (HloOp τ sig (Elt F)) :=
  [ nullary main_c_9 (constantI S_ 32 0#32),
    unary main_c_9 main_call4_v0 ((sitofp .f32) : C S_ .i32 (F := F) → C S_ .f32 (F := F)),
    binary main_v46 main_call4_v0 main_v47 ((fun x v => pad S128x16x16x512 ![0, 1, 1, 0] ![0, 1, 1, 0] ![0, 0, 0, 0] x v pads_S128x14x14x512_S128x16x16x512_000_110_110_000 h_S_) : C S128x14x14x512 .f32 (F := F) → C S_ .f32 (F := F) → C S128x16x16x512 .f32 (F := F)) ]

/-- The nine products of the convolution, the bias and the rectifier. -/
abbrev cnv : List (HloOp τ sig (Elt F)) :=
  [ unary main_v47 main_v48 ((extractStridedSlice S128x14x14x512 ![0, 0, 0, 0] · slices_S128x16x16x512_S128x14x14x512_0_0_0_0) : C S128x16x16x512 .f32 (F := F) → C S128x14x14x512 .f32 (F := F)),
    unary main_arg2 main_v49 ((extractStridedSlice S1x1x512x512 ![0, 0, 0, 0] · slices_S3x3x512x512_S1x1x512x512_0_0_0_0) : C S3x3x512x512 .f32 (F := F) → C S1x1x512x512 .f32 (F := F)),
    reshape main_v49 main_v50 (rfl : (.f32 : EltTy) = .f32) shapeCasts_S1x1x512x512_S512x512,
    binary main_v48 main_v50 main_v51 ((fun l r => Host.dotGeneral dot_S128x14x14x512_S512x512_S128x14x14x512_3_0_012_1_n_n none l r) : C S128x14x14x512 .f32 (F := F) → C S512x512 .f32 (F := F) → C S128x14x14x512 .f32 (F := F)),
    nullary main_cst_10 (constant S_ .f32 0x00000000#32),
    unary main_cst_10 main_v52 (broadcastInDim S128x14x14x512 ![] bcast_S_S128x14x14x512 : C S_ .f32 (F := F) → C S128x14x14x512 .f32 (F := F)),
    binary main_v52 main_v51 main_v53 (addf : C S128x14x14x512 .f32 (F := F) → C S128x14x14x512 .f32 (F := F) → C S128x14x14x512 .f32 (F := F)),
    unary main_v47 main_v54 ((extractStridedSlice S128x14x14x512 ![0, 0, 1, 0] · slices_S128x16x16x512_S128x14x14x512_0_0_1_0) : C S128x16x16x512 .f32 (F := F) → C S128x14x14x512 .f32 (F := F)),
    unary main_arg2 main_v55 ((extractStridedSlice S1x1x512x512 ![0, 1, 0, 0] · slices_S3x3x512x512_S1x1x512x512_0_1_0_0) : C S3x3x512x512 .f32 (F := F) → C S1x1x512x512 .f32 (F := F)),
    reshape main_v55 main_v56 (rfl : (.f32 : EltTy) = .f32) shapeCasts_S1x1x512x512_S512x512,
    binary main_v54 main_v56 main_v57 ((fun l r => Host.dotGeneral dot_S128x14x14x512_S512x512_S128x14x14x512_3_0_012_1_n_n none l r) : C S128x14x14x512 .f32 (F := F) → C S512x512 .f32 (F := F) → C S128x14x14x512 .f32 (F := F)),
    binary main_v53 main_v57 main_v58 (addf : C S128x14x14x512 .f32 (F := F) → C S128x14x14x512 .f32 (F := F) → C S128x14x14x512 .f32 (F := F)),
    unary main_v47 main_v59 ((extractStridedSlice S128x14x14x512 ![0, 0, 2, 0] · slices_S128x16x16x512_S128x14x14x512_0_0_2_0) : C S128x16x16x512 .f32 (F := F) → C S128x14x14x512 .f32 (F := F)),
    unary main_arg2 main_v60 ((extractStridedSlice S1x1x512x512 ![0, 2, 0, 0] · slices_S3x3x512x512_S1x1x512x512_0_2_0_0) : C S3x3x512x512 .f32 (F := F) → C S1x1x512x512 .f32 (F := F)),
    reshape main_v60 main_v61 (rfl : (.f32 : EltTy) = .f32) shapeCasts_S1x1x512x512_S512x512,
    binary main_v59 main_v61 main_v62 ((fun l r => Host.dotGeneral dot_S128x14x14x512_S512x512_S128x14x14x512_3_0_012_1_n_n none l r) : C S128x14x14x512 .f32 (F := F) → C S512x512 .f32 (F := F) → C S128x14x14x512 .f32 (F := F)),
    binary main_v58 main_v62 main_v63 (addf : C S128x14x14x512 .f32 (F := F) → C S128x14x14x512 .f32 (F := F) → C S128x14x14x512 .f32 (F := F)),
    unary main_v47 main_v64 ((extractStridedSlice S128x14x14x512 ![0, 1, 0, 0] · slices_S128x16x16x512_S128x14x14x512_0_1_0_0) : C S128x16x16x512 .f32 (F := F) → C S128x14x14x512 .f32 (F := F)),
    unary main_arg2 main_v65 ((extractStridedSlice S1x1x512x512 ![1, 0, 0, 0] · slices_S3x3x512x512_S1x1x512x512_1_0_0_0) : C S3x3x512x512 .f32 (F := F) → C S1x1x512x512 .f32 (F := F)),
    reshape main_v65 main_v66 (rfl : (.f32 : EltTy) = .f32) shapeCasts_S1x1x512x512_S512x512,
    binary main_v64 main_v66 main_v67 ((fun l r => Host.dotGeneral dot_S128x14x14x512_S512x512_S128x14x14x512_3_0_012_1_n_n none l r) : C S128x14x14x512 .f32 (F := F) → C S512x512 .f32 (F := F) → C S128x14x14x512 .f32 (F := F)),
    binary main_v63 main_v67 main_v68 (addf : C S128x14x14x512 .f32 (F := F) → C S128x14x14x512 .f32 (F := F) → C S128x14x14x512 .f32 (F := F)),
    unary main_v47 main_v69 ((extractStridedSlice S128x14x14x512 ![0, 1, 1, 0] · slices_S128x16x16x512_S128x14x14x512_0_1_1_0) : C S128x16x16x512 .f32 (F := F) → C S128x14x14x512 .f32 (F := F)),
    unary main_arg2 main_v70 ((extractStridedSlice S1x1x512x512 ![1, 1, 0, 0] · slices_S3x3x512x512_S1x1x512x512_1_1_0_0) : C S3x3x512x512 .f32 (F := F) → C S1x1x512x512 .f32 (F := F)),
    reshape main_v70 main_v71 (rfl : (.f32 : EltTy) = .f32) shapeCasts_S1x1x512x512_S512x512,
    binary main_v69 main_v71 main_v72 ((fun l r => Host.dotGeneral dot_S128x14x14x512_S512x512_S128x14x14x512_3_0_012_1_n_n none l r) : C S128x14x14x512 .f32 (F := F) → C S512x512 .f32 (F := F) → C S128x14x14x512 .f32 (F := F)),
    binary main_v68 main_v72 main_v73 (addf : C S128x14x14x512 .f32 (F := F) → C S128x14x14x512 .f32 (F := F) → C S128x14x14x512 .f32 (F := F)),
    unary main_v47 main_v74 ((extractStridedSlice S128x14x14x512 ![0, 1, 2, 0] · slices_S128x16x16x512_S128x14x14x512_0_1_2_0) : C S128x16x16x512 .f32 (F := F) → C S128x14x14x512 .f32 (F := F)),
    unary main_arg2 main_v75 ((extractStridedSlice S1x1x512x512 ![1, 2, 0, 0] · slices_S3x3x512x512_S1x1x512x512_1_2_0_0) : C S3x3x512x512 .f32 (F := F) → C S1x1x512x512 .f32 (F := F)),
    reshape main_v75 main_v76 (rfl : (.f32 : EltTy) = .f32) shapeCasts_S1x1x512x512_S512x512,
    binary main_v74 main_v76 main_v77 ((fun l r => Host.dotGeneral dot_S128x14x14x512_S512x512_S128x14x14x512_3_0_012_1_n_n none l r) : C S128x14x14x512 .f32 (F := F) → C S512x512 .f32 (F := F) → C S128x14x14x512 .f32 (F := F)),
    binary main_v73 main_v77 main_v78 (addf : C S128x14x14x512 .f32 (F := F) → C S128x14x14x512 .f32 (F := F) → C S128x14x14x512 .f32 (F := F)),
    unary main_v47 main_v79 ((extractStridedSlice S128x14x14x512 ![0, 2, 0, 0] · slices_S128x16x16x512_S128x14x14x512_0_2_0_0) : C S128x16x16x512 .f32 (F := F) → C S128x14x14x512 .f32 (F := F)),
    unary main_arg2 main_v80 ((extractStridedSlice S1x1x512x512 ![2, 0, 0, 0] · slices_S3x3x512x512_S1x1x512x512_2_0_0_0) : C S3x3x512x512 .f32 (F := F) → C S1x1x512x512 .f32 (F := F)),
    reshape main_v80 main_v81 (rfl : (.f32 : EltTy) = .f32) shapeCasts_S1x1x512x512_S512x512,
    binary main_v79 main_v81 main_v82 ((fun l r => Host.dotGeneral dot_S128x14x14x512_S512x512_S128x14x14x512_3_0_012_1_n_n none l r) : C S128x14x14x512 .f32 (F := F) → C S512x512 .f32 (F := F) → C S128x14x14x512 .f32 (F := F)),
    binary main_v78 main_v82 main_v83 (addf : C S128x14x14x512 .f32 (F := F) → C S128x14x14x512 .f32 (F := F) → C S128x14x14x512 .f32 (F := F)),
    unary main_v47 main_v84 ((extractStridedSlice S128x14x14x512 ![0, 2, 1, 0] · slices_S128x16x16x512_S128x14x14x512_0_2_1_0) : C S128x16x16x512 .f32 (F := F) → C S128x14x14x512 .f32 (F := F)),
    unary main_arg2 main_v85 ((extractStridedSlice S1x1x512x512 ![2, 1, 0, 0] · slices_S3x3x512x512_S1x1x512x512_2_1_0_0) : C S3x3x512x512 .f32 (F := F) → C S1x1x512x512 .f32 (F := F)),
    reshape main_v85 main_v86 (rfl : (.f32 : EltTy) = .f32) shapeCasts_S1x1x512x512_S512x512,
    binary main_v84 main_v86 main_v87 ((fun l r => Host.dotGeneral dot_S128x14x14x512_S512x512_S128x14x14x512_3_0_012_1_n_n none l r) : C S128x14x14x512 .f32 (F := F) → C S512x512 .f32 (F := F) → C S128x14x14x512 .f32 (F := F)),
    binary main_v83 main_v87 main_v88 (addf : C S128x14x14x512 .f32 (F := F) → C S128x14x14x512 .f32 (F := F) → C S128x14x14x512 .f32 (F := F)),
    unary main_v47 main_v89 ((extractStridedSlice S128x14x14x512 ![0, 2, 2, 0] · slices_S128x16x16x512_S128x14x14x512_0_2_2_0) : C S128x16x16x512 .f32 (F := F) → C S128x14x14x512 .f32 (F := F)),
    unary main_arg2 main_v90 ((extractStridedSlice S1x1x512x512 ![2, 2, 0, 0] · slices_S3x3x512x512_S1x1x512x512_2_2_0_0) : C S3x3x512x512 .f32 (F := F) → C S1x1x512x512 .f32 (F := F)),
    reshape main_v90 main_v91 (rfl : (.f32 : EltTy) = .f32) shapeCasts_S1x1x512x512_S512x512,
    binary main_v89 main_v91 main_v92 ((fun l r => Host.dotGeneral dot_S128x14x14x512_S512x512_S128x14x14x512_3_0_012_1_n_n none l r) : C S128x14x14x512 .f32 (F := F) → C S512x512 .f32 (F := F) → C S128x14x14x512 .f32 (F := F)),
    binary main_v88 main_v92 main_v93 (addf : C S128x14x14x512 .f32 (F := F) → C S128x14x14x512 .f32 (F := F) → C S128x14x14x512 .f32 (F := F)),
    unary main_arg3 main_v94 (broadcastInDim S1x1x1x512 ![3] bcast_S512_S1x1x1x512_3 : C S512 .f32 (F := F) → C S1x1x1x512 .f32 (F := F)),
    unary main_v94 main_v95 (broadcastInDim S128x14x14x512 ![0, 1, 2, 3] bcast_S1x1x1x512_S128x14x14x512_0_1_2_3 : C S1x1x1x512 .f32 (F := F) → C S128x14x14x512 .f32 (F := F)),
    binary main_v93 main_v95 main_v96 (addf : C S128x14x14x512 .f32 (F := F) → C S128x14x14x512 .f32 (F := F) → C S128x14x14x512 .f32 (F := F)),
    nullary main_call5_cst ((constant S_ .f32 0x00000000#32) : C S_ .f32 (F := F)),
    unary main_call5_cst main_call5_v0 ((broadcastInDim S128x14x14x512 ![] bcast_S_S128x14x14x512) : C S_ .f32 (F := F) → C S128x14x14x512 .f32 (F := F)),
    binary main_v96 main_call5_v0 main_v97 (maximumf : C S128x14x14x512 .f32 (F := F) → C S128x14x14x512 .f32 (F := F) → C S128x14x14x512 .f32 (F := F)) ]

/-- The second position search, and its quotient and remainder by 14. -/
abbrev div2 : List (HloOp τ sig (Elt F)) :=
  [ reshape main_v97 main_v98 (rfl : (.f32 : EltTy) = .f32) shapeCasts_S128x14x14x512_S128x196x512,
    nullary main_call6_v0 ((iotaInDim S128x196x512 32 1) : C S128x196x512 .i32 (F := F)),
    nullary main_call6_cst ((constant S_ .f32 0xFF800000#32) : C S_ .f32 (F := F)),
    nullary main_call6_c ((constantI S_ 32 0#32) : C S_ .i32 (F := F)),
    quaternary main_v98 main_call6_v0 main_call6_cst main_call6_c main_call6_v1_0 (argmaxVal : C S128x196x512 .f32 (F := F) → C S128x196x512 .i32 (F := F) → C S_ .f32 (F := F) → C S_ .i32 (F := F) → C S128x512 .f32 (F := F)),
    quaternary main_v98 main_call6_v0 main_call6_cst main_call6_c main_v99 (argmaxIdx : C S128x196x512 .f32 (F := F) → C S128x196x512 .i32 (F := F) → C S_ .f32 (F := F) → C S_ .i32 (F := F) → C S128x512 .i32 (F := F)),
    nullary main_c_11 (constantI S_ 32 14#32),
    unary main_c_11 main_call7_v0 (id : C S_ .i32 (F := F) → C S_ .i32 (F := F)),
    unary main_call7_v0 main_call7_v1 ((broadcastInDim S128x512 ![] bcast_S_S128x512) : C S_ .i32 (F := F) → C S128x512 .i32 (F := F)),
    binary main_v99 main_call7_v1 main_call7_v2 (Host.divsi : C S128x512 .i32 (F := F) → C S128x512 .i32 (F := F) → C S128x512 .i32 (F := F)),
    unary main_v99 main_call7_v3 (signi : C S128x512 .i32 (F := F) → C S128x512 .i32 (F := F)),
    unary main_call7_v0 main_call7_v4 (signi : C S_ .i32 (F := F) → C S_ .i32 (F := F)),
    unary main_call7_v4 main_call7_v5 ((broadcastInDim S128x512 ![] bcast_S_S128x512) : C S_ .i32 (F := F) → C S128x512 .i32 (F := F)),
    binary main_call7_v3 main_call7_v5 main_call7_v6 ((cmpi .ne) : C S128x512 .i32 (F := F) → C S128x512 .i32 (F := F) → C S128x512 .i1 (F := F)),
    unary main_call7_v0 main_call7_v7 ((broadcastInDim S128x512 ![] bcast_S_S128x512) : C S_ .i32 (F := F) → C S128x512 .i32 (F := F)),
    binary main_v99 main_call7_v7 main_call7_v8 (Host.remsi : C S128x512 .i32 (F := F) → C S128x512 .i32 (F := F) → C S128x512 .i32 (F := F)),
    nullary main_call7_c ((constantI S_ 32 0#32) : C S_ .i32 (F := F)),
    unary main_call7_c main_call7_v9 ((broadcastInDim S128x512 ![] bcast_S_S128x512) : C S_ .i32 (F := F) → C S128x512 .i32 (F := F)),
    binary main_call7_v8 main_call7_v9 main_call7_v10 ((cmpi .ne) : C S128x512 .i32 (F := F) → C S128x512 .i32 (F := F) → C S128x512 .i1 (F := F)),
    binary main_call7_v6 main_call7_v10 main_call7_v11 (andi : C S128x512 .i1 (F := F) → C S128x512 .i1 (F := F) → C S128x512 .i1 (F := F)),
    nullary main_call7_c_0 ((constantI S_ 32 1#32) : C S_ .i32 (F := F)),
    unary main_call7_c_0 main_call7_v12 ((broadcastInDim S128x512 ![] bcast_S_S128x512) : C S_ .i32 (F := F) → C S128x512 .i32 (F := F)),
    binary main_call7_v2 main_call7_v12 main_call7_v13 (subi : C S128x512 .i32 (F := F) → C S128x512 .i32 (F := F) → C S128x512 .i32 (F := F)),
    ternary main_call7_v11 main_call7_v13 main_call7_v2 main_v100 (select : C S128x512 .i1 (F := F) → C S128x512 .i32 (F := F) → C S128x512 .i32 (F := F) → C S128x512 .i32 (F := F)),
    nullary main_c_12 (constantI S_ 32 14#32),
    unary main_c_12 main_call8_v0 (id : C S_ .i32 (F := F) → C S_ .i32 (F := F)),
    nullary main_call8_c ((constantI S_ 32 0#32) : C S_ .i32 (F := F)),
    binary main_call8_v0 main_call8_c main_call8_v1 ((cmpi .eq) : C S_ .i32 (F := F) → C S_ .i32 (F := F) → C S_ .i1 (F := F)),
    nullary main_call8_c_0 ((constantI S_ 32 1#32) : C S_ .i32 (F := F)),
    ternary main_call8_v1 main_call8_c_0 main_call8_v0 main_call8_v2 (select : C S_ .i1 (F := F) → C S_ .i32 (F := F) → C S_ .i32 (F := F) → C S_ .i32 (F := F)),
    unary main_call8_v2 main_call8_v3 ((broadcastInDim S128x512 ![] bcast_S_S128x512) : C S_ .i32 (F := F) → C S128x512 .i32 (F := F)),
    binary main_v99 main_call8_v3 main_call8_v4 (Host.remsi : C S128x512 .i32 (F := F) → C S128x512 .i32 (F := F) → C S128x512 .i32 (F := F)),
    nullary main_call8_c_1 ((constantI S_ 32 0#32) : C S_ .i32 (F := F)),
    unary main_call8_c_1 main_call8_v5 ((broadcastInDim S128x512 ![] bcast_S_S128x512) : C S_ .i32 (F := F) → C S128x512 .i32 (F := F)),
    binary main_call8_v4 main_call8_v5 main_call8_v6 ((cmpi .ne) : C S128x512 .i32 (F := F) → C S128x512 .i32 (F := F) → C S128x512 .i1 (F := F)),
    nullary main_call8_c_2 ((constantI S_ 32 0#32) : C S_ .i32 (F := F)),
    unary main_call8_c_2 main_call8_v7 ((broadcastInDim S128x512 ![] bcast_S_S128x512) : C S_ .i32 (F := F) → C S128x512 .i32 (F := F)),
    binary main_call8_v4 main_call8_v7 main_call8_v8 ((cmpi .slt) : C S128x512 .i32 (F := F) → C S128x512 .i32 (F := F) → C S128x512 .i1 (F := F)),
    nullary main_call8_c_3 ((constantI S_ 32 0#32) : C S_ .i32 (F := F)),
    binary main_call8_v2 main_call8_c_3 main_call8_v9 ((cmpi .slt) : C S_ .i32 (F := F) → C S_ .i32 (F := F) → C S_ .i1 (F := F)),
    unary main_call8_v9 main_call8_v10 ((broadcastInDim S128x512 ![] bcast_S_S128x512) : C S_ .i1 (F := F) → C S128x512 .i1 (F := F)),
    binary main_call8_v8 main_call8_v10 main_call8_v11 ((cmpi .ne) : C S128x512 .i1 (F := F) → C S128x512 .i1 (F := F) → C S128x512 .i1 (F := F)),
    binary main_call8_v11 main_call8_v6 main_call8_v12 (andi : C S128x512 .i1 (F := F) → C S128x512 .i1 (F := F) → C S128x512 .i1 (F := F)),
    unary main_call8_v2 main_call8_v13 ((broadcastInDim S128x512 ![] bcast_S_S128x512) : C S_ .i32 (F := F) → C S128x512 .i32 (F := F)),
    binary main_call8_v4 main_call8_v13 main_call8_v14 (addi : C S128x512 .i32 (F := F) → C S128x512 .i32 (F := F) → C S128x512 .i32 (F := F)),
    ternary main_call8_v12 main_call8_v14 main_call8_v4 main_v101 (select : C S128x512 .i1 (F := F) → C S128x512 .i32 (F := F) → C S128x512 .i32 (F := F) → C S128x512 .i32 (F := F)) ]

/-- The second masking, first operations. -/
abbrev msk2a : List (HloOp τ sig (Elt F)) :=
  [ nullary main_c_13 (constantI S_ 32 0#32),
    unary main_c_13 main_v102 (broadcastInDim S128x512 ![] bcast_S_S128x512 : C S_ .i32 (F := F) → C S128x512 .i32 (F := F)),
    binary main_v100 main_v102 main_v103 (cmpi .slt : C S128x512 .i32 (F := F) → C S128x512 .i32 (F := F) → C S128x512 .i1 (F := F)) ]

/-- The second masking, the other operations. -/
abbrev msk2b : List (HloOp τ sig (Elt F)) :=
  [ nullary main_c_14 (constantI S_ 32 14#32),
    unary main_c_14 main_v104 (broadcastInDim S128x512 ![] bcast_S_S128x512 : C S_ .i32 (F := F) → C S128x512 .i32 (F := F)),
    binary main_v100 main_v104 main_v105 (addi : C S128x512 .i32 (F := F) → C S128x512 .i32 (F := F) → C S128x512 .i32 (F := F)),
    ternary main_v103 main_v105 main_v100 main_v106 (select : C S128x512 .i1 (F := F) → C S128x512 .i32 (F := F) → C S128x512 .i32 (F := F) → C S128x512 .i32 (F := F)),
    nullary main_c_15 (constantI S_ 32 0#32),
    unary main_c_15 main_v107 (broadcastInDim S128x512 ![] bcast_S_S128x512 : C S_ .i32 (F := F) → C S128x512 .i32 (F := F)),
    binary main_v101 main_v107 main_v108 (cmpi .slt : C S128x512 .i32 (F := F) → C S128x512 .i32 (F := F) → C S128x512 .i1 (F := F)),
    nullary main_c_16 (constantI S_ 32 14#32),
    unary main_c_16 main_v109 (broadcastInDim S128x512 ![] bcast_S_S128x512 : C S_ .i32 (F := F) → C S128x512 .i32 (F := F)),
    binary main_v101 main_v109 main_v110 (addi : C S128x512 .i32 (F := F) → C S128x512 .i32 (F := F) → C S128x512 .i32 (F := F)),
    ternary main_v108 main_v110 main_v101 main_v111 (select : C S128x512 .i1 (F := F) → C S128x512 .i32 (F := F) → C S128x512 .i32 (F := F) → C S128x512 .i32 (F := F)),
    unary main_v106 main_v112 (broadcastInDim S128x512x1 ![0, 1] bcast_S128x512_S128x512x1_0_1 : C S128x512 .i32 (F := F) → C S128x512x1 .i32 (F := F)),
    unary main_v111 main_v113 (broadcastInDim S128x512x1 ![0, 1] bcast_S128x512_S128x512x1_0_1 : C S128x512 .i32 (F := F) → C S128x512x1 .i32 (F := F)),
    binary main_v112 main_v113 main_v114 (pair (F := F)),
    binary main_v25 main_v114 main_v115 ((fun x i => Host.gather gather_S14x14x14x14_S128x512x2_S128x512x14x14_23_01_n_n_01_2_111414 x i) : C S14x14x14x14 .f32 (F := F) → C S128x512x2 .i32 (F := F) → C S128x512x14x14 .f32 (F := F)),
    unary main_v115 main_v116 ((transpose S128x14x14x512 [0, 2, 3, 1] · transposes_S128x512x14x14_S128x14x14x512_0_2_3_1) : C S128x512x14x14 .f32 (F := F) → C S128x14x14x512 .f32 (F := F)),
    binary main_v97 main_v116 main_v117 (mulf : C S128x14x14x512 .f32 (F := F) → C S128x14x14x512 .f32 (F := F) → C S128x14x14x512 .f32 (F := F)),
    nullary main_call9_cst ((constant S_ .f32 0x00000000#32) : C S_ .f32 (F := F)),
    unary main_call9_cst main_call9_v0 ((broadcastInDim S128x14x14x512 ![] bcast_S_S128x14x14x512) : C S_ .f32 (F := F) → C S128x14x14x512 .f32 (F := F)),
    binary main_v117 main_call9_v0 main_v118 (maximumf : C S128x14x14x512 .f32 (F := F) → C S128x14x14x512 .f32 (F := F) → C S128x14x14x512 .f32 (F := F)) ]

/-- The first results: reshapes, the window maximum and the two means. -/
abbrev resO : List (HloOp τ sig (Elt F)) :=
  [ nullary main_cst_17 (constant S_ .f32 0xFF800000#32),
    unary main_cst_17 main_v119 (broadcastInDim S_ ![] bcast_S_S_ : C S_ .f32 (F := F) → C S_ .f32 (F := F)),
    binary main_v118 main_v119 main_v120 ((fun x v => Host.reduceWindow FloatOps.maximumf ![1, 2, 2, 1] ![1, 2, 2, 1] ![0, 0, 0, 0] ![0, 0, 0, 0] x v reduceWindows_S128x14x14x512_S128x7x7x512_w1s1p0_0_w2s2p0_0_w2s2p0_0_w1s1p0_0 h_S_) : C S128x14x14x512 .f32 (F := F) → C S_ .f32 (F := F) → C S128x7x7x512 .f32 (F := F)),
    reshape main_v46 main_v121 (rfl : (.f32 : EltTy) = .f32) shapeCasts_S128x14x14x512_S128x196x512,
    reshape main_v118 main_v122 (rfl : (.f32 : EltTy) = .f32) shapeCasts_S128x14x14x512_S128x196x512,
    reshape main_v120 main_v123 (rfl : (.f32 : EltTy) = .f32) shapeCasts_S128x7x7x512_S128x49x512,
    nullary main_cst_18 (constant S_ .f32 0x00000000#32),
    binary main_v46 main_cst_18 main_v124 ((fun x v => Host.reduceAdd x v reducesTo_S128x14x14x512_S128x512_d1_2 h_S_) : C S128x14x14x512 .f32 (F := F) → C S_ .f32 (F := F) → C S128x512 .f32 (F := F)),
    nullary main_cst_19 (constant S_ .f32 0x43440000#32),
    unary main_cst_19 main_v125 (broadcastInDim S128x512 ![] bcast_S_S128x512 : C S_ .f32 (F := F) → C S128x512 .f32 (F := F)),
    binary main_v124 main_v125 main_v126 (Host.divf : C S128x512 .f32 (F := F) → C S128x512 .f32 (F := F) → C S128x512 .f32 (F := F)),
    reshape main_v126 main_v127 (rfl : (.f32 : EltTy) = .f32) shapeCasts_S128x512_S128x1x512,
    nullary main_cst_20 (constant S_ .f32 0x00000000#32),
    binary main_v118 main_cst_20 main_v128 ((fun x v => Host.reduceAdd x v reducesTo_S128x14x14x512_S128x512_d1_2 h_S_) : C S128x14x14x512 .f32 (F := F) → C S_ .f32 (F := F) → C S128x512 .f32 (F := F)),
    nullary main_cst_21 (constant S_ .f32 0x43440000#32),
    unary main_cst_21 main_v129 (broadcastInDim S128x512 ![] bcast_S_S128x512 : C S_ .f32 (F := F) → C S128x512 .f32 (F := F)),
    binary main_v128 main_v129 main_v130 (Host.divf : C S128x512 .f32 (F := F) → C S128x512 .f32 (F := F) → C S128x512 .f32 (F := F)),
    reshape main_v130 main_v131 (rfl : (.f32 : EltTy) = .f32) shapeCasts_S128x512_S128x1x512,
    reshape main_v27 main_v132 (rfl : (.i32 : EltTy) = .i32) shapeCasts_S128x512_S128x1x512,
    reshape main_v99 main_v133 (rfl : (.i32 : EltTy) = .i32) shapeCasts_S128x512_S128x1x512 ]

/-- The dense layer and its softmax. -/
abbrev den : List (HloOp τ sig (Elt F)) :=
  [ reshape main_v123 main_v134 (rfl : (.f32 : EltTy) = .f32) shapeCasts_S128x49x512_S128x25088,
    binary main_v134 main_arg4 main_v135 ((fun l r => Host.dotGeneral dot_S128x25088_S25088x10_S128x10_1_0_0_1_n_n none l r) : C S128x25088 .f32 (F := F) → C S25088x10 .f32 (F := F) → C S128x10 .f32 (F := F)),
    unary main_arg5 main_v136 (broadcastInDim S1x10 ![1] bcast_S10_S1x10_1 : C S10 .f32 (F := F) → C S1x10 .f32 (F := F)),
    unary main_v136 main_v137 (broadcastInDim S128x10 ![0, 1] bcast_S1x10_S128x10_0_1 : C S1x10 .f32 (F := F) → C S128x10 .f32 (F := F)),
    binary main_v135 main_v137 main_v138 (addf : C S128x10 .f32 (F := F) → C S128x10 .f32 (F := F) → C S128x10 .f32 (F := F)),
    nullary main_cst_22 (constant S_ .f32 0xFF800000#32),
    binary main_v138 main_cst_22 main_v139 ((fun x v => Host.reduce FloatOps.maximumf x v reducesTo_S128x10_S128_d1 h_S_) : C S128x10 .f32 (F := F) → C S_ .f32 (F := F) → C S128 .f32 (F := F)),
    nullary main_cst_23 (constant S_ .f32 0xFF800000#32),
    unary main_cst_23 main_v140 (broadcastInDim S128 ![] bcast_S_S128 : C S_ .f32 (F := F) → C S128 .f32 (F := F)),
    binary main_v140 main_v139 main_v141 (maximumf : C S128 .f32 (F := F) → C S128 .f32 (F := F) → C S128 .f32 (F := F)),
    unary main_v141 main_v142 (broadcastInDim S128x1 ![0] bcast_S128_S128x1_0 : C S128 .f32 (F := F) → C S128x1 .f32 (F := F)),
    unary main_v142 main_v143 (broadcastInDim S128x10 ![0, 1] bcast_S128x1_S128x10_0_1 : C S128x1 .f32 (F := F) → C S128x10 .f32 (F := F)),
    binary main_v138 main_v143 main_v144 (subf : C S128x10 .f32 (F := F) → C S128x10 .f32 (F := F) → C S128x10 .f32 (F := F)),
    unary main_v144 main_v145 (Host.exp : C S128x10 .f32 (F := F) → C S128x10 .f32 (F := F)),
    nullary main_cst_24 (constant S_ .f32 0x00000000#32),
    binary main_v145 main_cst_24 main_v146 ((fun x v => Host.reduceAdd x v reducesTo_S128x10_S128_d1 h_S_) : C S128x10 .f32 (F := F) → C S_ .f32 (F := F) → C S128 .f32 (F := F)),
    unary main_v146 main_v147 (broadcastInDim S128x1 ![0] bcast_S128_S128x1_0 : C S128 .f32 (F := F) → C S128x1 .f32 (F := F)),
    unary main_v147 main_v148 (broadcastInDim S128x10 ![0, 1] bcast_S128x1_S128x10_0_1 : C S128x1 .f32 (F := F) → C S128x10 .f32 (F := F)),
    binary main_v145 main_v148 main_v149 (Host.divf : C S128x10 .f32 (F := F) → C S128x10 .f32 (F := F) → C S128x10 .f32 (F := F)) ]

/-- The first classes of the filters, first operations. -/
abbrev fstA : List (HloOp τ sig (Elt F)) :=
  [ reshape main_v127 main_v150 (rfl : (.f32 : EltTy) = .f32) shapeCasts_S128x1x512_S128x512,
    unary main_arg1 main_call10_v0 ((broadcastInDim S128x1 ![0] bcast_S128_S128x1_0) : C S128 .i32 (F := F) → C S128x1 .i32 (F := F)),
    nullary main_call10_v1 ((iotaInDim S1x10 32 1) : C S1x10 .i32 (F := F)),
    unary main_call10_v0 main_call10_v2 ((broadcastInDim S128x10 ![0, 1] bcast_S128x1_S128x10_0_1) : C S128x1 .i32 (F := F) → C S128x10 .i32 (F := F)),
    unary main_call10_v1 main_call10_v3 ((broadcastInDim S128x10 ![0, 1] bcast_S1x10_S128x10_0_1) : C S1x10 .i32 (F := F) → C S128x10 .i32 (F := F)),
    binary main_call10_v2 main_call10_v3 main_call10_v4 ((cmpi .eq) : C S128x10 .i32 (F := F) → C S128x10 .i32 (F := F) → C S128x10 .i1 (F := F)),
    unary main_call10_v4 main_v151 ((uitofp .f32) : C S128x10 .i1 (F := F) → C S128x10 .f32 (F := F)),
    nullary main_cst_25 (constant S_ .f32 0x00000000#32) ]

/-- The first classes of the filters, the other operations. -/
abbrev fstB : List (HloOp τ sig (Elt F)) :=
  [ binary main_v151 main_cst_25 main_v152 ((fun x v => Host.reduceAdd x v reducesTo_S128x10_S10_d0 h_S_) : C S128x10 .f32 (F := F) → C S_ .f32 (F := F) → C S10 .f32 (F := F)),
    binary main_arg8 main_v152 main_v153 (addf : C S10 .f32 (F := F) → C S10 .f32 (F := F) → C S10 .f32 (F := F)),
    unary main_v150 main_v154 ((transpose S512x128 [1, 0] · transposes_S128x512_S512x128_1_0) : C S128x512 .f32 (F := F) → C S512x128 .f32 (F := F)),
    binary main_v154 main_v151 main_v155 ((fun l r => Host.dotGeneral dot_S512x128_S128x10_S512x10_1_0_0_1_n_n none l r) : C S512x128 .f32 (F := F) → C S128x10 .f32 (F := F) → C S512x10 .f32 (F := F)),
    binary main_arg6 main_v155 main_v156 (addf : C S512x10 .f32 (F := F) → C S512x10 .f32 (F := F) → C S512x10 .f32 (F := F)),
    unary main_v153 main_v157 (broadcastInDim S1x10 ![1] bcast_S10_S1x10_1 : C S10 .f32 (F := F) → C S1x10 .f32 (F := F)),
    nullary main_cst_26 (constant S_ .f32 0x00000000#32),
    unary main_cst_26 main_v158 (broadcastInDim S1x10 ![] bcast_S_S1x10 : C S_ .f32 (F := F) → C S1x10 .f32 (F := F)),
    binary main_v157 main_v158 main_v159 (cmpf .oeq : C S1x10 .f32 (F := F) → C S1x10 .f32 (F := F) → C S1x10 .i1 (F := F)),
    unary main_v153 main_v160 (broadcastInDim S1x10 ![1] bcast_S10_S1x10_1 : C S10 .f32 (F := F) → C S1x10 .f32 (F := F)),
    nullary main_cst_27 (constant S_ .f32 0x00000000#32),
    unary main_cst_27 main_v161 (broadcastInDim S1x10 ![] bcast_S_S1x10 : C S_ .f32 (F := F) → C S1x10 .f32 (F := F)),
    binary main_v160 main_v161 main_v162 (cmpf .oeq : C S1x10 .f32 (F := F) → C S1x10 .f32 (F := F) → C S1x10 .i1 (F := F)),
    unary main_v153 main_v163 (broadcastInDim S1x10 ![1] bcast_S10_S1x10_1 : C S10 .f32 (F := F) → C S1x10 .f32 (F := F)),
    nullary main_cst_28 (constant S_ .f32 0x3F800000#32),
    unary main_cst_28 main_call11_v0 (id : C S_ .f32 (F := F) → C S_ .f32 (F := F)),
    unary main_call11_v0 main_call11_v1 ((broadcastInDim S1x10 ![] bcast_S_S1x10) : C S_ .f32 (F := F) → C S1x10 .f32 (F := F)),
    ternary main_v162 main_call11_v1 main_v163 main_v164 (select : C S1x10 .i1 (F := F) → C S1x10 .f32 (F := F) → C S1x10 .f32 (F := F) → C S1x10 .f32 (F := F)),
    unary main_v164 main_v165 (broadcastInDim S512x10 ![0, 1] bcast_S1x10_S512x10_0_1 : C S1x10 .f32 (F := F) → C S512x10 .f32 (F := F)),
    binary main_v156 main_v165 main_v166 (Host.divf : C S512x10 .f32 (F := F) → C S512x10 .f32 (F := F) → C S512x10 .f32 (F := F)),
    nullary main_cst_29 (constant S_ .f32 0x00000000#32),
    unary main_cst_29 main_call12_v0 (id : C S_ .f32 (F := F) → C S_ .f32 (F := F)),
    unary main_v159 main_call12_v1 ((broadcastInDim S512x10 ![0, 1] bcast_S1x10_S512x10_0_1) : C S1x10 .i1 (F := F) → C S512x10 .i1 (F := F)),
    unary main_call12_v0 main_call12_v2 ((broadcastInDim S512x10 ![] bcast_S_S512x10) : C S_ .f32 (F := F) → C S512x10 .f32 (F := F)),
    ternary main_call12_v1 main_call12_v2 main_v166 main_v167 (select : C S512x10 .i1 (F := F) → C S512x10 .f32 (F := F) → C S512x10 .f32 (F := F) → C S512x10 .f32 (F := F)),
    nullary main_call13_v0 ((iotaInDim S512x10 32 1) : C S512x10 .i32 (F := F)),
    nullary main_call13_cst ((constant S_ .f32 0xFF800000#32) : C S_ .f32 (F := F)),
    nullary main_call13_c ((constantI S_ 32 0#32) : C S_ .i32 (F := F)),
    quaternary main_v167 main_call13_v0 main_call13_cst main_call13_c main_call13_v1_0 (argmaxVal2 : C S512x10 .f32 (F := F) → C S512x10 .i32 (F := F) → C S_ .f32 (F := F) → C S_ .i32 (F := F) → C S512 .f32 (F := F)),
    quaternary main_v167 main_call13_v0 main_call13_cst main_call13_c main_v168 (argmaxIdx2 : C S512x10 .f32 (F := F) → C S512x10 .i32 (F := F) → C S_ .f32 (F := F) → C S_ .i32 (F := F) → C S512 .i32 (F := F)),
    reshape main_v168 main_v169 (rfl : (.i32 : EltTy) = .i32) shapeCasts_S512_S1x512 ]

/-- The second classes of the filters. -/
abbrev sndO : List (HloOp τ sig (Elt F)) :=
  [ reshape main_v131 main_v170 (rfl : (.f32 : EltTy) = .f32) shapeCasts_S128x1x512_S128x512,
    unary main_arg1 main_call14_v0 ((broadcastInDim S128x1 ![0] bcast_S128_S128x1_0) : C S128 .i32 (F := F) → C S128x1 .i32 (F := F)),
    nullary main_call14_v1 ((iotaInDim S1x10 32 1) : C S1x10 .i32 (F := F)),
    unary main_call14_v0 main_call14_v2 ((broadcastInDim S128x10 ![0, 1] bcast_S128x1_S128x10_0_1) : C S128x1 .i32 (F := F) → C S128x10 .i32 (F := F)),
    unary main_call14_v1 main_call14_v3 ((broadcastInDim S128x10 ![0, 1] bcast_S1x10_S128x10_0_1) : C S1x10 .i32 (F := F) → C S128x10 .i32 (F := F)),
    binary main_call14_v2 main_call14_v3 main_call14_v4 ((cmpi .eq) : C S128x10 .i32 (F := F) → C S128x10 .i32 (F := F) → C S128x10 .i1 (F := F)),
    unary main_call14_v4 main_v171 ((uitofp .f32) : C S128x10 .i1 (F := F) → C S128x10 .f32 (F := F)),
    nullary main_cst_30 (constant S_ .f32 0x00000000#32),
    binary main_v171 main_cst_30 main_v172 ((fun x v => Host.reduceAdd x v reducesTo_S128x10_S10_d0 h_S_) : C S128x10 .f32 (F := F) → C S_ .f32 (F := F) → C S10 .f32 (F := F)),
    binary main_arg9 main_v172 main_v173 (addf : C S10 .f32 (F := F) → C S10 .f32 (F := F) → C S10 .f32 (F := F)),
    unary main_v170 main_v174 ((transpose S512x128 [1, 0] · transposes_S128x512_S512x128_1_0) : C S128x512 .f32 (F := F) → C S512x128 .f32 (F := F)),
    binary main_v174 main_v171 main_v175 ((fun l r => Host.dotGeneral dot_S512x128_S128x10_S512x10_1_0_0_1_n_n none l r) : C S512x128 .f32 (F := F) → C S128x10 .f32 (F := F) → C S512x10 .f32 (F := F)),
    binary main_arg7 main_v175 main_v176 (addf : C S512x10 .f32 (F := F) → C S512x10 .f32 (F := F) → C S512x10 .f32 (F := F)),
    unary main_v173 main_v177 (broadcastInDim S1x10 ![1] bcast_S10_S1x10_1 : C S10 .f32 (F := F) → C S1x10 .f32 (F := F)),
    nullary main_cst_31 (constant S_ .f32 0x00000000#32),
    unary main_cst_31 main_v178 (broadcastInDim S1x10 ![] bcast_S_S1x10 : C S_ .f32 (F := F) → C S1x10 .f32 (F := F)),
    binary main_v177 main_v178 main_v179 (cmpf .oeq : C S1x10 .f32 (F := F) → C S1x10 .f32 (F := F) → C S1x10 .i1 (F := F)),
    unary main_v173 main_v180 (broadcastInDim S1x10 ![1] bcast_S10_S1x10_1 : C S10 .f32 (F := F) → C S1x10 .f32 (F := F)),
    nullary main_cst_32 (constant S_ .f32 0x00000000#32),
    unary main_cst_32 main_v181 (broadcastInDim S1x10 ![] bcast_S_S1x10 : C S_ .f32 (F := F) → C S1x10 .f32 (F := F)),
    binary main_v180 main_v181 main_v182 (cmpf .oeq : C S1x10 .f32 (F := F) → C S1x10 .f32 (F := F) → C S1x10 .i1 (F := F)),
    unary main_v173 main_v183 (broadcastInDim S1x10 ![1] bcast_S10_S1x10_1 : C S10 .f32 (F := F) → C S1x10 .f32 (F := F)),
    nullary main_cst_33 (constant S_ .f32 0x3F800000#32),
    unary main_cst_33 main_call15_v0 (id : C S_ .f32 (F := F) → C S_ .f32 (F := F)),
    unary main_call15_v0 main_call15_v1 ((broadcastInDim S1x10 ![] bcast_S_S1x10) : C S_ .f32 (F := F) → C S1x10 .f32 (F := F)),
    ternary main_v182 main_call15_v1 main_v183 main_v184 (select : C S1x10 .i1 (F := F) → C S1x10 .f32 (F := F) → C S1x10 .f32 (F := F) → C S1x10 .f32 (F := F)),
    unary main_v184 main_v185 (broadcastInDim S512x10 ![0, 1] bcast_S1x10_S512x10_0_1 : C S1x10 .f32 (F := F) → C S512x10 .f32 (F := F)),
    binary main_v176 main_v185 main_v186 (Host.divf : C S512x10 .f32 (F := F) → C S512x10 .f32 (F := F) → C S512x10 .f32 (F := F)),
    nullary main_cst_34 (constant S_ .f32 0x00000000#32),
    unary main_cst_34 main_call16_v0 (id : C S_ .f32 (F := F) → C S_ .f32 (F := F)),
    unary main_v179 main_call16_v1 ((broadcastInDim S512x10 ![0, 1] bcast_S1x10_S512x10_0_1) : C S1x10 .i1 (F := F) → C S512x10 .i1 (F := F)),
    unary main_call16_v0 main_call16_v2 ((broadcastInDim S512x10 ![] bcast_S_S512x10) : C S_ .f32 (F := F) → C S512x10 .f32 (F := F)),
    ternary main_call16_v1 main_call16_v2 main_v186 main_v187 (select : C S512x10 .i1 (F := F) → C S512x10 .f32 (F := F) → C S512x10 .f32 (F := F) → C S512x10 .f32 (F := F)),
    nullary main_call17_v0 ((iotaInDim S512x10 32 1) : C S512x10 .i32 (F := F)),
    nullary main_call17_cst ((constant S_ .f32 0xFF800000#32) : C S_ .f32 (F := F)),
    nullary main_call17_c ((constantI S_ 32 0#32) : C S_ .i32 (F := F)),
    quaternary main_v187 main_call17_v0 main_call17_cst main_call17_c main_call17_v1_0 (argmaxVal2 : C S512x10 .f32 (F := F) → C S512x10 .i32 (F := F) → C S_ .f32 (F := F) → C S_ .i32 (F := F) → C S512 .f32 (F := F)),
    quaternary main_v187 main_call17_v0 main_call17_cst main_call17_c main_v188 (argmaxIdx2 : C S512x10 .f32 (F := F) → C S512x10 .i32 (F := F) → C S_ .f32 (F := F) → C S_ .i32 (F := F) → C S512 .i32 (F := F)),
    reshape main_v188 main_v189 (rfl : (.i32 : EltTy) = .i32) shapeCasts_S512_S1x512 ]

/-- The program's first window. -/
def win0 : List (HloOp τ sig (Elt F)) := tabO ++ (div1 ++ (msk1 ++ padO))

/-- The program's second window. -/
def win1 : List (HloOp τ sig (Elt F)) := cnv ++ (div2 ++ msk2a)

/-- The program's third window. -/
def win2 : List (HloOp τ sig (Elt F)) := msk2b ++ (resO ++ (den ++ fstA))

/-- The program's fourth window. -/
def win3 : List (HloOp τ sig (Elt F)) := fstB ++ sndO

/-- All operations. -/
abbrev ops : List (HloOp τ sig (Elt F)) := win0 ++ (win1 ++ (win2 ++ win3))

set_option maxRecDepth 8192 in
set_option maxHeartbeats 4000000 in
theorem win0_eq (c : Dev nD) : main_part0 (F := F) c = seq win0 := rfl

set_option maxRecDepth 8192 in
set_option maxHeartbeats 4000000 in
theorem win1_eq (c : Dev nD) : main_part1 (F := F) c = seq win1 := rfl

set_option maxRecDepth 8192 in
set_option maxHeartbeats 4000000 in
theorem win2_eq (c : Dev nD) : main_part2 (F := F) c = seq win2 := rfl

set_option maxRecDepth 8192 in
set_option maxHeartbeats 4000000 in
theorem win3_eq (c : Dev nD) : main_part3 (F := F) c = seq win3 := rfl

set_option maxRecDepth 8192 in
theorem main_eq (c : Dev nD) : main (F := F) c = seq ops := by
  simp only [ops, seq_append, ← win0_eq c, ← win1_eq c, ← win2_eq c, ← win3_eq c]
  rfl

theorem scopedRefs_eq : (Finset.univ.filter fun b : Ref sig .tc => b.isScoped) = ∅ := by decide

theorem scopedSems_eq : (Finset.univ.filter fun sm : SemLoc sig => sm.isScoped .tc) = ∅ := by decide

/-- What the run theorem asks of a list of operations. -/
def Plain (l : List (HloOp τ sig (Elt F))) : Prop :=
  (l.Forall fun op => op.bufs ⊆ tcRefs τ sig) ∧ l.Forall fun op => op.fresh = ∅

theorem Plain.append {l k : List (HloOp τ sig (Elt F))} (hl : Plain l) (hk : Plain k) : Plain (l ++ k) :=
  ⟨List.forall_append.mpr ⟨hl.1, hk.1⟩, List.forall_append.mpr ⟨hl.2, hk.2⟩⟩

set_option maxRecDepth 8192 in
theorem tabO_plain : Plain (F := F) tabO :=
  ⟨⟨nullary_bufs_sub .., unary_bufs_sub .., unary_bufs_sub .., unary_bufs_sub .., unary_bufs_sub ..,
    binary_bufs_sub .., unary_bufs_sub .., unary_bufs_sub .., unary_bufs_sub .., unary_bufs_sub ..,
    unary_bufs_sub .., binary_bufs_sub .., unary_bufs_sub .., unary_bufs_sub .., unary_bufs_sub ..,
    binary_bufs_sub .., nullary_bufs_sub .., unary_bufs_sub .., binary_bufs_sub .., nullary_bufs_sub ..,
    unary_bufs_sub .., binary_bufs_sub .., nullary_bufs_sub .., unary_bufs_sub .., binary_bufs_sub ..,
    nullary_bufs_sub .., unary_bufs_sub .., binary_bufs_sub .., nullary_bufs_sub .., unary_bufs_sub ..,
    binary_bufs_sub ..⟩,
   by simp only [List.Forall]; repeat' constructor⟩

set_option maxRecDepth 8192 in
theorem div1_plain : Plain (F := F) div1 :=
  ⟨⟨reshape_bufs_sub .., nullary_bufs_sub .., nullary_bufs_sub .., nullary_bufs_sub .., quaternary_bufs_sub
    .., quaternary_bufs_sub .., nullary_bufs_sub .., unary_bufs_sub .., unary_bufs_sub .., binary_bufs_sub ..,
    unary_bufs_sub .., unary_bufs_sub .., unary_bufs_sub .., binary_bufs_sub .., unary_bufs_sub ..,
    binary_bufs_sub .., nullary_bufs_sub .., unary_bufs_sub .., binary_bufs_sub .., binary_bufs_sub ..,
    nullary_bufs_sub .., unary_bufs_sub .., binary_bufs_sub .., ternary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..⟩,
   by simp only [List.Forall]; repeat' constructor⟩

set_option maxRecDepth 8192 in
theorem msk1_plain : Plain (F := F) msk1 :=
  ⟨⟨nullary_bufs_sub .., unary_bufs_sub .., binary_bufs_sub .., nullary_bufs_sub .., unary_bufs_sub ..,
    binary_bufs_sub .., ternary_bufs_sub .., nullary_bufs_sub .., unary_bufs_sub .., binary_bufs_sub ..,
    nullary_bufs_sub .., unary_bufs_sub .., binary_bufs_sub .., ternary_bufs_sub .., unary_bufs_sub ..,
    unary_bufs_sub .., binary_bufs_sub .., binary_bufs_sub .., unary_bufs_sub .., binary_bufs_sub ..,
    nullary_bufs_sub .., unary_bufs_sub .., binary_bufs_sub ..⟩,
   by simp only [List.Forall]; repeat' constructor⟩

set_option maxRecDepth 8192 in
theorem padO_plain : Plain (F := F) padO :=
  ⟨⟨nullary_bufs_sub .., unary_bufs_sub .., binary_bufs_sub ..⟩,
   by simp only [List.Forall]; repeat' constructor⟩

set_option maxRecDepth 8192 in
theorem cnv_plain : Plain (F := F) cnv :=
  ⟨⟨unary_bufs_sub .., unary_bufs_sub .., reshape_bufs_sub .., binary_bufs_sub .., nullary_bufs_sub ..,
    unary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., reshape_bufs_sub ..,
    binary_bufs_sub .., binary_bufs_sub .., unary_bufs_sub .., unary_bufs_sub .., binary_bufs_sub ..,
    nullary_bufs_sub .., unary_bufs_sub .., binary_bufs_sub ..⟩,
   by simp only [List.Forall]; repeat' constructor⟩

set_option maxRecDepth 8192 in
theorem div2_plain : Plain (F := F) div2 :=
  ⟨⟨reshape_bufs_sub .., nullary_bufs_sub .., nullary_bufs_sub .., nullary_bufs_sub .., quaternary_bufs_sub
    .., quaternary_bufs_sub .., nullary_bufs_sub .., unary_bufs_sub .., unary_bufs_sub .., binary_bufs_sub ..,
    unary_bufs_sub .., unary_bufs_sub .., unary_bufs_sub .., binary_bufs_sub .., unary_bufs_sub ..,
    binary_bufs_sub .., nullary_bufs_sub .., unary_bufs_sub .., binary_bufs_sub .., binary_bufs_sub ..,
    nullary_bufs_sub .., unary_bufs_sub .., binary_bufs_sub .., ternary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub ..⟩,
   by simp only [List.Forall]; repeat' constructor⟩

set_option maxRecDepth 8192 in
theorem msk2a_plain : Plain (F := F) msk2a :=
  ⟨⟨nullary_bufs_sub .., unary_bufs_sub .., binary_bufs_sub ..⟩,
   by simp only [List.Forall]; repeat' constructor⟩

set_option maxRecDepth 8192 in
theorem msk2b_plain : Plain (F := F) msk2b :=
  ⟨⟨nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., unary_bufs_sub .., binary_bufs_sub .., binary_bufs_sub ..,
    unary_bufs_sub .., binary_bufs_sub .., nullary_bufs_sub .., unary_bufs_sub .., binary_bufs_sub ..⟩,
   by simp only [List.Forall]; repeat' constructor⟩

set_option maxRecDepth 8192 in
theorem resO_plain : Plain (F := F) resO :=
  ⟨⟨nullary_bufs_sub .., unary_bufs_sub .., binary_bufs_sub .., reshape_bufs_sub .., reshape_bufs_sub ..,
    reshape_bufs_sub .., nullary_bufs_sub .., binary_bufs_sub .., nullary_bufs_sub .., unary_bufs_sub ..,
    binary_bufs_sub .., reshape_bufs_sub .., nullary_bufs_sub .., binary_bufs_sub .., nullary_bufs_sub ..,
    unary_bufs_sub .., binary_bufs_sub .., reshape_bufs_sub .., reshape_bufs_sub .., reshape_bufs_sub ..⟩,
   by simp only [List.Forall]; repeat' constructor⟩

set_option maxRecDepth 8192 in
theorem den_plain : Plain (F := F) den :=
  ⟨⟨reshape_bufs_sub .., binary_bufs_sub .., unary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub ..⟩,
   by simp only [List.Forall]; repeat' constructor⟩

set_option maxRecDepth 8192 in
theorem fstA_plain : Plain (F := F) fstA :=
  ⟨⟨reshape_bufs_sub .., unary_bufs_sub .., nullary_bufs_sub .., unary_bufs_sub .., unary_bufs_sub ..,
    binary_bufs_sub .., unary_bufs_sub .., nullary_bufs_sub ..⟩,
   by simp only [List.Forall]; repeat' constructor⟩

set_option maxRecDepth 8192 in
theorem fstB_plain : Plain (F := F) fstB :=
  ⟨⟨binary_bufs_sub .., binary_bufs_sub .., unary_bufs_sub .., binary_bufs_sub .., binary_bufs_sub ..,
    unary_bufs_sub .., nullary_bufs_sub .., unary_bufs_sub .., binary_bufs_sub .., unary_bufs_sub ..,
    nullary_bufs_sub .., unary_bufs_sub .., binary_bufs_sub .., unary_bufs_sub .., nullary_bufs_sub ..,
    unary_bufs_sub .., unary_bufs_sub .., ternary_bufs_sub .., unary_bufs_sub .., binary_bufs_sub ..,
    nullary_bufs_sub .., unary_bufs_sub .., unary_bufs_sub .., unary_bufs_sub .., ternary_bufs_sub ..,
    nullary_bufs_sub .., nullary_bufs_sub .., nullary_bufs_sub .., quaternary_bufs_sub .., quaternary_bufs_sub
    .., reshape_bufs_sub ..⟩,
   by simp only [List.Forall]; repeat' constructor⟩

set_option maxRecDepth 8192 in
theorem sndO_plain : Plain (F := F) sndO :=
  ⟨⟨reshape_bufs_sub .., unary_bufs_sub .., nullary_bufs_sub .., unary_bufs_sub .., unary_bufs_sub ..,
    binary_bufs_sub .., unary_bufs_sub .., nullary_bufs_sub .., binary_bufs_sub .., binary_bufs_sub ..,
    unary_bufs_sub .., binary_bufs_sub .., binary_bufs_sub .., unary_bufs_sub .., nullary_bufs_sub ..,
    unary_bufs_sub .., binary_bufs_sub .., unary_bufs_sub .., nullary_bufs_sub .., unary_bufs_sub ..,
    binary_bufs_sub .., unary_bufs_sub .., nullary_bufs_sub .., unary_bufs_sub .., unary_bufs_sub ..,
    ternary_bufs_sub .., unary_bufs_sub .., binary_bufs_sub .., nullary_bufs_sub .., unary_bufs_sub ..,
    unary_bufs_sub .., unary_bufs_sub .., ternary_bufs_sub .., nullary_bufs_sub .., nullary_bufs_sub ..,
    nullary_bufs_sub .., quaternary_bufs_sub .., quaternary_bufs_sub .., reshape_bufs_sub ..⟩,
   by simp only [List.Forall]; repeat' constructor⟩

theorem ops_plain : Plain (F := F) ops :=
  (tabO_plain.append (div1_plain.append (msk1_plain.append padO_plain))).append
    ((cnv_plain.append (div2_plain.append msk2a_plain)).append
      ((msk2b_plain.append (resO_plain.append (den_plain.append fstA_plain))).append (fstB_plain.append sndO_plain)))

theorem ops_fresh : ∀ op ∈ (ops : List (HloOp τ sig (Elt F))), op.fresh = ∅ :=
  List.forall_iff_forall_mem.mp ops_plain.2

end Cert.ReferenceIdeal.Ops

end

end
-- ==== Proof.RefVals.lean ====
module

public import proofs.«01_k».proof.Proof.RefOps

/-! What the reference leaves in its results: each stretch of operations is read as one function of the arrays that
it starts from, and the run is their composition. -/

@[expose] public section

set_option Elab.async false

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The numbers 0 to 13. -/
def ramp : C S14 .f32 (F := F) := sitofp .f32 (iotaInDim S14 32 0)

/-- Distances of rows. -/
def rowGap : C S14x1x14x1 .f32 (F := F) :=
  Host.absf (subf
    (broadcastInDim S14x1x14x1 ![0, 1, 2, 3] bcast_S14x1x1x1_S14x1x14x1_0_1_2_3 (broadcastInDim S14x1x1x1 ![0] bcast_S14_S14x1x1x1_0 ramp))
    (broadcastInDim S14x1x14x1 ![0, 1, 2, 3] bcast_S1x1x14x1_S14x1x14x1_0_1_2_3 (broadcastInDim S1x1x14x1 ![2] bcast_S14_S1x1x14x1_2 ramp)))

/-- Distances of columns. -/
def colGap : C S1x14x1x14 .f32 (F := F) :=
  Host.absf (subf
    (broadcastInDim S1x14x1x14 ![0, 1, 2, 3] bcast_S1x14x1x1_S1x14x1x14_0_1_2_3 (broadcastInDim S1x14x1x1 ![1] bcast_S14_S1x14x1x1_1 ramp))
    (broadcastInDim S1x14x1x14 ![0, 1, 2, 3] bcast_S1x1x1x14_S1x14x1x14_0_1_2_3 (broadcastInDim S1x1x1x14 ![3] bcast_S14_S1x1x1x14_3 ramp)))

/-- One number everywhere. -/
def all4 (w : BitVec 32) : C S14x14x14x14 .f32 (F := F) :=
  broadcastInDim S14x14x14x14 ![] bcast_S_S14x14x14x14 (constant S_ .f32 w)

/-- The position table. -/
def table : C S14x14x14x14 .f32 (F := F) :=
  mulf (all4 0x3B272F05#32) (maximumf (subf (all4 0x3F800000#32) (Host.divf (mulf (all4 0x40000000#32)
    (addf (broadcastInDim S14x14x14x14 ![0, 1, 2, 3] bcast_S14x1x14x1_S14x14x14x14_0_1_2_3 rowGap)
      (broadcastInDim S14x14x14x14 ![0, 1, 2, 3] bcast_S1x14x1x14_S14x14x14x14_0_1_2_3 colGap))) (all4 0x41600000#32)))
    (all4 0xBF800000#32))

/-- The position of the largest activation of each sample and channel. -/
def best (x : C S128x14x14x512 .f32 (F := F)) : C S128x512 .i32 (F := F) :=
  argmaxIdx (shapeCast _ x shapeCasts_S128x14x14x512_S128x196x512) (iotaInDim S128x196x512 32 1)
    (constant S_ .f32 0xFF800000#32) (constantI S_ 32 0#32)

/-- One integer everywhere. -/
def all2 (x : C S_ .i32 (F := F)) : C S128x512 .i32 (F := F) := broadcastInDim S128x512 ![] bcast_S_S128x512 x

/-- The quotient by 14, rounded down. -/
def quot (f : C S128x512 .i32 (F := F)) : C S128x512 .i32 (F := F) :=
  select (andi (cmpi .ne (signi f) (all2 (F := F) (signi (id (constantI S_ 32 14#32)))))
      (cmpi .ne (Host.remsi f (all2 (F := F) (id (constantI S_ 32 14#32)))) (all2 (F := F) (constantI S_ 32 0#32))))
    (subi (Host.divsi f (all2 (F := F) (id (constantI S_ 32 14#32)))) (all2 (F := F) (constantI S_ 32 1#32)))
    (Host.divsi f (all2 (F := F) (id (constantI S_ 32 14#32))))

/-- The divisor as the remainder operation takes it. -/
def by14 : C S_ .i32 (F := F) :=
  select (cmpi .eq (id (constantI S_ 32 14#32)) (constantI S_ 32 0#32)) (constantI S_ 32 1#32) (id (constantI S_ 32 14#32))

/-- The remainder by 14, of the sign of the divisor. -/
def rem (f : C S128x512 .i32 (F := F)) : C S128x512 .i32 (F := F) :=
  select (andi (cmpi .ne (cmpi .slt (Host.remsi f (all2 (F := F) (by14 (F := F)))) (all2 (F := F) (constantI S_ 32 0#32)))
        (broadcastInDim S128x512 ![] bcast_S_S128x512 (cmpi .slt (by14 (F := F)) (constantI S_ 32 0#32))))
      (cmpi .ne (Host.remsi f (all2 (F := F) (by14 (F := F)))) (all2 (F := F) (constantI S_ 32 0#32))))
    (addi (Host.remsi f (all2 (F := F) (by14 (F := F)))) (all2 (F := F) (by14 (F := F))))
    (Host.remsi f (all2 (F := F) (by14 (F := F))))

/-- A negative position counts from the end. -/
def wrap (f : C S128x512 .i32 (F := F)) : C S128x512 .i32 (F := F) :=
  select (cmpi .slt f (all2 (F := F) (constantI S_ 32 0#32))) (addi f (all2 (F := F) (constantI S_ 32 14#32))) f

/-- The rows of the table that two position arrays name. -/
def look (t : C S14x14x14x14 .f32 (F := F)) (q r : C S128x512 .i32 (F := F)) : C S128x512x14x14 .f32 (F := F) :=
  Host.gather gather_S14x14x14x14_S128x512x2_S128x512x14x14_23_01_n_n_01_2_111414 t
    (pair (F := F) (broadcastInDim S128x512x1 ![0, 1] bcast_S128x512_S128x512x1_0_1 (wrap (F := F) q))
      (broadcastInDim S128x512x1 ![0, 1] bcast_S128x512_S128x512x1_0_1 (wrap (F := F) r)))

/-- Nothing below zero. -/
def relu (x : C S128x14x14x512 .f32 (F := F)) : C S128x14x14x512 .f32 (F := F) :=
  maximumf x (broadcastInDim S128x14x14x512 ![] bcast_S_S128x14x14x512 (constant S_ .f32 0x00000000#32))

/-- The activations times the table rows, nothing below zero. -/
def masked (x : C S128x14x14x512 .f32 (F := F)) (t : C S14x14x14x14 .f32 (F := F)) (q r : C S128x512 .i32 (F := F)) :
    C S128x14x14x512 .f32 (F := F) :=
  relu (mulf x (transpose S128x14x14x512 [0, 2, 3, 1] (look t q r) transposes_S128x512x14x14_S128x14x14x512_0_2_3_1))

/-- The activations with a border of zeros. -/
def padded (x : C S128x14x14x512 .f32 (F := F)) : C S128x16x16x512 .f32 (F := F) :=
  pad S128x16x16x512 ![0, 1, 1, 0] ![0, 1, 1, 0] ![0, 0, 0, 0] x (sitofp .f32 (constantI S_ 32 0#32))
    pads_S128x14x14x512_S128x16x16x512_000_110_110_000 h_S_

/-- One product of the convolution: a shifted window times one matrix of the weights. -/
def prod (p : C S128x16x16x512 .f32 (F := F)) (w : C S3x3x512x512 .f32 (F := F)) (a b : Fin 4 → ℕ)
    (ha : S128x16x16x512.Slices a S128x14x14x512) (hb : S3x3x512x512.Slices b S1x1x512x512) : C S128x14x14x512 .f32 (F := F) :=
  Host.dotGeneral dot_S128x14x14x512_S512x512_S128x14x14x512_3_0_012_1_n_n none (extractStridedSlice S128x14x14x512 a p ha)
    (shapeCast _ (extractStridedSlice S1x1x512x512 b w hb) shapeCasts_S1x1x512x512_S512x512)

/-- The bias over every sample and position. -/
def spread (b : C S512 .f32 (F := F)) : C S128x14x14x512 .f32 (F := F) :=
  broadcastInDim S128x14x14x512 ![0, 1, 2, 3] bcast_S1x1x1x512_S128x14x14x512_0_1_2_3 (broadcastInDim S1x1x1x512 ![3] bcast_S512_S1x1x1x512_3 b)

/-- The convolution: nine products added up, the bias, nothing below zero. -/
def conv (x : C S128x14x14x512 .f32 (F := F)) (w : C S3x3x512x512 .f32 (F := F)) (b : C S512 .f32 (F := F)) :
    C S128x14x14x512 .f32 (F := F) :=
  relu (addf (addf (addf (addf (addf (addf (addf (addf (addf (addf
    (broadcastInDim S128x14x14x512 ![] bcast_S_S128x14x14x512 (constant S_ .f32 0x00000000#32))
    (prod (padded x) w ![0, 0, 0, 0] ![0, 0, 0, 0] slices_S128x16x16x512_S128x14x14x512_0_0_0_0 slices_S3x3x512x512_S1x1x512x512_0_0_0_0))
    (prod (padded x) w ![0, 0, 1, 0] ![0, 1, 0, 0] slices_S128x16x16x512_S128x14x14x512_0_0_1_0 slices_S3x3x512x512_S1x1x512x512_0_1_0_0))
    (prod (padded x) w ![0, 0, 2, 0] ![0, 2, 0, 0] slices_S128x16x16x512_S128x14x14x512_0_0_2_0 slices_S3x3x512x512_S1x1x512x512_0_2_0_0))
    (prod (padded x) w ![0, 1, 0, 0] ![1, 0, 0, 0] slices_S128x16x16x512_S128x14x14x512_0_1_0_0 slices_S3x3x512x512_S1x1x512x512_1_0_0_0))
    (prod (padded x) w ![0, 1, 1, 0] ![1, 1, 0, 0] slices_S128x16x16x512_S128x14x14x512_0_1_1_0 slices_S3x3x512x512_S1x1x512x512_1_1_0_0))
    (prod (padded x) w ![0, 1, 2, 0] ![1, 2, 0, 0] slices_S128x16x16x512_S128x14x14x512_0_1_2_0 slices_S3x3x512x512_S1x1x512x512_1_2_0_0))
    (prod (padded x) w ![0, 2, 0, 0] ![2, 0, 0, 0] slices_S128x16x16x512_S128x14x14x512_0_2_0_0 slices_S3x3x512x512_S1x1x512x512_2_0_0_0))
    (prod (padded x) w ![0, 2, 1, 0] ![2, 1, 0, 0] slices_S128x16x16x512_S128x14x14x512_0_2_1_0 slices_S3x3x512x512_S1x1x512x512_2_1_0_0))
    (prod (padded x) w ![0, 2, 2, 0] ![2, 2, 0, 0] slices_S128x16x16x512_S128x14x14x512_0_2_2_0 slices_S3x3x512x512_S1x1x512x512_2_2_0_0))
    (spread b))

/-- The largest activation of each two by two window. -/
def pool (x : C S128x14x14x512 .f32 (F := F)) : C S128x49x512 .f32 (F := F) :=
  shapeCast _ (Host.reduceWindow FloatOps.maximumf ![1, 2, 2, 1] ![1, 2, 2, 1] ![0, 0, 0, 0] ![0, 0, 0, 0] x
    (broadcastInDim S_ ![] bcast_S_S_ (constant S_ .f32 0xFF800000#32))
    reduceWindows_S128x14x14x512_S128x7x7x512_w1s1p0_0_w2s2p0_0_w2s2p0_0_w1s1p0_0 h_S_) shapeCasts_S128x7x7x512_S128x49x512

/-- The mean activation of each sample and channel. -/
def mean (x : C S128x14x14x512 .f32 (F := F)) : C S128x1x512 .f32 (F := F) :=
  shapeCast _ (Host.divf (Host.reduceAdd x (constant S_ .f32 0x00000000#32) reducesTo_S128x14x14x512_S128x512_d1_2 h_S_)
    (broadcastInDim S128x512 ![] bcast_S_S128x512 (constant S_ .f32 0x43440000#32))) shapeCasts_S128x512_S128x1x512

/-- One masking of the reference: the activations times the table row of their largest position. -/
def mask (x : C S128x14x14x512 .f32 (F := F)) : C S128x14x14x512 .f32 (F := F) :=
  masked x table (quot (F := F) (best x)) (rem (F := F) (best x))

/-- The convolution of the masked activations. -/
def mid (x : C S128x14x14x512 .f32 (F := F)) (w : C S3x3x512x512 .f32 (F := F)) (b : C S512 .f32 (F := F)) :
    C S128x14x14x512 .f32 (F := F) :=
  conv (mask x) w b

section
variable (V : Valuation τ sig (Elt F))

set_option maxRecDepth 8192 in
set_option maxHeartbeats 2000000 in
theorem tab_v25 : after tabO V (no_index (Proc.devRef .tc main_v25)) = table := by
  simp only [tabO]
  after_results_simp
  all_goals rfl

/-- What this stretch leaves as it was. -/
theorem tab_keep :
      after tabO V (no_index (Proc.devRef .tc main_arg0)) = V (Proc.devRef .tc main_arg0) ∧
      after tabO V (no_index (Proc.devRef .tc main_arg1)) = V (Proc.devRef .tc main_arg1) ∧
      after tabO V (no_index (Proc.devRef .tc main_arg2)) = V (Proc.devRef .tc main_arg2) ∧
      after tabO V (no_index (Proc.devRef .tc main_arg3)) = V (Proc.devRef .tc main_arg3) ∧
      after tabO V (no_index (Proc.devRef .tc main_arg4)) = V (Proc.devRef .tc main_arg4) ∧
      after tabO V (no_index (Proc.devRef .tc main_arg5)) = V (Proc.devRef .tc main_arg5) ∧
      after tabO V (no_index (Proc.devRef .tc main_arg6)) = V (Proc.devRef .tc main_arg6) ∧
      after tabO V (no_index (Proc.devRef .tc main_arg7)) = V (Proc.devRef .tc main_arg7) ∧
      after tabO V (no_index (Proc.devRef .tc main_arg8)) = V (Proc.devRef .tc main_arg8) ∧
      after tabO V (no_index (Proc.devRef .tc main_arg9)) = V (Proc.devRef .tc main_arg9) := by
  simp only [tabO]
  refine ⟨?_, ?_, ?_, ?_, ?_, ?_, ?_, ?_, ?_, ?_⟩ <;> after_results_simp

set_option maxRecDepth 8192 in
set_option maxHeartbeats 2000000 in
theorem div1_v27 : after div1 V (no_index (Proc.devRef .tc main_v27)) = best (V (Proc.devRef .tc main_arg0)) := by
  simp only [div1]
  after_results_simp
  all_goals rfl

set_option maxRecDepth 8192 in
set_option maxHeartbeats 2000000 in
theorem div1_v28 : after div1 V (no_index (Proc.devRef .tc main_v28)) = quot (F := F) (best (V (Proc.devRef .tc main_arg0))) := by
  simp only [div1]
  after_results_simp
  all_goals rfl

set_option maxRecDepth 8192 in
set_option maxHeartbeats 2000000 in
theorem div1_v29 : after div1 V (no_index (Proc.devRef .tc main_v29)) = rem (F := F) (best (V (Proc.devRef .tc main_arg0))) := by
  simp only [div1]
  after_results_simp
  all_goals rfl

/-- What this stretch leaves as it was. -/
theorem div1_keep :
      after div1 V (no_index (Proc.devRef .tc main_arg0)) = V (Proc.devRef .tc main_arg0) ∧
      after div1 V (no_index (Proc.devRef .tc main_arg1)) = V (Proc.devRef .tc main_arg1) ∧
      after div1 V (no_index (Proc.devRef .tc main_arg2)) = V (Proc.devRef .tc main_arg2) ∧
      after div1 V (no_index (Proc.devRef .tc main_arg3)) = V (Proc.devRef .tc main_arg3) ∧
      after div1 V (no_index (Proc.devRef .tc main_arg4)) = V (Proc.devRef .tc main_arg4) ∧
      after div1 V (no_index (Proc.devRef .tc main_arg5)) = V (Proc.devRef .tc main_arg5) ∧
      after div1 V (no_index (Proc.devRef .tc main_arg6)) = V (Proc.devRef .tc main_arg6) ∧
      after div1 V (no_index (Proc.devRef .tc main_arg7)) = V (Proc.devRef .tc main_arg7) ∧
      after div1 V (no_index (Proc.devRef .tc main_arg8)) = V (Proc.devRef .tc main_arg8) ∧
      after div1 V (no_index (Proc.devRef .tc main_arg9)) = V (Proc.devRef .tc main_arg9) ∧
      after div1 V (no_index (Proc.devRef .tc main_v25)) = V (Proc.devRef .tc main_v25) := by
  simp only [div1]
  refine ⟨?_, ?_, ?_, ?_, ?_, ?_, ?_, ?_, ?_, ?_, ?_⟩ <;> after_results_simp

set_option maxRecDepth 8192 in
set_option maxHeartbeats 2000000 in
theorem msk1_v46 : after msk1 V (no_index (Proc.devRef .tc main_v46)) = masked (V (Proc.devRef .tc main_arg0)) (V (Proc.devRef .tc main_v25)) (V (Proc.devRef .tc main_v28)) (V (Proc.devRef .tc main_v29)) := by
  simp only [msk1]
  after_results_simp
  all_goals rfl

/-- What this stretch leaves as it was. -/
theorem msk1_keep :
      after msk1 V (no_index (Proc.devRef .tc main_arg0)) = V (Proc.devRef .tc main_arg0) ∧
      after msk1 V (no_index (Proc.devRef .tc main_arg1)) = V (Proc.devRef .tc main_arg1) ∧
      after msk1 V (no_index (Proc.devRef .tc main_arg2)) = V (Proc.devRef .tc main_arg2) ∧
      after msk1 V (no_index (Proc.devRef .tc main_arg3)) = V (Proc.devRef .tc main_arg3) ∧
      after msk1 V (no_index (Proc.devRef .tc main_arg4)) = V (Proc.devRef .tc main_arg4) ∧
      after msk1 V (no_index (Proc.devRef .tc main_arg5)) = V (Proc.devRef .tc main_arg5) ∧
      after msk1 V (no_index (Proc.devRef .tc main_arg6)) = V (Proc.devRef .tc main_arg6) ∧
      after msk1 V (no_index (Proc.devRef .tc main_arg7)) = V (Proc.devRef .tc main_arg7) ∧
      after msk1 V (no_index (Proc.devRef .tc main_arg8)) = V (Proc.devRef .tc main_arg8) ∧
      after msk1 V (no_index (Proc.devRef .tc main_arg9)) = V (Proc.devRef .tc main_arg9) ∧
      after msk1 V (no_index (Proc.devRef .tc main_v25)) = V (Proc.devRef .tc main_v25) ∧
      after msk1 V (no_index (Proc.devRef .tc main_v27)) = V (Proc.devRef .tc main_v27) := by
  simp only [msk1]
  refine ⟨?_, ?_, ?_, ?_, ?_, ?_, ?_, ?_, ?_, ?_, ?_, ?_⟩ <;> after_results_simp

set_option maxRecDepth 8192 in
set_option maxHeartbeats 2000000 in
theorem cnv_v97 : after (padO ++ cnv) V (no_index (Proc.devRef .tc main_v97)) = conv (V (Proc.devRef .tc main_v46)) (V (Proc.devRef .tc main_arg2)) (V (Proc.devRef .tc main_arg3)) := by
  simp only [padO, cnv, List.cons_append, List.nil_append]
  after_results_simp
  all_goals rfl

/-- What this stretch leaves as it was. -/
theorem cnv_keep :
      after (padO ++ cnv) V (no_index (Proc.devRef .tc main_arg0)) = V (Proc.devRef .tc main_arg0) ∧
      after (padO ++ cnv) V (no_index (Proc.devRef .tc main_arg1)) = V (Proc.devRef .tc main_arg1) ∧
      after (padO ++ cnv) V (no_index (Proc.devRef .tc main_arg2)) = V (Proc.devRef .tc main_arg2) ∧
      after (padO ++ cnv) V (no_index (Proc.devRef .tc main_arg3)) = V (Proc.devRef .tc main_arg3) ∧
      after (padO ++ cnv) V (no_index (Proc.devRef .tc main_arg4)) = V (Proc.devRef .tc main_arg4) ∧
      after (padO ++ cnv) V (no_index (Proc.devRef .tc main_arg5)) = V (Proc.devRef .tc main_arg5) ∧
      after (padO ++ cnv) V (no_index (Proc.devRef .tc main_arg6)) = V (Proc.devRef .tc main_arg6) ∧
      after (padO ++ cnv) V (no_index (Proc.devRef .tc main_arg7)) = V (Proc.devRef .tc main_arg7) ∧
      after (padO ++ cnv) V (no_index (Proc.devRef .tc main_arg8)) = V (Proc.devRef .tc main_arg8) ∧
      after (padO ++ cnv) V (no_index (Proc.devRef .tc main_arg9)) = V (Proc.devRef .tc main_arg9) ∧
      after (padO ++ cnv) V (no_index (Proc.devRef .tc main_v25)) = V (Proc.devRef .tc main_v25) ∧
      after (padO ++ cnv) V (no_index (Proc.devRef .tc main_v27)) = V (Proc.devRef .tc main_v27) ∧
      after (padO ++ cnv) V (no_index (Proc.devRef .tc main_v46)) = V (Proc.devRef .tc main_v46) := by
  simp only [padO, cnv, List.cons_append, List.nil_append]
  refine ⟨?_, ?_, ?_, ?_, ?_, ?_, ?_, ?_, ?_, ?_, ?_, ?_, ?_⟩ <;> after_results_simp

set_option maxRecDepth 8192 in
set_option maxHeartbeats 2000000 in
theorem div2_v99 : after div2 V (no_index (Proc.devRef .tc main_v99)) = best (V (Proc.devRef .tc main_v97)) := by
  simp only [div2]
  after_results_simp
  all_goals rfl

set_option maxRecDepth 8192 in
set_option maxHeartbeats 2000000 in
theorem div2_v100 : after div2 V (no_index (Proc.devRef .tc main_v100)) = quot (F := F) (best (V (Proc.devRef .tc main_v97))) := by
  simp only [div2]
  after_results_simp
  all_goals rfl

set_option maxRecDepth 8192 in
set_option maxHeartbeats 2000000 in
theorem div2_v101 : after div2 V (no_index (Proc.devRef .tc main_v101)) = rem (F := F) (best (V (Proc.devRef .tc main_v97))) := by
  simp only [div2]
  after_results_simp
  all_goals rfl

/-- What this stretch leaves as it was. -/
theorem div2_keep :
      after div2 V (no_index (Proc.devRef .tc main_arg0)) = V (Proc.devRef .tc main_arg0) ∧
      after div2 V (no_index (Proc.devRef .tc main_arg1)) = V (Proc.devRef .tc main_arg1) ∧
      after div2 V (no_index (Proc.devRef .tc main_arg2)) = V (Proc.devRef .tc main_arg2) ∧
      after div2 V (no_index (Proc.devRef .tc main_arg3)) = V (Proc.devRef .tc main_arg3) ∧
      after div2 V (no_index (Proc.devRef .tc main_arg4)) = V (Proc.devRef .tc main_arg4) ∧
      after div2 V (no_index (Proc.devRef .tc main_arg5)) = V (Proc.devRef .tc main_arg5) ∧
      after div2 V (no_index (Proc.devRef .tc main_arg6)) = V (Proc.devRef .tc main_arg6) ∧
      after div2 V (no_index (Proc.devRef .tc main_arg7)) = V (Proc.devRef .tc main_arg7) ∧
      after div2 V (no_index (Proc.devRef .tc main_arg8)) = V (Proc.devRef .tc main_arg8) ∧
      after div2 V (no_index (Proc.devRef .tc main_arg9)) = V (Proc.devRef .tc main_arg9) ∧
      after div2 V (no_index (Proc.devRef .tc main_v25)) = V (Proc.devRef .tc main_v25) ∧
      after div2 V (no_index (Proc.devRef .tc main_v27)) = V (Proc.devRef .tc main_v27) ∧
      after div2 V (no_index (Proc.devRef .tc main_v46)) = V (Proc.devRef .tc main_v46) ∧
      after div2 V (no_index (Proc.devRef .tc main_v97)) = V (Proc.devRef .tc main_v97) := by
  simp only [div2]
  refine ⟨?_, ?_, ?_, ?_, ?_, ?_, ?_, ?_, ?_, ?_, ?_, ?_, ?_, ?_⟩ <;> after_results_simp

set_option maxRecDepth 8192 in
set_option maxHeartbeats 2000000 in
theorem msk2_v118 : after (msk2a ++ msk2b) V (no_index (Proc.devRef .tc main_v118)) = masked (V (Proc.devRef .tc main_v97)) (V (Proc.devRef .tc main_v25)) (V (Proc.devRef .tc main_v100)) (V (Proc.devRef .tc main_v101)) := by
  simp only [msk2a, msk2b, List.cons_append, List.nil_append]
  after_results_simp
  all_goals rfl

/-- What this stretch leaves as it was. -/
theorem msk2_keep :
      after (msk2a ++ msk2b) V (no_index (Proc.devRef .tc main_arg0)) = V (Proc.devRef .tc main_arg0) ∧
      after (msk2a ++ msk2b) V (no_index (Proc.devRef .tc main_arg1)) = V (Proc.devRef .tc main_arg1) ∧
      after (msk2a ++ msk2b) V (no_index (Proc.devRef .tc main_arg2)) = V (Proc.devRef .tc main_arg2) ∧
      after (msk2a ++ msk2b) V (no_index (Proc.devRef .tc main_arg3)) = V (Proc.devRef .tc main_arg3) ∧
      after (msk2a ++ msk2b) V (no_index (Proc.devRef .tc main_arg4)) = V (Proc.devRef .tc main_arg4) ∧
      after (msk2a ++ msk2b) V (no_index (Proc.devRef .tc main_arg5)) = V (Proc.devRef .tc main_arg5) ∧
      after (msk2a ++ msk2b) V (no_index (Proc.devRef .tc main_arg6)) = V (Proc.devRef .tc main_arg6) ∧
      after (msk2a ++ msk2b) V (no_index (Proc.devRef .tc main_arg7)) = V (Proc.devRef .tc main_arg7) ∧
      after (msk2a ++ msk2b) V (no_index (Proc.devRef .tc main_arg8)) = V (Proc.devRef .tc main_arg8) ∧
      after (msk2a ++ msk2b) V (no_index (Proc.devRef .tc main_arg9)) = V (Proc.devRef .tc main_arg9) ∧
      after (msk2a ++ msk2b) V (no_index (Proc.devRef .tc main_v27)) = V (Proc.devRef .tc main_v27) ∧
      after (msk2a ++ msk2b) V (no_index (Proc.devRef .tc main_v46)) = V (Proc.devRef .tc main_v46) ∧
      after (msk2a ++ msk2b) V (no_index (Proc.devRef .tc main_v99)) = V (Proc.devRef .tc main_v99) := by
  simp only [msk2a, msk2b, List.cons_append, List.nil_append]
  refine ⟨?_, ?_, ?_, ?_, ?_, ?_, ?_, ?_, ?_, ?_, ?_, ?_, ?_⟩ <;> after_results_simp

set_option maxRecDepth 8192 in
set_option maxHeartbeats 2000000 in
theorem res_v121 : after resO V (no_index (Proc.devRef .tc main_v121)) = shapeCast _ (V (Proc.devRef .tc main_v46)) shapeCasts_S128x14x14x512_S128x196x512 := by
  simp only [resO]
  after_results_simp
  all_goals rfl

set_option maxRecDepth 8192 in
set_option maxHeartbeats 2000000 in
theorem res_v122 : after resO V (no_index (Proc.devRef .tc main_v122)) = shapeCast _ (V (Proc.devRef .tc main_v118)) shapeCasts_S128x14x14x512_S128x196x512 := by
  simp only [resO]
  after_results_simp
  all_goals rfl

set_option maxRecDepth 8192 in
set_option maxHeartbeats 2000000 in
theorem res_v123 : after resO V (no_index (Proc.devRef .tc main_v123)) = pool (V (Proc.devRef .tc main_v118)) := by
  simp only [resO]
  after_results_simp
  all_goals rfl

set_option maxRecDepth 8192 in
set_option maxHeartbeats 2000000 in
theorem res_v127 : after resO V (no_index (Proc.devRef .tc main_v127)) = mean (V (Proc.devRef .tc main_v46)) := by
  simp only [resO]
  after_results_simp
  all_goals rfl

set_option maxRecDepth 8192 in
set_option maxHeartbeats 2000000 in
theorem res_v131 : after resO V (no_index (Proc.devRef .tc main_v131)) = mean (V (Proc.devRef .tc main_v118)) := by
  simp only [resO]
  after_results_simp
  all_goals rfl

set_option maxRecDepth 8192 in
set_option maxHeartbeats 2000000 in
theorem res_v132 : after resO V (no_index (Proc.devRef .tc main_v132)) = shapeCast _ (V (Proc.devRef .tc main_v27)) shapeCasts_S128x512_S128x1x512 := by
  simp only [resO]
  after_results_simp
  all_goals rfl

set_option maxRecDepth 8192 in
set_option maxHeartbeats 2000000 in
theorem res_v133 : after resO V (no_index (Proc.devRef .tc main_v133)) = shapeCast _ (V (Proc.devRef .tc main_v99)) shapeCasts_S128x512_S128x1x512 := by
  simp only [resO]
  after_results_simp
  all_goals rfl

/-- What this stretch leaves as it was. -/
theorem res_keep :
      after resO V (no_index (Proc.devRef .tc main_arg0)) = V (Proc.devRef .tc main_arg0) ∧
      after resO V (no_index (Proc.devRef .tc main_arg1)) = V (Proc.devRef .tc main_arg1) ∧
      after resO V (no_index (Proc.devRef .tc main_arg2)) = V (Proc.devRef .tc main_arg2) ∧
      after resO V (no_index (Proc.devRef .tc main_arg3)) = V (Proc.devRef .tc main_arg3) ∧
      after resO V (no_index (Proc.devRef .tc main_arg4)) = V (Proc.devRef .tc main_arg4) ∧
      after resO V (no_index (Proc.devRef .tc main_arg5)) = V (Proc.devRef .tc main_arg5) ∧
      after resO V (no_index (Proc.devRef .tc main_arg6)) = V (Proc.devRef .tc main_arg6) ∧
      after resO V (no_index (Proc.devRef .tc main_arg7)) = V (Proc.devRef .tc main_arg7) ∧
      after resO V (no_index (Proc.devRef .tc main_arg8)) = V (Proc.devRef .tc main_arg8) ∧
      after resO V (no_index (Proc.devRef .tc main_arg9)) = V (Proc.devRef .tc main_arg9) := by
  simp only [resO]
  refine ⟨?_, ?_, ?_, ?_, ?_, ?_, ?_, ?_, ?_, ?_⟩ <;> after_results_simp

/-- The contents after the first half of the operations. -/
def half : Valuation τ sig (Elt F) :=
  after resO (after (msk2a ++ msk2b) (after div2 (after (padO ++ cnv) (after msk1 (after div1 (after tabO V))))))

/-- The first results and the arguments after the first half. -/
theorem half_vals :
    half V (no_index (Proc.devRef .tc main_v121)) = shapeCast _ (mask (V (Proc.devRef .tc main_arg0))) shapeCasts_S128x14x14x512_S128x196x512 ∧
    half V (no_index (Proc.devRef .tc main_v122)) = shapeCast _ (mask (mid (V (Proc.devRef .tc main_arg0)) (V (Proc.devRef .tc main_arg2)) (V (Proc.devRef .tc main_arg3)))) shapeCasts_S128x14x14x512_S128x196x512 ∧
    half V (no_index (Proc.devRef .tc main_v123)) = pool (mask (mid (V (Proc.devRef .tc main_arg0)) (V (Proc.devRef .tc main_arg2)) (V (Proc.devRef .tc main_arg3)))) ∧
    half V (no_index (Proc.devRef .tc main_v127)) = mean (mask (V (Proc.devRef .tc main_arg0))) ∧
    half V (no_index (Proc.devRef .tc main_v131)) = mean (mask (mid (V (Proc.devRef .tc main_arg0)) (V (Proc.devRef .tc main_arg2)) (V (Proc.devRef .tc main_arg3)))) ∧
    half V (no_index (Proc.devRef .tc main_v132)) = shapeCast _ (best (V (Proc.devRef .tc main_arg0))) shapeCasts_S128x512_S128x1x512 ∧
    half V (no_index (Proc.devRef .tc main_v133)) = shapeCast _ (best (mid (V (Proc.devRef .tc main_arg0)) (V (Proc.devRef .tc main_arg2)) (V (Proc.devRef .tc main_arg3)))) shapeCasts_S128x512_S128x1x512 ∧
    half V (no_index (Proc.devRef .tc main_arg0)) = V (Proc.devRef .tc main_arg0) ∧
    half V (no_index (Proc.devRef .tc main_arg1)) = V (Proc.devRef .tc main_arg1) ∧
    half V (no_index (Proc.devRef .tc main_arg2)) = V (Proc.devRef .tc main_arg2) ∧
    half V (no_index (Proc.devRef .tc main_arg3)) = V (Proc.devRef .tc main_arg3) ∧
    half V (no_index (Proc.devRef .tc main_arg4)) = V (Proc.devRef .tc main_arg4) ∧
    half V (no_index (Proc.devRef .tc main_arg5)) = V (Proc.devRef .tc main_arg5) ∧
    half V (no_index (Proc.devRef .tc main_arg6)) = V (Proc.devRef .tc main_arg6) ∧
    half V (no_index (Proc.devRef .tc main_arg7)) = V (Proc.devRef .tc main_arg7) ∧
    half V (no_index (Proc.devRef .tc main_arg8)) = V (Proc.devRef .tc main_arg8) ∧
    half V (no_index (Proc.devRef .tc main_arg9)) = V (Proc.devRef .tc main_arg9) := by
  unfold half
  simp only [tab_v25, tab_keep, div1_v27, div1_v28, div1_v29, div1_keep, msk1_v46, msk1_keep, cnv_v97, cnv_keep, div2_v99, div2_v100, div2_v101,
    div2_keep, msk2_v118, msk2_keep, res_v121, res_v122, res_v123, res_v127, res_v131, res_v132, res_v133, res_keep, mask, mid, and_self]

end

end Cert.ReferenceIdeal.Vals

end

end
-- ==== Proof.Sample.lean ====
/- One sample of the forward kernel, as one function of the sample and the tables.

   The printed body unrolls its eight samples, and cuts the unrolled text without regard to where a sample
   begins. Here the work on one sample is written once; the pieces that a run of the body leaves in each
   output are these functions at the eight samples. -/
module

public import proofs.«01_k».proof.Proof.Gen.KernelIdeal

@[expose] public section

noncomputable section

namespace Cert.KernelIdeal.Sample

open Cert.KernelIdeal Cert.KernelIdeal.Gen Idealize.ShloMosaic Idealize.ShloMosaic.TcCoe

variable {F : FTy → Type} [FloatOps F] [Named F]

/-- The least row at which a column attains its maximum. -/
def first (x : FVec F S196x512 .f32) : IVec S1x512 32 :=
  shapeCast S1x512 (multiReductionI .minsi [0] S512
    (select (cmpf .oeq x (broadcastTo S196x512 (shapeCast S1x512
        (multiReduction .maximumf [0] S512 x 0xFF800000#32 reduces_S196x512_S512 (.inl rfl) rfl) shapeCasts_S512_S1x512)
        broadcasts_S1x512_S196x512))
      (iota .tc S196x512 32 [0] iota_S196x512_d0_w32) (broadcast S196x512 196#32))
    2147483647#32 reduces_S196x512_S512 rfl) shapeCasts_S512_S1x512

/-- The one-hot columns at the rows `first` names. -/
def hot (x : FVec F S196x512 .f32) : FVec F S196x512 .f32 :=
  sitofp .f32 (extui 32 (cmpi .eq (iota .tc S196x512 32 [0] iota_S196x512_d0_w32)
    (broadcastTo S196x512 (first x) broadcasts_S1x512_S196x512)) natLt_1_32)

/-- A table slice times a sample. -/
def tab (t : Vec F S1x196x196 .f32) (x : FVec F S196x512 .f32) : FVec F S196x512 .f32 :=
  matmul dot_S196x196_S196x512_S196x512_1_0_0_1_n_n none (shapeCast S196x196 t shapeCasts_S1x196x196_S196x196) x
    (constant S196x512 .f32 0x00000000#32)

/-- A sample times its templates, the negative part cut off. -/
def mask (t : Fin 3 → Vec F S1x196x196 .f32) (x : FVec F S196x512 .f32) : FVec F S196x512 .f32 :=
  maximumf (mulf x (addf (addf (tab (t 0) (hot x)) (tab (t 1) (hot x))) (tab (t 2) (hot x))))
    (broadcast S196x512 (Scalar.ofBits .f32 0x00000000#32))

/-- A sample shifted by one of the nine shift matrices, as the scratch holds it. -/
def slab (t : Vec F S1x196x196 .f32) (x : FVec F S196x512 .f32) : FVec F S1x196x512 .f32 :=
  shapeCast S1x196x512 (tab t x) shapeCasts_S196x512_S1x196x512

/-- One tap of the convolution: a shifted sample times its weights. -/
def tap (s : Vec F S1x196x512 .f32) (w : Vec F S1x512x512 .f32) : FVec F S196x512 .f32 :=
  matmul dot_S196x512_S512x512_S196x512_1_0_0_1_n_n none (shapeCast S196x512 s shapeCasts_S1x196x512_S196x512)
    (shapeCast S512x512 w shapeCasts_S1x512x512_S512x512) (constant S196x512 .f32 0x00000000#32)

/-- The nine taps over the bias, the negative part cut off. -/
def conv (s : Fin 9 → Vec F S1x196x512 .f32) (w : Fin 9 → Vec F S1x512x512 .f32) (b : Vec F S1x512 .f32) :
    FVec F S196x512 .f32 :=
  maximumf
    (addf (addf (addf (addf (addf (addf (addf (addf (addf
      (broadcastTo S196x512 (shapeCast S1x512 (shapeCast S1x512 b shapeCasts_S1x512_S1x512) shapeCasts_S1x512_S1x512)
        broadcasts_S1x512_S196x512)
      (tap (s 0) (w 0))) (tap (s 1) (w 1))) (tap (s 2) (w 2))) (tap (s 3) (w 3))) (tap (s 4) (w 4)))
      (tap (s 5) (w 5))) (tap (s 6) (w 6))) (tap (s 7) (w 7))) (tap (s 8) (w 8)))
    (broadcast S196x512 (Scalar.ofBits .f32 0x00000000#32))

/-- The mean over the rows. -/
def mean (x : FVec F S196x512 .f32) : FVec F S1x1x512 .f32 :=
  shapeCast S1x1x512 (mulf (shapeCast S1x512
      (multiReduction .add [0] S512 x 0x00000000#32 reduces_S196x512_S512 (.inl rfl) rfl) shapeCasts_S512_S1x512)
    (broadcast S1x512 (Named.named κ "inv_hw" 0x3BA72F05#32))) shapeCasts_S1x512_S1x1x512

/-- A pooling slice times a sample. -/
def pick (t : Vec F S1x49x196 .f32) (x : FVec F S196x512 .f32) : FVec F S49x512 .f32 :=
  matmul dot_S49x196_S196x512_S49x512_1_0_0_1_n_n none (shapeCast S49x196 t shapeCasts_S1x49x196_S49x196) x
    (constant S49x512 .f32 0x00000000#32)

/-- The maximum of the four pooling slices. -/
def pool (t : Fin 4 → Vec F S1x49x196 .f32) (x : FVec F S196x512 .f32) : FVec F S1x49x512 .f32 :=
  shapeCast S1x49x512 (maximumf (maximumf (pick (t 0) x) (pick (t 1) x)) (maximumf (pick (t 2) x) (pick (t 3) x)))
    shapeCasts_S49x512_S1x49x512

/-- A sample without its leading unit axis. -/
def flat (x : Vec F S1x196x512 .f32) : FVec F S196x512 .f32 := shapeCast S196x512 x shapeCasts_S1x196x512_S196x512

/-- A sample with its leading unit axis. -/
def lift (x : FVec F S196x512 .f32) : FVec F S1x196x512 .f32 := shapeCast S1x196x512 x shapeCasts_S196x512_S1x196x512

/-- A row of indices with its leading unit axis. -/
def liftI (x : IVec S1x512 32) : IVec S1x1x512 32 := shapeCast S1x1x512 x shapeCasts_S1x512_S1x1x512

end Cert.KernelIdeal.Sample

end
-- ==== Proof.First.lean ====
module

public import proofs.«01_k».proof.Proof.RefVals
public import proofs.«01_k».proof.Proof.Sample
public import Idealize.ShloMosaic.Lib.Pointwise

/-! The first position of the largest of several numbers. The kernel finds it as the least row index at which a column
equals its maximum, the reference by running through the column with a best value and its position; both are the
number `arg`. -/

@[expose] public section

noncomputable section

namespace Cert.First

open Idealize.ShloMosaic

/-- A length that is not zero and whose positions are words of positive sign. -/
class Short (n : ℕ) : Prop where
  pos : 0 < n
  lt : n < 2147483648

instance : Short 196 := ⟨by norm_num, by norm_num⟩
instance : Short 10 := ⟨by norm_num, by norm_num⟩

variable {n : ℕ}

/-- `p` is the first position at which `f` is largest. -/
def IsFirst (f : Fin n → EReal) (p : Fin n) : Prop := ∀ q, f q < f p ∨ f q = f p ∧ p ≤ q

theorem IsFirst.unique {f : Fin n → EReal} {p p' : Fin n} (h : IsFirst f p) (h' : IsFirst f p') : p = p' := by
  rcases h p' with a | ⟨a, b⟩ <;> rcases h' p with a' | ⟨a', b'⟩
  · exact absurd a' (lt_asymm a)
  · exact absurd a'.symm (ne_of_lt a)
  · exact absurd a.symm (ne_of_lt a')
  · exact le_antisymm b b'

variable [hn : Short n]

theorem exists_first (f : Fin n → EReal) : ∃ p, IsFirst f p := by
  obtain ⟨r, -, hr⟩ := Finset.exists_max_image Finset.univ f ⟨⟨0, hn.pos⟩, Finset.mem_univ _⟩
  obtain ⟨p, hp, hm⟩ := Finset.exists_min_image (Finset.univ.filter fun p => f p = f r) id ⟨r, by simp⟩
  have hp' : f p = f r := (Finset.mem_filter.mp hp).2
  refine ⟨p, fun q => ?_⟩
  rcases lt_or_eq_of_le (hr q (Finset.mem_univ q)) with h | h
  · exact .inl (hp' ▸ h)
  · exact .inr ⟨h.trans hp'.symm, hm q (by simp [h])⟩

/-- The first position at which `f` is largest. -/
def arg (f : Fin n → EReal) : Fin n := (exists_first f).choose

theorem arg_spec (f : Fin n → EReal) : IsFirst f (arg f) := (exists_first f).choose_spec

theorem le_arg (f : Fin n → EReal) (q : Fin n) : f q ≤ f (arg f) := by
  rcases arg_spec f q with h | ⟨h, -⟩
  exacts [h.le, h.le]

/-- A position as a word. -/
abbrev word {n : ℕ} (p : Fin n) : BitVec 32 := BitVec.ofNat 32 p

theorem toInt_small (k : ℕ) (h : k < 2147483648) : (BitVec.ofNat 32 k).toInt = k := by
  have e : k % 2 ^ 32 = k := Nat.mod_eq_of_lt (by omega)
  rw [BitVec.toInt_eq_toNat_cond, BitVec.toNat_ofNat, e, if_pos (by omega)]

theorem toInt_word (p : Fin n) : (word p).toInt = (p : ℕ) := toInt_small p (p.isLt.trans hn.lt)

theorem word_inj {p q : Fin n} (h : word p = word q) : p = q := by
  have := congrArg BitVec.toInt h
  rw [toInt_word, toInt_word] at this
  exact Fin.ext (by exact_mod_cast this)

theorem negInf : Ideal.ofBits .f32 0xFF800000#32 = ⊥ := by simp [Ideal.ofBits, Ideal.ieee]

theorem fold_max (f : Fin n → EReal) : Finset.fold max (⊥ : EReal) f Finset.univ = f (arg f) :=
  le_antisymm (Finset.fold_max_le _ |>.mpr ⟨bot_le, fun q _ => le_arg f q⟩)
    (Finset.le_fold_max _ |>.mpr (.inr ⟨arg f, Finset.mem_univ _, le_rfl⟩))

theorem toInt_minsi (x y : BitVec 32) : (IntOp.minsi x y).toInt = min x.toInt y.toInt := by
  unfold IntOp.minsi
  split <;> rename_i h <;> simp only [BitVec.slt, decide_eq_true_eq] at h
  · exact (min_eq_left h.le).symm
  · exact (min_eq_right (not_lt.mp h)).symm

/-- The least row index at which a column equals its maximum. -/
theorem fold_min (f : Fin n → EReal) :
    Finset.fold IntOp.minsi (2147483647#32) (fun q : Fin n => if f q = f (arg f) then BitVec.ofNat 32 (q : ℕ) else BitVec.ofNat 32 n)
      Finset.univ = word (arg f) := by
  apply BitVec.eq_of_toInt_eq
  rw [← Finset.fold_hom (m := BitVec.toInt) (op' := min) toInt_minsi, toInt_word]
  refine le_antisymm ?_ ?_
  · refine (Finset.fold_min_le _).mpr (.inr ⟨arg f, Finset.mem_univ _, ?_⟩)
    rw [if_pos rfl]; exact (toInt_word _).le
  · refine (Finset.le_fold_min _).mpr ⟨?_, fun q _ => ?_⟩
    · have := (arg f).isLt
      have h : (2147483647#32 : BitVec 32).toInt = 2147483647 := by decide
      have := hn.lt
      omega
    · split
      · rename_i h
        rw [show (BitVec.ofNat 32 (q : ℕ)).toInt = (q : ℕ) from toInt_word q]
        rcases arg_spec f q with a | ⟨-, a⟩
        · exact absurd h (ne_of_lt a)
        · exact_mod_cast a
      · have := (arg f).isLt
        have h : (BitVec.ofNat 32 n : BitVec 32).toInt = n := toInt_small n hn.lt
        omega

/-! ### Running through a list with the best pair so far -/

/-- `a` stands before `b`: a larger value, or the same value at a position that is not later. -/
def Before (a b : EReal × BitVec 32) : Prop := b.1 < a.1 ∨ b.1 = a.1 ∧ a.2.toInt ≤ b.2.toInt

theorem Before.refl (a : EReal × BitVec 32) : Before a a := .inr ⟨rfl, le_rfl⟩

theorem Before.trans {a b c : EReal × BitVec 32} (h : Before a b) (h' : Before b c) : Before a c := by
  rcases h with h | ⟨h, k⟩ <;> rcases h' with h' | ⟨h', k'⟩
  · exact .inl (h'.trans h)
  · exact .inl (h'.symm ▸ h)
  · exact .inl (h ▸ h')
  · exact .inr ⟨h'.trans h, k.trans k'⟩

/-- A step that keeps one of two pairs, the one that stands before. -/
def Keeps (r : EReal × BitVec 32 → EReal × BitVec 32 → EReal × BitVec 32) : Prop :=
  ∀ a b, (r a b = a ∨ r a b = b) ∧ Before (r a b) a ∧ Before (r a b) b

theorem foldl_best {r : EReal × BitVec 32 → EReal × BitVec 32 → EReal × BitVec 32} (hr : Keeps r)
    (L : List (EReal × BitVec 32)) (a : EReal × BitVec 32) :
    (L.foldl r a = a ∨ L.foldl r a ∈ L) ∧ Before (L.foldl r a) a ∧ ∀ e ∈ L, Before (L.foldl r a) e := by
  induction L generalizing a with
  | nil => exact ⟨.inl rfl, .refl a, by simp⟩
  | cons b L ih =>
    obtain ⟨h1, h2, h3⟩ := ih (r a b)
    obtain ⟨k1, k2, k3⟩ := hr a b
    refine ⟨?_, h2.trans k2, fun e he => ?_⟩
    · rcases h1 with h1 | h1
      · rcases k1 with k1 | k1
        · exact .inl (h1.trans k1)
        · exact .inr (by rw [List.foldl_cons, h1, k1]; exact List.mem_cons_self)
      · exact .inr (List.mem_cons_of_mem _ h1)
    · rcases List.mem_cons.mp he with rfl | he
      · exact h2.trans k3
      · exact h3 e he

/-- The position that the best pair ends with. -/
theorem foldl_arg {r : EReal × BitVec 32 → EReal × BitVec 32 → EReal × BitVec 32} (hr : Keeps r)
    (L : List (EReal × BitVec 32)) (f : Fin n → EReal) (hL : ∀ e, e ∈ L ↔ ∃ q, e = (f q, word q)) :
    (L.foldl r (⊥, 0#32)).2 = word (arg f) := by
  obtain ⟨h1, h2, h3⟩ := foldl_best hr L (⊥, 0#32)
  have key : ∃ p, L.foldl r (⊥, 0#32) = (f p, word p) := by
    rcases h1 with h1 | h1
    · refine ⟨⟨0, hn.pos⟩, ?_⟩
      have := h3 (f ⟨0, hn.pos⟩, word ⟨0, hn.pos⟩) ((hL _).mpr ⟨_, rfl⟩)
      rw [h1] at this ⊢
      have h0 : f ⟨0, hn.pos⟩ = ⊥ := by
        rcases this with h | ⟨h, -⟩
        · exact absurd h not_lt_bot
        · exact h
      rw [h0]
    · exact (hL _).mp h1
  obtain ⟨p, hp⟩ := key
  rw [hp] at h3 ⊢
  have : IsFirst f p := fun q => by
    rcases h3 (f q, word q) ((hL _).mpr ⟨q, rfl⟩) with h | ⟨h, k⟩
    · exact .inl h
    · exact .inr ⟨h, by
        have k' : (word p).toInt ≤ (word q).toInt := k
        rw [toInt_word, toInt_word] at k'; exact_mod_cast k'⟩
  rw [this.unique (arg_spec f)]

end Cert.First

namespace Cert.KernelIdeal.Sample

open Cert.KernelIdeal Cert.KernelIdeal.Gen Idealize.ShloMosaic Cert.First

theorem first_at (x : FVec Ideal S196x512 .f32) (l : Fin 512) :
    first (F := Ideal) x (ix2 0 l) = word (arg fun p => x (ix2 p l)) := by
  pointwise [first]
  rw [negInf, fold_max fun p => x (ix2 p l)]
  exact fold_min fun p => x (ix2 p l)

theorem hot_at (x : FVec Ideal S196x512 .f32) (p : Fin 196) (l : Fin 512) :
    hot (F := Ideal) x (ix2 p l) = if p = arg (fun p => x (ix2 p l)) then 1 else 0 := by
  pointwise [hot]
  rw [first_at]
  by_cases h : p = arg fun p => x (ix2 p l)
  · rw [if_pos h, ← h]
    simp [IntOp.cmpi, FloatOps.sitofp]
  · rw [if_neg h]
    have h' : ¬ BitVec.ofNat 32 (p : ℕ) = word (arg fun p => x (ix2 p l)) := fun e => h (word_inj e)
    simp [IntOp.cmpi, FloatOps.sitofp, beq_eq_false_iff_ne.mpr h']

end Cert.KernelIdeal.Sample

namespace Cert.ReferenceIdeal.Vals

open Cert.ReferenceIdeal Cert.ReferenceIdeal.Gen Cert.ReferenceIdeal.Ops Idealize.ShloMosaic Cert.First

/-- The search is a run through its column. -/
theorem arg_foldl {s t u : Shape} {axes : List (Fin s.rank)} (r : EReal × BitVec 32 → EReal × BitVec 32 → EReal × BitVec 32) (x : FVec Ideal s .f32) (y : s.Idx → BitVec 32) (ix : u.Idx → Ideal .f32)
    (iy : u.Idx → BitVec 32) (h : s.ReducesTo axes t) (hu : 0 < u.numel) (j : t.Idx) :
    Host.argReduce (F := Ideal) (φ := .f32) r x y ix iy h hu j = (Host.argReduceFiber x y h j).foldl r (ix (Shape.Idx.first hu), iy (Shape.Idx.first hu)) := by
  rw [Ideal.argReduce_eq_reduce2, Host.reduce2_eq_foldl_fiber]

/-- The search along positions `at p`, where the second array holds the positions. -/
theorem search_along {n : ℕ} [Short n] {s t u : Shape} {axes : List (Fin s.rank)} (r : EReal × BitVec 32 → EReal × BitVec 32 → EReal × BitVec 32)
    (keeps : Keeps r) (X : FVec Ideal s .f32) (Y : IVec s 32) (U : FVec Ideal u .f32) (W : IVec u 32) (h : s.ReducesTo axes t) (h0 : 0 < u.numel) (j : t.Idx)
    (e : Fin n → s.Idx) (he : ∀ i, h.drop i = j ↔ ∃ p, e p = i) (hu : ∀ i, U i = (⊥ : EReal)) (hv : ∀ i, W i = 0#32) (hY : ∀ p, Y (e p) = word p) :
    (Host.argReduce (F := Ideal) (φ := .f32) r X Y U W h h0 j).2 = word (arg fun p => X (e p)) := by
  rw [arg_foldl, hu, hv]
  refine foldl_arg keeps _ _ fun q => ?_
  unfold Host.argReduceFiber
  rw [List.mem_map]
  constructor
  · rintro ⟨k, hk, rfl⟩
    obtain ⟨p, hp⟩ := (he _).mp (of_decide_eq_true (List.mem_filter.mp hk).2)
    refine ⟨p, ?_⟩
    rw [← hp]
    exact Prod.ext rfl (hY p)
  · rintro ⟨p, rfl⟩
    refine ⟨Shape.rowMajor _ (e p), List.mem_filter.mpr ⟨List.mem_finRange _, decide_eq_true ?_⟩, ?_⟩
    · rw [Equiv.symm_apply_apply]
      exact (he _).mpr ⟨p, rfl⟩
    · rw [Equiv.symm_apply_apply, hY]

/-- The reference's step keeps the pair that stands before. -/
theorem keeps : Keeps (reducer_argmax_f32_i32 (F := Ideal)) := by
  intro a b
  obtain ⟨a1, a2⟩ := a
  obtain ⟨b1, b2⟩ := b
  simp only [reducer_argmax_f32_i32, Ideal.cmpf_def, Ideal.cmp, IntOp.ori, IntOp.andi, IntOp.cmpi, Scalar.select]
  rcases lt_trichotomy a1 b1 with h | rfl | h
  · simp [h, h.ne, not_lt.mpr h.le, Before]
  · by_cases k : a2.slt b2
    · have k' : a2.toInt ≤ b2.toInt := by
        have := k; simp only [BitVec.slt, decide_eq_true_eq] at this; exact this.le
      simp [k, k', Before]
    · have k' : b2.toInt ≤ a2.toInt := by
        have := k; simp only [BitVec.slt, decide_eq_true_eq, not_lt] at this; exact this
      simp [k, k', Before]
  · simp [h, h.ne', Before]

/-- The position part, with its pair named. -/
theorem argmaxIdx_eq {F : FTy → Type} [FloatOps F] : argmaxIdx (F := F) = fun x y u v j => (search x y u v j).2 := rfl

theorem best_apply {F : FTy → Type} [FloatOps F] (x : FVec F S128x14x14x512 .f32) :
   best (F := F) x = argmaxIdx (F := F) (shapeCast S128x196x512 x shapeCasts_S128x14x14x512_S128x196x512) (iotaInDim S128x196x512 32 1) (constant (F := F) S_ .f32 0xFF800000#32) (constantI S_ 32 0#32) := rfl

theorem best_at (x : FVec Ideal S128x14x14x512 .f32) (n : Fin 128) (l : Fin 512) :
    best (F := Ideal) x (ix2 n l)
      = word (arg fun p => shapeCast S128x196x512 x shapeCasts_S128x14x14x512_S128x196x512 (ix3 n p l)) := by
  rw [best_apply, argmaxIdx_eq]
  exact search_along (reducer_argmax_f32_i32 (F := Ideal)) keeps (shapeCast S128x196x512 x shapeCasts_S128x14x14x512_S128x196x512)
    (iotaInDim S128x196x512 32 1) (constant (F := Ideal) S_ .f32 0xFF800000#32) (constantI S_ 32 0#32) reducesTo_S128x196x512_S128x512_d1 h_S_
    (ix2 n l) (fun p => ix3 n p l) (Shape.ReducesTo.fiber_r3_a1 _ _) (fun _ => negInf) (fun _ => rfl) (fun p => by pointwise)

end Cert.ReferenceIdeal.Vals

end

end
-- ==== Proof.RefAt.lean ====
module

public import proofs.«01_k».proof.Proof.First

/-! The reference's stages on exact numbers, read at one sample, one position and one channel. A position is a number
below 196, or a row and a column below 14. -/

@[expose] public section

noncomputable section

namespace Cert.First

/-- The row of a position. -/
abbrev row (p : Fin 196) : Fin 14 := ⟨p / 14, by omega⟩

/-- The column of a position. -/
abbrev col (p : Fin 196) : Fin 14 := ⟨p % 14, by omega⟩

/-- The position in a row and a column. -/
abbrev pos (a b : Fin 14) : Fin 196 := ⟨14 * a + b, by omega⟩

/-- The value of a column next to a position, zero beyond the border: row and column each moved by -1, 0 or 1. -/
def near (s : Fin 196 → EReal) (i j : Fin 14) (u v : Fin 3) : EReal :=
  if h : (1 ≤ (i : ℕ) + u ∧ (i : ℕ) + u ≤ 14) ∧ 1 ≤ (j : ℕ) + v ∧ (j : ℕ) + v ≤ 14 then
    s (pos ⟨i + u - 1, by omega⟩ ⟨j + v - 1, by omega⟩)
  else 0

/-- Nine numbers added up, row by row. -/
def nine (f : Fin 3 → Fin 3 → EReal) : EReal :=
  f 0 0 + f 0 1 + f 0 2 + f 1 0 + f 1 1 + f 1 2 + f 2 0 + f 2 1 + f 2 2

theorem row_pos (a b : Fin 14) : row (pos a b) = a := Fin.ext (by simp only [row, pos]; omega)

theorem col_pos (a b : Fin 14) : col (pos a b) = b := Fin.ext (by simp only [col, pos]; omega)

theorem pos_row_col (p : Fin 196) : pos (row p) (col p) = p := Fin.ext (by simp only [row, col, pos]; omega)

end Cert.First

namespace Cert.ReferenceIdeal.Vals

open Cert.ReferenceIdeal Cert.ReferenceIdeal.Gen Cert.ReferenceIdeal.Ops Idealize.ShloMosaic Cert.First

/-- The column of one sample and one channel. -/
def column (x : FVec Ideal S128x14x14x512 .f32) (n : Fin 128) (l : Fin 512) : Fin 196 → EReal :=
  fun p => x (ix4 n (row p) (col p) l)

/-- The first position of the largest activation of one sample and one channel. -/
def top (x : FVec Ideal S128x14x14x512 .f32) (n : Fin 128) (l : Fin 512) : Fin 196 := arg (column x n l)

theorem best_top (x : FVec Ideal S128x14x14x512 .f32) (n : Fin 128) (l : Fin 512) :
    best (F := Ideal) x (ix2 n l) = word (top x n l) := by
  rw [best_at]
  unfold top column
  congr 2
  funext p
  pointwise

theorem quot_at (f : IVec S128x512 32) (n : Fin 128) (l : Fin 512) (p : Fin 196) (h : f (ix2 n l) = word p) :
    wrap (F := Ideal) (quot (F := Ideal) f) (ix2 n l) = BitVec.ofNat 32 (row p : ℕ) := by
  pointwise [wrap, quot, all2]
  rw [h]
  clear h
  revert p
  decide +kernel

theorem rem_at (f : IVec S128x512 32) (n : Fin 128) (l : Fin 512) (p : Fin 196) (h : f (ix2 n l) = word p) :
    wrap (F := Ideal) (rem (F := Ideal) f) (ix2 n l) = BitVec.ofNat 32 (col p : ℕ) := by
  pointwise [wrap, rem, all2, by14]
  rw [h]
  clear h
  revert p
  decide +kernel

theorem toNat_small (a : Fin 14) : min (BitVec.ofNat 32 (a : ℕ)).toInt.toNat (14 - 1) = a := by
  revert a; decide +kernel

/-- The row that the table lookup takes. -/
theorem look_at (t : FVec Ideal S14x14x14x14 .f32) (q r : IVec S128x512 32) (n : Fin 128) (l : Fin 512) (c d a b : Fin 14)
    (hq : wrap (F := Ideal) q (ix2 n l) = BitVec.ofNat 32 (c : ℕ)) (hr : wrap (F := Ideal) r (ix2 n l) = BitVec.ofNat 32 (d : ℕ)) :
    look (F := Ideal) t q r (ix4 n l a b) = t (ix4 c d a b) := by
  unfold look
  generalize hI : pair (F := Ideal) _ _ = I
  have h0 : I (ix3 n l 0) = BitVec.ofNat 32 (c : ℕ) := by
    rw [← hI, ← hq]; pointwise [pair]
  have h1 : I (ix3 n l 1) = BitVec.ofNat 32 (d : ℕ) := by
    rw [← hI, ← hr]; pointwise [pair]
  unfold Host.gather
  refine congrArg t ?_
  have hsi : ∀ k : Fin 2, gather_S14x14x14x14_S128x512x2_S128x512x14x14_23_01_n_n_01_2_111414.siIdx (ix4 n l a b) k = ix3 n l k := by
    intro k
    funext e
    match e with
    | ⟨0, _⟩ => rfl
    | ⟨1, _⟩ => rfl
    | ⟨2, _⟩ => rfl
  funext e
  refine Fin.ext ?_
  match e with
  | ⟨0, _⟩ =>
    show min (I (gather_S14x14x14x14_S128x512x2_S128x512x14x14_23_01_n_n_01_2_111414.siIdx (ix4 n l a b) (0 : Fin 2))).toInt.toNat (14 - 1) + 0 + 0 = _
    rw [hsi, h0, toNat_small]; rfl
  | ⟨1, _⟩ =>
    show min (I (gather_S14x14x14x14_S128x512x2_S128x512x14x14_23_01_n_n_01_2_111414.siIdx (ix4 n l a b) (1 : Fin 2))).toInt.toNat (14 - 1) + 0 + 0 = _
    rw [hsi, h1, toNat_small]; rfl
  | ⟨2, _⟩ =>
    exact Nat.zero_add _
  | ⟨3, _⟩ =>
    exact Nat.zero_add _

theorem mask_at (x : FVec Ideal S128x14x14x512 .f32) (n : Fin 128) (l : Fin 512) (a b : Fin 14) :
    mask (F := Ideal) x (ix4 n a b l)
      = max (x (ix4 n a b l) * table (F := Ideal) (ix4 (row (top x n l)) (col (top x n l)) a b)) 0 := by
  unfold mask
  pointwise [masked, relu]
  rw [look_at _ _ _ _ _ _ _ _ _ (quot_at _ _ _ _ (best_top x n l)) (rem_at _ _ _ _ (best_top x n l))]

theorem mean_at (x : FVec Ideal S128x14x14x512 .f32) (n : Fin 128) (l : Fin 512) :
    mean (F := Ideal) x (ix3 n 0 l) = Ideal.div (∑ p, column x n l p) (Ideal.ofBits .f32 0x43440000#32) := by
  pointwise [mean]
  unfold Ideal.hostReduceAdd
  rw [zero_add]
  refine congrArg (Ideal.div · _) (Finset.sum_filter_eq_sum_of_fiber _ (fun p : Fin 196 => ix4 n (row p) (col p) l) ?_ ?_ x)
  · intro p p' h
    have h1 : row p = row p' := congrFun h 1
    have h2 : col p = col p' := congrFun h 2
    rw [← pos_row_col p, ← pos_row_col p', h1, h2]
  · intro i
    constructor
    · intro h
      refine ⟨pos (i 1) (i 2), ?_⟩
      have h1 : row (pos (i 1) (i 2)) = i 1 := row_pos _ _
      have h2 : col (pos (i 1) (i 2)) = i 2 := col_pos _ _
      funext e
      match e with
      | ⟨0, _⟩ => exact (congrFun h 0).symm
      | ⟨1, _⟩ => exact h1
      | ⟨2, _⟩ => exact h2
      | ⟨3, _⟩ => exact (congrFun h 1).symm
    · rintro ⟨p, rfl⟩
      funext e
      match e with
      | ⟨0, _⟩ => rfl
      | ⟨1, _⟩ => rfl

/-- A row or column of a 2 x 2 window: `d` of window `c`. -/
abbrev twice (c : Fin 7) (d : Fin 2) : Fin 14 := ⟨2 * c + d, by omega⟩

theorem fold4 (h : EReal → Fin 4 → EReal) (v : EReal) (g : Fin 4 → EReal) (hv : v = ⊥) (hh : ∀ r k, h r k = max r (g k)) :
    List.foldl h v (List.finRange 4) = max (max (max (g 0) (g 1)) (g 2)) (g 3) := by
  have hl : List.finRange 4 = [0, 1, 2, 3] := by decide
  rw [hl]
  simp only [List.foldl_cons, List.foldl_nil, hh, hv, bot_sup_eq]

/-- The shape of a pooling window. -/
abbrev Win : Shape := ⟨4, ![1, 2, 2, 1]⟩

theorem win : ∀ k : Fin 4, (Win.rowMajor.symm k 0 : ℕ) = 0 ∧ (Win.rowMajor.symm k 1 : ℕ) = k / 2 ∧
    (Win.rowMajor.symm k 2 : ℕ) = k % 2 ∧ (Win.rowMajor.symm k 3 : ℕ) = 0 := by decide +kernel

theorem pool_at (x : FVec Ideal S128x14x14x512 .f32) (n : Fin 128) (p : Fin 49) (l : Fin 512) (i j : Fin 7)
    (hi : (i : ℕ) = p / 7) (hj : (j : ℕ) = p % 7) :
    pool (F := Ideal) x (ix3 n p l)
      = max (max (max (x (ix4 n (twice i 0) (twice j 0) l)) (x (ix4 n (twice i 0) (twice j 1) l)))
          (x (ix4 n (twice i 1) (twice j 0) l))) (x (ix4 n (twice i 1) (twice j 1) l)) := by
  pointwise [pool]
  rw [show (⟨(p : ℕ) / 7, by omega⟩ : Fin 7) = i from Fin.ext hi.symm, show (⟨(p : ℕ) % 7, by omega⟩ : Fin 7) = j from Fin.ext hj.symm]
  unfold Host.reduceWindow
  refine (fold4 _ _ (fun k => x (ix4 n (twice i ⟨k / 2, by omega⟩) (twice j ⟨k % 2, by omega⟩) l)) ?_ ?_).trans rfl
  · show Ideal.ofBits .f32 0xFF800000#32 = ⊥
    exact negInf
  · intro r k
    obtain ⟨w0, w1, w2, w3⟩ := win k
    have hk : (k : ℕ) < 4 := k.isLt
    refine congrArg (max r) ((dif_pos ?_).trans (congrArg x ?_))
    · intro a
      match a with
      | ⟨0, _⟩ => exact ⟨Nat.zero_le _, show (n : ℕ) * 1 + (Win.rowMajor.symm k 0 : ℕ) - 0 < 128 by rw [w0]; omega⟩
      | ⟨1, _⟩ => exact ⟨Nat.zero_le _, show (i : ℕ) * 2 + (Win.rowMajor.symm k 1 : ℕ) - 0 < 14 by rw [w1]; omega⟩
      | ⟨2, _⟩ => exact ⟨Nat.zero_le _, show (j : ℕ) * 2 + (Win.rowMajor.symm k 2 : ℕ) - 0 < 14 by rw [w2]; omega⟩
      | ⟨3, _⟩ => exact ⟨Nat.zero_le _, show (l : ℕ) * 1 + (Win.rowMajor.symm k 3 : ℕ) - 0 < 512 by rw [w3]; omega⟩
    · funext a
      refine Fin.ext ?_
      match a with
      | ⟨0, _⟩ => show (n : ℕ) * 1 + (Win.rowMajor.symm k 0 : ℕ) - 0 = n; rw [w0]; omega
      | ⟨1, _⟩ => show (i : ℕ) * 2 + (Win.rowMajor.symm k 1 : ℕ) - 0 = 2 * i + k / 2; rw [w1]; omega
      | ⟨2, _⟩ => show (j : ℕ) * 2 + (Win.rowMajor.symm k 2 : ℕ) - 0 = 2 * j + k % 2; rw [w2]; omega
      | ⟨3, _⟩ => show (l : ℕ) * 1 + (Win.rowMajor.symm k 3 : ℕ) - 0 = l; rw [w3]; omega

theorem padded_at (x : FVec Ideal S128x14x14x512 .f32) (n : Fin 128) (k : Fin 512) (i j : Fin 14) (u v : Fin 3) (a b : Fin 16)
    (ha : (a : ℕ) = i + u) (hb : (b : ℕ) = j + v) : padded (F := Ideal) x (ix4 n a b k) = near (column x n k) i j u v := by
  pointwise [padded]
  unfold near column
  by_cases h : (1 ≤ (i : ℕ) + u ∧ (i : ℕ) + u ≤ 14) ∧ 1 ≤ (j : ℕ) + v ∧ (j : ℕ) + v ≤ 14
  · rw [dif_pos h, dif_pos (by omega), row_pos, col_pos]
    congr 2 <;> exact Fin.ext (by simp only; omega)
  · rw [dif_neg h, dif_neg (by omega)]
    show (((0#32 : BitVec 32).toInt : ℝ) : EReal) = 0
    simp

/-- One tap of the convolution. -/
def tapSum (x : FVec Ideal S128x14x14x512 .f32) (w : FVec Ideal S3x3x512x512 .f32) (n : Fin 128) (l : Fin 512) (i j : Fin 14)
    (u v : Fin 3) : EReal :=
  ∑ k, near (column x n k) i j u v * w (ix4 u v k l)

theorem tap_of (x : FVec Ideal S128x14x14x512 .f32) (w : FVec Ideal S3x3x512x512 .f32) (n : Fin 128) (l : Fin 512) (i j : Fin 14)
    (u v : Fin 3) (a b : Fin 16) (ha : (a : ℕ) = i + u) (hb : (b : ℕ) = j + v) :
    (∑ k, padded (F := Ideal) x (ix4 n a b k) * w (ix4 u v k l)) = tapSum x w n l i j u v :=
  Finset.sum_congr rfl fun k _ => congrArg (· * w (ix4 u v k l)) (padded_at x n k i j u v a b ha hb)

theorem conv_at (x : FVec Ideal S128x14x14x512 .f32) (w : FVec Ideal S3x3x512x512 .f32) (b : FVec Ideal S512 .f32)
    (n : Fin 128) (l : Fin 512) (i j : Fin 14) : conv (F := Ideal) x w b (ix4 n i j l)
      = max (nine (fun u v => tapSum x w n l i j u v) + b (ix1 l)) 0 := by
  pointwise [conv, relu, prod, spread]
  unfold nine
  refine congrArg (max · 0) (congrArg (· + b (ix1 l)) ?_)
  iterate 8
    refine congrArg₂ (fun p q : EReal => p + q) ?_ (tap_of x w n l i j _ _ _ _
      (by first | rfl | exact Nat.add_comm _ _) (by first | rfl | exact Nat.add_comm _ _))
  exact tap_of x w n l i j 0 0 _ _ rfl rfl

end Cert.ReferenceIdeal.Vals

end
-- ==== Proof.Entry.lean ====
module

public import proofs.«01_k».proof.Proof.Gen.KernelIdeal.Frame
public import proofs.«01_k».proof.Proof.RefVals

/-! The arrays that the forward call is entered with, as terms of the arguments: the host's reshapes of the
arguments, and its tables. -/

@[expose] public section

set_option Elab.async false

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The transposed position table. -/
def tableT : FVec F S196x196 .f32 :=
  transpose S196x196 [1, 0] (shapeCast S196x196 (Cert.ReferenceIdeal.Vals.table (F := F)) shapeCasts_S14x14x14x14_S196x196)
    transposes_S196x196_S196x196_1_0

/-- A table rounded to the short format and back. -/
def short (x : FVec F S196x196 .f32) : FVec F S196x196 .f32 := extf .f32 (truncf .bf16 x bitsLt_bf16_f32) bitsLt_bf16_f32

/-- Three tables on top of each other. -/
def three (a b d : FVec F S196x196 .f32) : FVec F S3x196x196 .f32 :=
  concatenate S3x196x196 0 [⟨S1x196x196, broadcastInDim S1x196x196 ![1, 2] bcast_S196x196_S1x196x196_1_2 a⟩,
    ⟨S1x196x196, broadcastInDim S1x196x196 ![1, 2] bcast_S196x196_S1x196x196_1_2 b⟩,
    ⟨S1x196x196, broadcastInDim S1x196x196 ![1, 2] bcast_S196x196_S1x196x196_1_2 d⟩]
    concatenates_S1x196x196_S1x196x196_S1x196x196_S3x196x196_d0

/-- A table as its short part, the short part of what is left, and the rest. -/
def split (x : FVec F S196x196 .f32) : FVec F S3x196x196 .f32 :=
  three (short x) (short (subf x (short x))) (subf (subf x (short x)) (short (subf x (short x))))

/-- The shift tables before the reshape. -/
def shift : FVec F S3x3x14x14x14x14 .f32 :=
  uitofp .f32 (andi
    (cmpi .eq (iotaInDim S3x3x14x14x14x14 32 4) (subi (addi (iotaInDim S3x3x14x14x14x14 32 2) (iotaInDim S3x3x14x14x14x14 32 0))
      (broadcastInDim S3x3x14x14x14x14 ![] bcast_S_S3x3x14x14x14x14 (constantI S_ 32 1#32))))
    (cmpi .eq (iotaInDim S3x3x14x14x14x14 32 5) (subi (addi (iotaInDim S3x3x14x14x14x14 32 3) (iotaInDim S3x3x14x14x14x14 32 1))
      (broadcastInDim S3x3x14x14x14x14 ![] bcast_S_S3x3x14x14x14x14 (constantI S_ 32 1#32)))))

/-- The window tables before the reshape. -/
def wins : FVec F S2x2x7x7x14x14 .f32 :=
  uitofp .f32 (andi
    (cmpi .eq (iotaInDim S2x2x7x7x14x14 32 4) (addi (muli (broadcastInDim S2x2x7x7x14x14 ![] bcast_S_S2x2x7x7x14x14 (constantI S_ 32 2#32))
      (iotaInDim S2x2x7x7x14x14 32 2)) (iotaInDim S2x2x7x7x14x14 32 0)))
    (cmpi .eq (iotaInDim S2x2x7x7x14x14 32 5) (addi (muli (broadcastInDim S2x2x7x7x14x14 ![] bcast_S_S2x2x7x7x14x14 (constantI S_ 32 2#32))
      (iotaInDim S2x2x7x7x14x14 32 3)) (iotaInDim S2x2x7x7x14x14 32 1))))

variable (m : (ℓ : Loc nD τ sig) → Buf (Elt F) ℓ) (ρ : Dev nD → PrngReg) (c : Dev nD)

theorem V72 : V1 m ρ c main_v72 = shapeCast S128x196x512 (m ((c : Thread nD τ).loc main_arg0)) shapeCasts_S128x14x14x512_S128x196x512 := by
  show StableHlo.after hostOps0 (W0 m ρ c) (Proc.devRef .tc main_v72) = _
  simp only [hostOps0]
  after_results_simp
  all_goals rfl

theorem V73 : V1 m ρ c main_v73 = shapeCast S9x512x512 (m ((c : Thread nD τ).loc main_arg2)) shapeCasts_S3x3x512x512_S9x512x512 := by
  show StableHlo.after hostOps0 (W0 m ρ c) (Proc.devRef .tc main_v73) = _
  simp only [hostOps0]
  after_results_simp
  all_goals rfl

theorem V74 : V1 m ρ c main_v74 = shapeCast S1x512 (m ((c : Thread nD τ).loc main_arg3)) shapeCasts_S512_S1x512 := by
  show StableHlo.after hostOps0 (W0 m ρ c) (Proc.devRef .tc main_v74) = _
  simp only [hostOps0]
  after_results_simp
  all_goals rfl

theorem V44 : V1 m ρ c main_v44 = shapeCast S9x196x196 (shift (F := F)) shapeCasts_S3x3x14x14x14x14_S9x196x196 := by
  show StableHlo.after hostOps0 (W0 m ρ c) (Proc.devRef .tc main_v44) = _
  simp only [hostOps0]
  after_results_simp
  all_goals rfl

theorem V61 : V1 m ρ c main_v61 = shapeCast S4x49x196 (wins (F := F)) shapeCasts_S2x2x7x7x14x14_S4x49x196 := by
  show StableHlo.after hostOps0 (W0 m ρ c) (Proc.devRef .tc main_v61) = _
  simp only [hostOps0]
  after_results_simp
  all_goals rfl

theorem V71 : V1 m ρ c main_v71 = split (tableT (F := F)) := by
  show StableHlo.after hostOps0 (W0 m ρ c) (Proc.devRef .tc main_v71) = _
  simp only [hostOps0]
  after_results_simp
  all_goals rfl

end Cert.KernelIdeal.Entry

end

end
-- ==== Proof.Rows.lean ====
/- A three-axis buffer written one leading row at a time.

   A body that stores row 0, row 1, … of a buffer leaves a list of pieces, the last store first. Here that list
   is written as one function of the rows, and what the list holds at row `j` is row `j`, whatever was stored
   before. -/
module

public import Idealize.ShloMosaic.Lib.Pipeline.ValueKit
public import Idealize.ShloMosaic.Lib.ValueIdxCore
public import Idealize.ShloMosaic.Lib.Pipeline.CanonAppend

@[expose] public section

noncomputable section

namespace Cert.Rows

open Idealize.ShloMosaic Idealize.ShloMosaic.TcCoe Idealize.SL.Sem

variable {Val : EltTy → Type} {e : EltTy} {n a b : ℕ}

/-- Row `j` lies within the buffer. -/
theorem inb (j : ℕ) (h : j < n) :
    ∀ d : Fin 3, (![j, 0, 0] : Fin 3 → ℕ) d + (![1, a, b] : Fin 3 → ℕ) d ≤ (⟨3, ![n, a, b]⟩ : Shape).size d :=
  fun d => match d with
    | ⟨0, _⟩ => h
    | ⟨1, _⟩ => Nat.le_of_eq (Nat.zero_add a)
    | ⟨2, _⟩ => Nat.le_of_eq (Nat.zero_add b)

/-- The rectangle of row `j`. -/
abbrev row (j : ℕ) (h : j < n) : Rect (⟨3, ![n, a, b]⟩ : Shape) := Rect.unit ![j, 0, 0] ![1, a, b] (inb j h)

/-- The stores of rows `0, …, k - 1`, the last store first. -/
def upto (f : Fin n → (⟨3, ![1, a, b]⟩ : Shape).Idx → Val e) : (k : ℕ) → k ≤ n → List (View.Piece Val (⟨3, ![n, a, b]⟩ : Shape) e)
  | 0, _ => []
  | k + 1, h => ⟨row k h, f ⟨k, h⟩⟩ :: upto f k (Nat.le_of_succ_le h)

/-- The whole buffer that the rows make. -/
def stack (f : Fin n → (⟨3, ![1, a, b]⟩ : Shape).Idx → Val e) : (⟨3, ![n, a, b]⟩ : Shape).Idx → Val e :=
  fun y => f (y 0) (ix3 (0 : Fin 1) (y 1) (y 2))

theorem emb_row (j : ℕ) (h : j < n) (x : (⟨3, ![1, a, b]⟩ : Shape).Idx) :
    (row (a := a) (b := b) j h).emb x = ix3 (⟨j, h⟩ : Fin n) (x 1) (x 2) := by
  funext d
  match d with
  | ⟨0, _⟩ =>
    have h0 : (x 0).val < 1 := (x 0).isLt
    refine Fin.ext ((ValueKit.rect_emb_unit_val (s := ⟨3, ![n, a, b]⟩) ![j, 0, 0] ![1, a, b] (inb j h) x 0).trans ?_)
    show j + (x 0).val = j
    omega
  | ⟨1, _⟩ => exact Fin.ext ((ValueKit.rect_emb_unit_val (s := ⟨3, ![n, a, b]⟩) ![j, 0, 0] ![1, a, b] (inb j h) x 1).trans (Nat.zero_add _))
  | ⟨2, _⟩ => exact Fin.ext ((ValueKit.rect_emb_unit_val (s := ⟨3, ![n, a, b]⟩) ![j, 0, 0] ![1, a, b] (inb j h) x 2).trans (Nat.zero_add _))

theorem eq_one (x : (⟨3, ![1, a, b]⟩ : Shape).Idx) : x = ix3 (0 : Fin 1) (x 1) (x 2) := by
  refine (eq_ix3 x).trans ?_
  have h0 : x 0 = (0 : Fin 1) := Subsingleton.elim (α := Fin 1) _ _
  rw [h0]
  rfl

/-- Each store puts the rows' own values where it lies. -/
theorem upto_piece (f : Fin n → (⟨3, ![1, a, b]⟩ : Shape).Idx → Val e) :
    ∀ (k : ℕ) (h : k ≤ n), ∀ p ∈ upto f k h, ∀ x : p.1.shape.Idx, p.2 x = stack f (p.1.emb x)
  | 0, _, p, hp => absurd hp List.not_mem_nil
  | k + 1, h, p, hp => by
    rcases List.mem_cons.mp hp with rfl | hp
    · intro x
      have hx : x = ix3 (0 : Fin 1) (x 1) (x 2) := eq_one (a := a) (b := b) x
      show f ⟨k, h⟩ x = stack f ((row k h).emb x)
      rw [emb_row (a := a) (b := b) k h x]
      exact congrArg (f ⟨k, h⟩) hx
    · exact upto_piece f k _ p hp

theorem upto_cover (f : Fin n → (⟨3, ![1, a, b]⟩ : Shape).Idx → Val e) :
    ∀ (k : ℕ) (h : k ≤ n) (y : (⟨3, ![n, a, b]⟩ : Shape).Idx), (y 0).val < k → ∃ p ∈ upto f k h, y ∈ p.1.set
  | 0, _, y, hy => absurd hy (Nat.not_lt_zero _)
  | k + 1, h, y, hy => by
    by_cases hk : (y 0).val = k
    · refine ⟨_, List.mem_cons_self, ?_⟩
      have hy : (row k h).emb (ix3 (0 : Fin 1) (y 1) (y 2) : (⟨3, ![1, a, b]⟩ : Shape).Idx) = y := by
        refine (emb_row k h _).trans ?_
        refine Eq.trans ?_ (eq_ix3 y).symm
        have : (⟨k, h⟩ : Fin n) = y 0 := Fin.ext hk.symm
        rw [this]
        rfl
      exact hy ▸ LoadRect.idx_mem _ _
    · obtain ⟨p, hp, hm⟩ := upto_cover f k (Nat.le_of_succ_le h) y (by omega)
      exact ⟨p, List.mem_cons_of_mem _ hp, hm⟩

variable [∀ e, Nonempty (Val e)]

/-- All rows stored: the buffer is the stack of the rows, whatever was stored before. -/
theorem canon_upto (f : Fin n → (⟨3, ![1, a, b]⟩ : Shape).Idx → Val e) (L : List (View.Piece Val (⟨3, ![n, a, b]⟩ : Shape) e)) :
    View.canon (upto f n (Nat.le_refl n) ++ L) = stack f :=
  funext fun y => View.canon_append_of_pieces (stack f) L _ (upto_piece f n _) y (upto_cover f n _ y (y 0).isLt)

/-- Row `j` read back from the buffer. -/
theorem readCov_upto {sig : RefSig} {κ : Kind} {sp : Space} (v : View sig κ sp (⟨3, ![n, a, b]⟩ : Shape) e)
    (f : Fin n → (⟨3, ![1, a, b]⟩ : Shape).Idx → Val e) (L : List (View.Piece Val (⟨3, ![n, a, b]⟩ : Shape) e)) (j : Fin n) :
    v.readCov (upto f n (Nat.le_refl n) ++ L) (row j.val j.isLt).toLoadRect = f j := by
  rw [View.readCov_eq_canon', canon_upto]
  funext x
  refine (congrArg (stack f) (emb_row (a := a) (b := b) j.val j.isLt x)).trans ?_
  exact congrArg (f j) (eq_one (a := a) (b := b) x).symm

end Cert.Rows

end
-- ==== Proof.Pieces.lean ====
/- What one run of the forward body leaves in each of its outputs: the samples' functions of `Sample`, row by row. -/
module

public import proofs.«01_k».proof.Proof.Gen.KernelIdeal.Frame
public import proofs.«01_k».proof.Proof.Sample
public import proofs.«01_k».proof.Proof.Rows

@[expose] public section

set_option maxRecDepth 16384

noncomputable section

namespace Cert.KernelIdeal.Pieces

open Cert.KernelIdeal Cert.KernelIdeal.Gen Cert.KernelIdeal.Sample Cert.Rows Idealize.ShloMosaic Idealize.ShloMosaic.TcCoe Idealize.SL.Sem

variable {F : FTy → Type} [FloatOps F] [Named F]

/-- Row `j` of an input block, as the body loads it. -/
abbrev ld {n a b : ℕ} (arg : Memref sig .tc .vmem ⟨3, ![n, a, b]⟩ .f32) (harg : arg.IsWhole) (x : Vec F ⟨3, ![n, a, b]⟩ .f32) (j : Fin n) :
    Vec F ⟨3, ![1, a, b]⟩ .f32 :=
  View.readAt (Elt F) arg.view (row j.val j.isLt).toLoadRect (harg.unread x)

variable (c : Dev nD) (i : grid0.Coords)
    (arg1 : Memref sig .tc .vmem S8x196x512 .f32) (harg1 : arg1.IsWhole) (arg2 : Memref sig .tc .vmem S3x196x196 .f32) (harg2 : arg2.IsWhole) (arg3 : Memref sig .tc .vmem S9x196x196 .f32) (harg3 : arg3.IsWhole) (arg4 : Memref sig .tc .vmem S4x49x196 .f32) (harg4 : arg4.IsWhole) (arg5 : Memref sig .tc .vmem S9x512x512 .f32) (harg5 : arg5.IsWhole)
    (arg6 : Memref sig .tc .vmem S1x512 .f32) (harg6 : arg6.IsWhole) (arg7 : Memref sig .tc .vmem S8x196x512 .f32) (harg7 : arg7.IsWhole) (arg8 : Memref sig .tc .vmem S8x196x512 .f32) (harg8 : arg8.IsWhole) (arg9 : Memref sig .tc .vmem S8x49x512 .f32) (harg9 : arg9.IsWhole) (arg10 : Memref sig .tc .vmem S8x1x512 .f32) (harg10 : arg10.IsWhole)
    (arg11 : Memref sig .tc .vmem S8x1x512 .f32) (harg11 : arg11.IsWhole) (arg12 : Memref sig .tc .vmem S8x1x512 .i32) (harg12 : arg12.IsWhole) (arg13 : Memref sig .tc .vmem S8x1x512 .i32) (harg13 : arg13.IsWhole) (arg14 : Memref sig .tc .vmem S9x196x512 .f32) (harg14 : arg14.IsWhole)
    (x0 : Vec F S8x196x512 .f32) (x1 : Vec F S3x196x196 .f32) (x2 : Vec F S9x196x196 .f32) (x3 : Vec F S4x49x196 .f32) (x4 : Vec F S9x512x512 .f32) (x5 : Vec F S1x512 .f32)

/-- The first activation of sample `j`. -/
def act1 (j : Fin 8) : FVec F S196x512 .f32 := mask (ld arg2 harg2 x1) (flat (ld arg1 harg1 x0 j))

/-- The nine shifted copies of a sample's first activation. -/
def slabs (j : Fin 8) (k : Fin 9) : Vec F S1x196x512 .f32 := slab (ld arg3 harg3 x2 k) (act1 arg1 harg1 arg2 harg2 x0 x1 j)

/-- What has been stored to the scratch when sample `j` loads its copies back, the last store first. -/
def held : Fin 8 → List (View.Piece (Elt F) S9x196x512 .f32) :=
  ![kernelRun0_A.sl.HS0_9 c arg1 harg1 arg2 harg2 arg3 harg3 x0 x1 x2, kernelRun0_A.sl.HS0_18 c arg1 harg1 arg2 harg2 arg3 harg3 x0 x1 x2, kernelRun0_A.sl.HS0_27 c arg1 harg1 arg2 harg2 arg3 harg3 x0 x1 x2, kernelRun0_A.sl.HS0_36 c arg1 harg1 arg2 harg2 arg3 harg3 x0 x1 x2,
    kernelRun0_A.sl.HS0_45 c arg1 harg1 arg2 harg2 arg3 harg3 x0 x1 x2, kernelRun0_A.sl.HS0_54 c arg1 harg1 arg2 harg2 arg3 harg3 x0 x1 x2, kernelRun0_A.sl.HS0_63 c arg1 harg1 arg2 harg2 arg3 harg3 x0 x1 x2, kernelRun0_A.sl.HS0_72 c arg1 harg1 arg2 harg2 arg3 harg3 x0 x1 x2]

/-- The last nine stores are the sample's own copies. -/
theorem held_eq : ∀ j : Fin 8, ∃ L, held c arg1 harg1 arg2 harg2 arg3 harg3 x0 x1 x2 j = upto (slabs arg1 harg1 arg2 harg2 arg3 harg3 x0 x1 x2 j) 9 (Nat.le_refl 9) ++ L
  | 0 => ⟨[], rfl⟩
  | 1 => ⟨kernelRun0_A.sl.HS0_9 c arg1 harg1 arg2 harg2 arg3 harg3 x0 x1 x2, rfl⟩
  | 2 => ⟨kernelRun0_A.sl.HS0_18 c arg1 harg1 arg2 harg2 arg3 harg3 x0 x1 x2, rfl⟩
  | 3 => ⟨kernelRun0_A.sl.HS0_27 c arg1 harg1 arg2 harg2 arg3 harg3 x0 x1 x2, rfl⟩
  | 4 => ⟨kernelRun0_A.sl.HS0_36 c arg1 harg1 arg2 harg2 arg3 harg3 x0 x1 x2, rfl⟩
  | 5 => ⟨kernelRun0_A.sl.HS0_45 c arg1 harg1 arg2 harg2 arg3 harg3 x0 x1 x2, rfl⟩
  | 6 => ⟨kernelRun0_A.sl.HS0_54 c arg1 harg1 arg2 harg2 arg3 harg3 x0 x1 x2, rfl⟩
  | 7 => ⟨kernelRun0_A.sl.HS0_63 c arg1 harg1 arg2 harg2 arg3 harg3 x0 x1 x2, rfl⟩

/-- Copy `k` as sample `j` loads it back from the scratch. -/
def back (j : Fin 8) (k : Fin 9) : Vec F S1x196x512 .f32 := arg14.view.readCov (held c arg1 harg1 arg2 harg2 arg3 harg3 x0 x1 x2 j) (row k.val k.isLt).toLoadRect

theorem back_eq (j : Fin 8) : back c arg1 harg1 arg2 harg2 arg3 harg3 arg14 x0 x1 x2 j
    = slabs arg1 harg1 arg2 harg2 arg3 harg3 x0 x1 x2 j := by
  funext k
  obtain ⟨L, hL⟩ := held_eq c arg1 harg1 arg2 harg2 arg3 harg3 x0 x1 x2 j
  rw [back, hL]
  exact readCov_upto arg14.view _ _ k

/-- The convolution of sample `j`, its shifted copies as loaded back. -/
def mid (j : Fin 8) : FVec F S196x512 .f32 :=
  conv (back c arg1 harg1 arg2 harg2 arg3 harg3 arg14 x0 x1 x2 j) (ld arg5 harg5 x4)
    (View.readAt (Elt F) arg6.view (Rect.unit ![0, 0] S1x512.size inb_S1x512_S1x512_0_0).toLoadRect (harg6.unread x5))

/-- The second activation of sample `j`. -/
def act2 (j : Fin 8) : FVec F S196x512 .f32 :=
  mask (ld arg2 harg2 x1) (mid c arg1 harg1 arg2 harg2 arg3 harg3 arg5 harg5 arg6 harg6 arg14 x0 x1 x2 x4 x5 j)
theorem rows7 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1 = upto (fun j => lift (act2 c arg1 harg1 arg2 harg2 arg3 harg3 arg5 harg5 arg6 harg6 arg14 x0 x1 x2 x4 x5 j)) 8 (Nat.le_refl 8) := by
  unfold kernelRun0_A
  rfl

theorem rows12 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1 = upto (fun j => liftI (first (mid c arg1 harg1 arg2 harg2 arg3 harg3 arg5 harg5 arg6 harg6 arg14 x0 x1 x2 x4 x5 j))) 8 (Nat.le_refl 8) := by
  unfold kernelRun0_A
  rfl

theorem rows6 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).1 = upto (fun j => lift (act1 arg1 harg1 arg2 harg2 x0 x1 j)) 8 (Nat.le_refl 8) := by
  unfold kernelRun0_A
  rfl

theorem rows8 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1 = upto (fun j => pool (ld arg4 harg4 x3) (act2 c arg1 harg1 arg2 harg2 arg3 harg3 arg5 harg5 arg6 harg6 arg14 x0 x1 x2 x4 x5 j)) 8 (Nat.le_refl 8) := by
  unfold kernelRun0_A
  rfl

theorem rows9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1 = upto (fun j => mean (act1 arg1 harg1 arg2 harg2 x0 x1 j)) 8 (Nat.le_refl 8) := by
  unfold kernelRun0_A
  rfl

theorem rows10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1 = upto (fun j => mean (act2 c arg1 harg1 arg2 harg2 arg3 harg3 arg5 harg5 arg6 harg6 arg14 x0 x1 x2 x4 x5 j)) 8 (Nat.le_refl 8) := by
  unfold kernelRun0_A
  rfl

theorem rows11 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1 = upto (fun j => liftI (first (flat (ld arg1 harg1 x0 j)))) 8 (Nat.le_refl 8) := by
  unfold kernelRun0_A
  rfl

end Cert.KernelIdeal.Pieces

end
-- ==== Proof.Blocks.lean ====
/- The forward kernel's result arrays after the launch, each as one function of the arrays at the launch's entry. -/
module

public import proofs.«01_k».proof.Proof.Gen.KernelIdeal.Frame
public import proofs.«01_k».proof.Proof.Pieces

@[expose] public section

set_option maxRecDepth 16384

noncomputable section

namespace Cert.KernelIdeal.Blocks

open Cert.KernelIdeal Cert.KernelIdeal.Gen Cert.KernelIdeal.Sample Cert.KernelIdeal.Pieces Cert.Rows
open Idealize.ShloMosaic Idealize.ShloMosaic.TcCoe Idealize.SL.Sem
open Idealize.ShloMosaic.Pipeline (Dat)

variable {F : FTy → Type} [FloatOps F] [Named F]

/-- Row `j` of a three-axis array, its leading axis kept. -/
def slice {Val : Type} {n a b : ℕ} (x : (⟨3, ![n, a, b]⟩ : Shape).Idx → Val) (j : Fin n) : (⟨3, ![1, a, b]⟩ : Shape).Idx → Val :=
  fun y => x (ix3 j (y 1) (y 2))

theorem ld_eq {n a b : ℕ} (arg : Memref sig .tc .vmem ⟨3, ![n, a, b]⟩ .f32) (harg : arg.IsWhole) (x : Vec F ⟨3, ![n, a, b]⟩ .f32) :
    ld arg harg x = slice x := by
  funext j y
  show (arg.view.read (Elt F) (harg.unread x)) ((row j.val j.isLt).toLoadRect.idx y) = _
  rw [harg.read_unread]
  exact congrArg x (emb_row (a := a) (b := b) j.val j.isLt y)

/-- The first activation of sample `j` of a batch `x` under the templates `t`. -/
def first1 {n : ℕ} (x : Vec F ⟨3, ![n, 196, 512]⟩ .f32) (t : Vec F S3x196x196 .f32) (j : Fin n) : FVec F S196x512 .f32 :=
  mask (slice t) (flat (slice x j))

/-- The convolution of sample `j`: its nine shifted copies by `s`, weights `w`, bias `b`. -/
def middle {n : ℕ} (x : Vec F ⟨3, ![n, 196, 512]⟩ .f32) (t : Vec F S3x196x196 .f32) (s : Vec F S9x196x196 .f32)
    (w : Vec F S9x512x512 .f32) (b : Vec F S1x512 .f32) (j : Fin n) : FVec F S196x512 .f32 :=
  conv (fun k => slab (slice s k) (first1 x t j)) (slice w) b

/-- The second activation of sample `j`. -/
def second {n : ℕ} (x : Vec F ⟨3, ![n, 196, 512]⟩ .f32) (t : Vec F S3x196x196 .f32) (s : Vec F S9x196x196 .f32)
    (w : Vec F S9x512x512 .f32) (b : Vec F S1x512 .f32) (j : Fin n) : FVec F S196x512 .f32 :=
  mask (slice t) (middle x t s w b j)

section
variable (c : Dev nD) (i : grid0.Coords)
    (arg1 : Memref sig .tc .vmem S8x196x512 .f32) (harg1 : arg1.IsWhole) (arg2 : Memref sig .tc .vmem S3x196x196 .f32) (harg2 : arg2.IsWhole) (arg3 : Memref sig .tc .vmem S9x196x196 .f32) (harg3 : arg3.IsWhole) (arg4 : Memref sig .tc .vmem S4x49x196 .f32) (harg4 : arg4.IsWhole) (arg5 : Memref sig .tc .vmem S9x512x512 .f32) (harg5 : arg5.IsWhole)
    (arg6 : Memref sig .tc .vmem S1x512 .f32) (harg6 : arg6.IsWhole) (arg7 : Memref sig .tc .vmem S8x196x512 .f32) (harg7 : arg7.IsWhole) (arg8 : Memref sig .tc .vmem S8x196x512 .f32) (harg8 : arg8.IsWhole) (arg9 : Memref sig .tc .vmem S8x49x512 .f32) (harg9 : arg9.IsWhole) (arg10 : Memref sig .tc .vmem S8x1x512 .f32) (harg10 : arg10.IsWhole)
    (arg11 : Memref sig .tc .vmem S8x1x512 .f32) (harg11 : arg11.IsWhole) (arg12 : Memref sig .tc .vmem S8x1x512 .i32) (harg12 : arg12.IsWhole) (arg13 : Memref sig .tc .vmem S8x1x512 .i32) (harg13 : arg13.IsWhole) (arg14 : Memref sig .tc .vmem S9x196x512 .f32) (harg14 : arg14.IsWhole)
    (x0 : Vec F S8x196x512 .f32) (x1 : Vec F S3x196x196 .f32) (x2 : Vec F S9x196x196 .f32) (x3 : Vec F S4x49x196 .f32) (x4 : Vec F S9x512x512 .f32) (x5 : Vec F S1x512 .f32)

theorem act1_eq (j : Fin 8) : act1 arg1 harg1 arg2 harg2 x0 x1 j = first1 x0 x1 j := by
  unfold act1 first1
  rw [ld_eq, ld_eq]

theorem mid_eq (j : Fin 8) : mid c arg1 harg1 arg2 harg2 arg3 harg3 arg5 harg5 arg6 harg6 arg14 x0 x1 x2 x4 x5 j = middle x0 x1 x2 x4 x5 j := by
  unfold mid middle
  rw [back_eq, ld_eq]
  congr 1
  · funext k
    show slab (ld arg3 harg3 x2 k) (act1 arg1 harg1 arg2 harg2 x0 x1 j) = _
    rw [ld_eq, act1_eq]
  · show View.ld (arg6.view.read (Elt F) (harg6.unread x5)) (Rect.unit ![0, 0] S1x512.size inb_S1x512_S1x512_0_0) = x5
    rw [harg6.read_unread]
    exact View.ld_unit_zero (S := S1x512) (funext fun d => match d with | ⟨0, _⟩ => rfl | ⟨1, _⟩ => rfl) _ x5

theorem act2_eq (j : Fin 8) : act2 c arg1 harg1 arg2 harg2 arg3 harg3 arg5 harg5 arg6 harg6 arg14 x0 x1 x2 x4 x5 j = second x0 x1 x2 x4 x5 j := by
  unfold act2 second
  rw [ld_eq, mid_eq]

theorem out6 : out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => lift (first1 x0 x1 j) := by
  unfold out0_A_6
  rw [rows6, View.read_writes_junk_eq_canon, ← List.append_nil (upto _ _ _), canon_upto]
  simp only [act1_eq, mid_eq, act2_eq, ld_eq]

theorem out7 : out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => lift (second x0 x1 x2 x4 x5 j) := by
  unfold out0_A_7
  rw [rows7, View.read_writes_junk_eq_canon, ← List.append_nil (upto _ _ _), canon_upto]
  simp only [act1_eq, mid_eq, act2_eq, ld_eq]

theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => pool (slice x3) (second x0 x1 x2 x4 x5 j) := by
  unfold out0_A_8
  rw [rows8, View.read_writes_junk_eq_canon, ← List.append_nil (upto _ _ _), canon_upto]
  simp only [act1_eq, mid_eq, act2_eq, ld_eq]

theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => mean (first1 x0 x1 j) := by
  unfold out0_A_9
  rw [rows9, View.read_writes_junk_eq_canon, ← List.append_nil (upto _ _ _), canon_upto]
  simp only [act1_eq, mid_eq, act2_eq, ld_eq]

theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => mean (second x0 x1 x2 x4 x5 j) := by
  unfold out0_A_10
  rw [rows10, View.read_writes_junk_eq_canon, ← List.append_nil (upto _ _ _), canon_upto]
  simp only [act1_eq, mid_eq, act2_eq, ld_eq]

theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => liftI (first (flat (slice x0 j))) := by
  unfold out0_A_11
  rw [rows11, View.read_writes_junk_eq_canon, ← List.append_nil (upto _ _ _), canon_upto]
  exact congrArg stack (funext fun j => by rw [ld_eq])

theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 = stack fun j : Fin 8 => liftI (first (middle x0 x1 x2 x4 x5 j)) := by
  unfold out0_A_12
  rw [rows12, View.read_writes_junk_eq_canon, ← List.append_nil (upto _ _ _), canon_upto]
  simp only [act1_eq, mid_eq, act2_eq, ld_eq]

end

variable (V : (c : Dev nD) → (b : Ref sig .tc) → Buf (Elt F) ((c : Thread nD τ).loc b))

/-- Sample `j` of point `t`, as a sample of the batch. -/
def samp (t : Fin cfg0.N) (j : Fin 8) : Fin 128 := ⟨8 * t.val + j.val, by have : t.val < 16 := t.isLt; omega⟩

theorem stack_samp {Val : EltTy → Type} {e : EltTy} {a b : ℕ} (t : Fin cfg0.N) {f : Fin 8 → (⟨3, ![1, a, b]⟩ : Shape).Idx → Val e}
    {g : Fin 128 → (⟨3, ![1, a, b]⟩ : Shape).Idx → Val e} (h : ∀ j, f j = g (samp t j))
    (y : (⟨3, ![8, a, b]⟩ : Shape).Idx) (z : (⟨3, ![128, a, b]⟩ : Shape).Idx) (i : Fin 3 → ℕ) (hi : i = ![t.val, 0, 0])
    (hz : ∀ d : Fin 3, (z d).val = i d * (![8, a, b] : Fin 3 → ℕ) d + 1 * (y d).val) : stack f y = stack g z := by
  have hz : z = ix3 (samp t (y 0)) (y 1) (y 2) := by
    subst hi
    funext d
    apply Fin.ext
    rw [hz d]
    match d with
    | ⟨0, _⟩ => show t.val * 8 + 1 * (y 0).val = 8 * t.val + (y 0).val; omega
    | ⟨1, _⟩ => show 0 * a + 1 * (y 1).val = (y 1).val; omega
    | ⟨2, _⟩ => show 0 * b + 1 * (y 2).val = (y 2).val; omega
  rw [hz]
  exact congrFun (h (y 0)) _

/-- The index maps: point `t` takes and gives the `t`-th block of eight samples; the tables are whole. -/
theorem idx : ∀ t : Fin cfg0.N, win0_0.index t = ![t.val, 0, 0] ∧ win0_1.index t = (fun _ => 0) ∧ win0_2.index t = (fun _ => 0)
    ∧ win0_3.index t = (fun _ => 0) ∧ win0_4.index t = (fun _ => 0) ∧ win0_5.index t = (fun _ => 0)
    ∧ win0_6.index t = ![t.val, 0, 0] ∧ win0_7.index t = ![t.val, 0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0] :=
  (by decide +kernel : ∀ t : Fin grid0.N, _)

/-- The batch's block: row `j` of point `t` is sample `8 t + j`. -/
theorem blk0 (c : Dev nD) (t : Fin cfg0.N) (j : Fin 8) : slice (iblk0 V c 0 t) j = slice (V c main_v72) (samp t j) := by
  funext y
  show V c main_v72 (((cfg0.win 0).blk t).view.emb (ix3 j (y 1) (y 2) : S8x196x512.Idx)) = _
  refine congrArg (V c main_v72) ?_
  funext d
  apply Fin.ext
  show win0_0.index t d * S8x196x512.size d + 1 * ((ix3 j (y 1) (y 2) : S8x196x512.Idx) d).val = _
  rw [(idx t).1]
  match d with
  | ⟨0, _⟩ => show t.val * 8 + 1 * j.val = 8 * t.val + j.val; omega
  | ⟨1, _⟩ => show 0 * 196 + 1 * (y 1).val = (y 1).val; omega
  | ⟨2, _⟩ => show 0 * 512 + 1 * (y 2).val = (y 2).val; omega

/-- A block at index zero has its array's own indices. -/
theorem zero_idx {n : ℕ} {i s y z : Fin n → ℕ} (hi : i = fun _ => 0) (hz : ∀ d, z d = i d * s d + 1 * y d) (d : Fin n) : z d = y d := by
  subst hi
  rw [hz d, Nat.zero_mul, Nat.zero_add, Nat.one_mul]

theorem blk1 (c : Dev nD) (t : Fin cfg0.N) : iblk0 V c 1 t = V c main_v71 :=
  funext fun y => congrArg (V c main_v71) (funext fun d => Fin.ext
    (zero_idx (i := win0_1.index t) (s := S3x196x196.size) (y := fun d => (y d).val)
      (z := fun d => (((cfg0.win 1).blk t).view.emb y d).val) (idx t).2.1 (fun _ => rfl) d))

theorem blk2 (c : Dev nD) (t : Fin cfg0.N) : iblk0 V c 2 t = V c main_v44 :=
  funext fun y => congrArg (V c main_v44) (funext fun d => Fin.ext
    (zero_idx (i := win0_2.index t) (s := S9x196x196.size) (y := fun d => (y d).val)
      (z := fun d => (((cfg0.win 2).blk t).view.emb y d).val) (idx t).2.2.1 (fun _ => rfl) d))

theorem blk3 (c : Dev nD) (t : Fin cfg0.N) : iblk0 V c 3 t = V c main_v61 :=
  funext fun y => congrArg (V c main_v61) (funext fun d => Fin.ext
    (zero_idx (i := win0_3.index t) (s := S4x49x196.size) (y := fun d => (y d).val)
      (z := fun d => (((cfg0.win 3).blk t).view.emb y d).val) (idx t).2.2.2.1 (fun _ => rfl) d))

theorem blk4 (c : Dev nD) (t : Fin cfg0.N) : iblk0 V c 4 t = V c main_v73 :=
  funext fun y => congrArg (V c main_v73) (funext fun d => Fin.ext
    (zero_idx (i := win0_4.index t) (s := S9x512x512.size) (y := fun d => (y d).val)
      (z := fun d => (((cfg0.win 4).blk t).view.emb y d).val) (idx t).2.2.2.2.1 (fun _ => rfl) d))

theorem blk5 (c : Dev nD) (t : Fin cfg0.N) : iblk0 V c 5 t = V c main_v74 :=
  funext fun y => congrArg (V c main_v74) (funext fun d => Fin.ext
    (zero_idx (i := win0_5.index t) (s := S1x512.size) (y := fun d => (y d).val)
      (z := fun d => (((cfg0.win 5).blk t).view.emb y d).val) (idx t).2.2.2.2.2.1 (fun _ => rfl) d))

theorem first1_blk (c : Dev nD) (t : Fin cfg0.N) (j : Fin 8) :
    first1 (iblk0 V c 0 t) (iblk0 V c 1 t) j = first1 (V c main_v72) (V c main_v71) (samp t j) := by
  unfold first1
  rw [blk0, blk1]

theorem middle_blk (c : Dev nD) (t : Fin cfg0.N) (j : Fin 8) :
    middle (iblk0 V c 0 t) (iblk0 V c 1 t) (iblk0 V c 2 t) (iblk0 V c 4 t) (iblk0 V c 5 t) j
      = middle (V c main_v72) (V c main_v71) (V c main_v44) (V c main_v73) (V c main_v74) (samp t j) := by
  unfold middle
  rw [first1_blk, blk2, blk4, blk5]

theorem second_blk (c : Dev nD) (t : Fin cfg0.N) (j : Fin 8) :
    second (iblk0 V c 0 t) (iblk0 V c 1 t) (iblk0 V c 2 t) (iblk0 V c 4 t) (iblk0 V c 5 t) j
      = second (V c main_v72) (V c main_v71) (V c main_v44) (V c main_v73) (V c main_v74) (samp t j) := by
  unfold second
  rw [middle_blk, blk1]

theorem fin6 (c : Dev nD) : (dat0 V c).arrAt 6 cfg0.N = stack fun j : Fin 128 => lift (first1 (V c main_v72) (V c main_v71) j) := by
  refine (dat0 V c).arrAt_eq_of_covers 6 _ (by decide +kernel) fun t _ y => ?_
  blk_simp
  rw [after0_6]
  simp only [outsAt0]
  rw [out6]
  exact stack_samp t (fun j => by rw [first1_blk]) y _ (win0_6.index t) (idx t).2.2.2.2.2.2.1 fun _ => rfl

theorem fin7 (c : Dev nD) : (dat0 V c).arrAt 7 cfg0.N = stack fun j : Fin 128 => lift (second (V c main_v72) (V c main_v71) (V c main_v44) (V c main_v73) (V c main_v74) j) := by
  refine (dat0 V c).arrAt_eq_of_covers 7 _ (by decide +kernel) fun t _ y => ?_
  blk_simp
  rw [after0_7]
  simp only [outsAt0]
  rw [out7]
  exact stack_samp t (fun j => by rw [second_blk]) y _ (win0_7.index t) (idx t).2.2.2.2.2.2.2.1 fun _ => rfl

theorem fin8 (c : Dev nD) : (dat0 V c).arrAt 8 cfg0.N = stack fun j : Fin 128 => pool (slice (V c main_v61)) (second (V c main_v72) (V c main_v71) (V c main_v44) (V c main_v73) (V c main_v74) j) := by
  refine (dat0 V c).arrAt_eq_of_covers 8 _ (by decide +kernel) fun t _ y => ?_
  blk_simp
  rw [after0_8]
  simp only [outsAt0]
  rw [out8]
  exact stack_samp t (fun j => by rw [blk3, second_blk]) y _ (win0_8.index t) (idx t).2.2.2.2.2.2.2.2.1 fun _ => rfl

theorem fin9 (c : Dev nD) : (dat0 V c).arrAt 9 cfg0.N = stack fun j : Fin 128 => mean (first1 (V c main_v72) (V c main_v71) j) := by
  refine (dat0 V c).arrAt_eq_of_covers 9 _ (by decide +kernel) fun t _ y => ?_
  blk_simp
  rw [after0_9]
  simp only [outsAt0]
  rw [out9]
  exact stack_samp t (fun j => by rw [first1_blk]) y _ (win0_9.index t) (idx t).2.2.2.2.2.2.2.2.2.1 fun _ => rfl

theorem fin10 (c : Dev nD) : (dat0 V c).arrAt 10 cfg0.N = stack fun j : Fin 128 => mean (second (V c main_v72) (V c main_v71) (V c main_v44) (V c main_v73) (V c main_v74) j) := by
  refine (dat0 V c).arrAt_eq_of_covers 10 _ (by decide +kernel) fun t _ y => ?_
  blk_simp
  rw [after0_10]
  simp only [outsAt0]
  rw [out10]
  exact stack_samp t (fun j => by rw [second_blk]) y _ (win0_10.index t) (idx t).2.2.2.2.2.2.2.2.2.2.1 fun _ => rfl

theorem fin11 (c : Dev nD) : (dat0 V c).arrAt 11 cfg0.N = stack fun j : Fin 128 => liftI (first (flat (slice (V c main_v72) j))) := by
  refine (dat0 V c).arrAt_eq_of_covers 11 _ (by decide +kernel) fun t _ y => ?_
  blk_simp
  rw [after0_11]
  simp only [outsAt0]
  rw [out11]
  exact stack_samp t (fun j => by rw [blk0]) y _ (win0_11.index t) (idx t).2.2.2.2.2.2.2.2.2.2.2.1 fun _ => rfl

theorem fin12 (c : Dev nD) : (dat0 V c).arrAt 12 cfg0.N = stack fun j : Fin 128 => liftI (first (middle (V c main_v72) (V c main_v71) (V c main_v44) (V c main_v73) (V c main_v74) j)) := by
  refine (dat0 V c).arrAt_eq_of_covers 12 _ (by decide +kernel) fun t _ y => ?_
  blk_simp
  rw [after0_12]
  simp only [outsAt0]
  rw [out12]
  exact stack_samp t (fun j => by rw [middle_blk]) y _ (win0_12.index t) (idx t).2.2.2.2.2.2.2.2.2.2.2.2 fun _ => rfl

end Cert.KernelIdeal.Blocks

end
-- ==== Proof.KerAt.lean ====
module

public import proofs.«01_k».proof.Proof.RefAt
public import proofs.«01_k».proof.Proof.Entry
public import proofs.«01_k».proof.Proof.Blocks

/-! The kernel's stages on exact numbers, read at one position and one channel of a sample. The tables that the kernel
multiplies by hold one 1 in a row, or are 0: a product with such a table takes one entry of the sample. -/

@[expose] public section

noncomputable section

open Cert.KernelIdeal Cert.KernelIdeal.Gen Idealize.ShloMosaic Idealize.ShloMosaic.TcCoe Cert.First

namespace Cert.First

/-- The extended real is a real number. -/
def IsReal (e : EReal) : Prop := ∃ r : ℝ, e = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.max {x y : EReal} (hx : IsReal x) (hy : IsReal y) : IsReal (max x y) := by
  rcases max_choice x y with h | h <;> rw [h] <;> assumption

theorem IsReal.abs {x : EReal} : IsReal x → IsReal (FloatOps.hostAbsf (F := Ideal) (φ := .f32) x)
  | ⟨a, ha⟩ => .max ⟨a, ha⟩ ⟨-a, by rw [ha, EReal.coe_neg]⟩

theorem IsReal.div {x y : EReal} (hx : IsReal x) (hy : IsReal y) (h0 : y ≠ 0) : IsReal (Ideal.div x y) := by
  obtain ⟨b, rfl⟩ := hy
  unfold Ideal.div
  rw [if_neg h0]
  exact hx.mul ⟨b⁻¹, (EReal.coe_inv b).symm⟩

theorem table_real (a b c d : Fin 14) : IsReal (Cert.ReferenceIdeal.Vals.table (F := Ideal) (ix4 a b c d)) := by
  have h14 : Ideal.ofBits .f32 0x41600000#32 = ((14 : ℝ) : EReal) := by
    simp [Ideal.ofBits, Ideal.ieee]; rw [← EReal.coe_mul]; norm_num
  pointwise [Cert.ReferenceIdeal.Vals.table, Cert.ReferenceIdeal.Vals.all4, Cert.ReferenceIdeal.Vals.rowGap,
    Cert.ReferenceIdeal.Vals.colGap, Cert.ReferenceIdeal.Vals.ramp]
  refine .mul ⟨_, by simp [Ideal.ofBits, Ideal.ieee]; rfl⟩ (.max (.sub ⟨1, rfl⟩ (.div (.mul ⟨_, by simp [Ideal.ofBits, Ideal.ieee]; rfl⟩
    (.add (.abs (.sub ⟨_, rfl⟩ ⟨_, rfl⟩)) (.abs (.sub ⟨_, rfl⟩ ⟨_, rfl⟩)))) ⟨_, h14⟩ ?_)) ⟨_, by simp [Ideal.ofBits, Ideal.ieee]; rfl⟩)
  rw [h14]
  norm_num

/-- A real number less itself is zero. -/
theorem IsReal.sub_self {x : EReal} : IsReal x → x - x = 0
  | ⟨a, ha⟩ => by rw [ha, ← EReal.coe_sub, _root_.sub_self, EReal.coe_zero]

/-- A sum against a row that is 1 at one place and 0 elsewhere. -/
theorem sum_one {n : ℕ} (P : Fin n → Prop) [DecidablePred P] (f : Fin n → EReal) (a : Fin n) (h : ∀ k, P k ↔ k = a) :
    ∑ k, (if P k then (1 : EReal) else 0) * f k = f a := by
  rw [Finset.sum_eq_single a]
  · rw [if_pos ((h a).mpr rfl), one_mul]
  · intro k _ hk
    rw [if_neg fun p => hk ((h k).mp p), zero_mul]
  · intro h'
    exact absurd (Finset.mem_univ a) h'

theorem sum_none {n : ℕ} (P : Fin n → Prop) [DecidablePred P] (f : Fin n → EReal) (h : ∀ k, ¬P k) :
    ∑ k, (if P k then (1 : EReal) else 0) * f k = 0 :=
  Finset.sum_eq_zero fun k _ => by rw [if_neg (h k), zero_mul]

theorem step_word : ∀ (a i : Fin 14) (u : Fin 3), IntOp.cmpi .eq (BitVec.ofNat 32 (a : ℕ))
    (IntOp.subi (IntOp.addi (BitVec.ofNat 32 (i : ℕ)) (BitVec.ofNat 32 (u : ℕ))) 1#32)
      = if (i : ℕ) + u = a + 1 then 1#1 else 0#1 := by decide +kernel

theorem twice_word : ∀ (a : Fin 14) (i : Fin 7) (u : Fin 2), IntOp.cmpi .eq (BitVec.ofNat 32 (a : ℕ))
    (IntOp.addi (IntOp.muli (2#32) (BitVec.ofNat 32 (i : ℕ))) (BitVec.ofNat 32 (u : ℕ)))
      = if (a : ℕ) = 2 * i + u then 1#1 else 0#1 := by decide +kernel

theorem both (P Q : Prop) [Decidable P] [Decidable Q] :
    (FloatOps.uitofp (F := Ideal) .f32 (IntOp.andi (if P then 1#1 else 0#1) (if Q then 1#1 else 0#1)) : EReal)
      = if P ∧ Q then 1 else 0 := by
  by_cases hp : P <;> by_cases hq : Q <;> simp [hp, hq, IntOp.andi, FloatOps.uitofp]

end Cert.First

namespace Cert.KernelIdeal.Entry

theorem table_at (p q : Fin 196) :
    tableT (F := Ideal) (ix2 p q) = Cert.ReferenceIdeal.Vals.table (F := Ideal) (ix4 (row q) (col q) (row p) (col p)) := by
  unfold tableT
  generalize Cert.ReferenceIdeal.Vals.table (F := Ideal) = T
  pointwise

theorem split0 (x : FVec Ideal S196x196 .f32) (p q : Fin 196) : split (F := Ideal) x (ix3 0 p q) = x (ix2 p q) := by
  pointwise [split, three, short]

theorem split1 (x : FVec Ideal S196x196 .f32) (p q : Fin 196) (h : IsReal (x (ix2 p q))) : split (F := Ideal) x (ix3 1 p q) = 0 := by
  pointwise [split, three, short]
  exact h.sub_self

theorem split2 (x : FVec Ideal S196x196 .f32) (p q : Fin 196) (h : IsReal (x (ix2 p q))) : split (F := Ideal) x (ix3 2 p q) = 0 := by
  pointwise [split, three, short]
  rw [h.sub_self]
  exact IsReal.sub_self ⟨0, rfl⟩

theorem shift_at (t : Fin 9) (u v : Fin 3) (hu : (u : ℕ) = t / 3) (hv : (v : ℕ) = t % 3) (p q : Fin 196) :
    shapeCast S9x196x196 (shift (F := Ideal)) shapeCasts_S3x3x14x14x14x14_S9x196x196 (ix3 t p q)
      = if ((row p : ℕ) + u = row q + 1 ∧ (col p : ℕ) + v = col q + 1) then (1 : EReal) else 0 := by
  pointwise [shift]
  rw [← hu, ← hv]
  exact (congrArg₂ (fun a b => (FloatOps.uitofp (F := Ideal) .f32 (IntOp.andi a b) : EReal))
    (step_word (row q) (row p) u) (step_word (col q) (col p) v)).trans (both _ _)

theorem wins_at (t : Fin 4) (u v : Fin 2) (hu : (u : ℕ) = t / 2) (hv : (v : ℕ) = t % 2) (p : Fin 49) (i j : Fin 7)
    (hi : (i : ℕ) = p / 7) (hj : (j : ℕ) = p % 7) (q : Fin 196) :
    shapeCast S4x49x196 (wins (F := Ideal)) shapeCasts_S2x2x7x7x14x14_S4x49x196 (ix3 t p q)
      = if ((row q : ℕ) = 2 * i + u ∧ (col q : ℕ) = 2 * j + v) then (1 : EReal) else 0 := by
  pointwise [wins]
  rw [← hu, ← hv, ← hi, ← hj]
  exact (congrArg₂ (fun a b => (FloatOps.uitofp (F := Ideal) .f32 (IntOp.andi a b) : EReal))
    (twice_word (row q) i u) (twice_word (col q) j v)).trans (both _ _)

end Cert.KernelIdeal.Entry

namespace Cert.KernelIdeal.Sample

open Cert.KernelIdeal.Entry Cert.KernelIdeal.Blocks

theorem tab_hot (t : Vec Ideal S1x196x196 .f32) (x : FVec Ideal S196x512 .f32) (p : Fin 196) (l : Fin 512) :
    ∑ k, t (ix3 0 p k) * hot (F := Ideal) x (ix2 k l) = t (ix3 0 p (arg fun k => x (ix2 k l))) := by
  rw [← sum_one (fun k => k = arg fun k => x (ix2 k l)) (fun k => t (ix3 0 p k)) _ fun k => Iff.rfl]
  refine Finset.sum_congr rfl fun k _ => ?_
  rw [hot_at, mul_comm]

theorem mask_at (x : FVec Ideal S196x512 .f32) (p : Fin 196) (l : Fin 512) (a : Fin 196) (ha : a = arg fun k => x (ix2 k l)) :
    mask (F := Ideal) (slice (split (F := Ideal) tableT)) x (ix2 p l)
      = max (x (ix2 p l) * Cert.ReferenceIdeal.Vals.table (F := Ideal) (ix4 (row a) (col a) (row p) (col p))) 0 := by
  pointwise [mask, tab]
  rw [tab_hot, tab_hot, tab_hot, ← ha]
  have hr : IsReal (tableT (F := Ideal) (ix2 p a)) := by
    rw [table_at]; exact table_real _ _ _ _
  show max (x (ix2 p l) * (split (F := Ideal) tableT (ix3 0 p a) + split (F := Ideal) tableT (ix3 1 p a) + split (F := Ideal) tableT (ix3 2 p a))) 0 = _
  rw [split0, split1 _ _ _ hr, split2 _ _ _ hr, add_zero, add_zero, table_at]

theorem slab_at (t : Fin 9) (u v : Fin 3) (hu : (u : ℕ) = t / 3) (hv : (v : ℕ) = t % 3) (x : FVec Ideal S196x512 .f32)
    (i j : Fin 14) (l : Fin 512) :
    slab (F := Ideal) (slice (shapeCast S9x196x196 (shift (F := Ideal)) shapeCasts_S3x3x14x14x14x14_S9x196x196) t) x (ix3 0 (pos i j) l)
      = near (fun k => x (ix2 k l)) i j u v := by
  pointwise [slab, tab]
  refine (Finset.sum_congr rfl fun k _ => congrArg (· * x (ix2 k l)) (shift_at t u v hu hv (pos i j) k)).trans ?_
  rw [row_pos, col_pos]
  unfold near
  split
  · refine sum_one _ (fun k => x (ix2 k l)) _ fun k => ?_
    refine ⟨fun h => ?_, ?_⟩
    · rw [← pos_row_col k]
      refine Fin.ext ?_
      simp only [pos, row, col] at h ⊢
      omega
    · rintro rfl
      rw [row_pos, col_pos]
      simp only
      omega
  · refine sum_none _ (fun k => x (ix2 k l)) fun k h' => ?_
    simp only [row, col] at h'
    omega

theorem pick_at (t : Fin 4) (u v : Fin 2) (hu : (u : ℕ) = t / 2) (hv : (v : ℕ) = t % 2) (x : FVec Ideal S196x512 .f32)
    (p : Fin 49) (i j : Fin 7) (hi : (i : ℕ) = p / 7) (hj : (j : ℕ) = p % 7) (l : Fin 512) :
    ∑ k, slice (shapeCast S4x49x196 (wins (F := Ideal)) shapeCasts_S2x2x7x7x14x14_S4x49x196) t (ix3 0 p k) * x (ix2 k l)
      = x (ix2 (pos (Cert.ReferenceIdeal.Vals.twice i u) (Cert.ReferenceIdeal.Vals.twice j v)) l) := by
  refine (Finset.sum_congr rfl fun k _ => congrArg (· * x (ix2 k l)) (wins_at t u v hu hv p i j hi hj k)).trans ?_
  refine sum_one _ (fun k => x (ix2 k l)) _ fun k => ?_
  refine ⟨fun h => ?_, ?_⟩
  · rw [← pos_row_col k]
    refine Fin.ext ?_
    simp only [pos, row, col] at h ⊢
    omega
  · rintro rfl
    rw [row_pos, col_pos]
    exact ⟨rfl, rfl⟩

end Cert.KernelIdeal.Sample

end

end
-- ==== Proof.Same.lean ====
module

public import proofs.«01_k».proof.Proof.KerAt

/-! The kernel's samples hold the same numbers as the reference's arrays, stage by stage: the input, the first masking,
the convolution and the second masking. From this follow the equalities of the first call's seven results. -/

@[expose] public section

noncomputable section

open Cert.KernelIdeal Cert.KernelIdeal.Gen Idealize.ShloMosaic Idealize.ShloMosaic.TcCoe Cert.First
open Cert.KernelIdeal.Entry Cert.KernelIdeal.Blocks Cert.Rows

namespace Cert.Same

/-- Sample `n` of the reference's array `x` is the kernel's sample `s`. -/
def Same (x : FVec Ideal Cert.ReferenceIdeal.S128x14x14x512 .f32) (n : Fin 128) (s : FVec Ideal S196x512 .f32) : Prop :=
  ∀ l, (fun p => s (ix2 p l)) = Cert.ReferenceIdeal.Vals.column x n l

variable {x : FVec Ideal Cert.ReferenceIdeal.S128x14x14x512 .f32} {n : Fin 128} {s : FVec Ideal S196x512 .f32}

theorem Same.at (h : Same x n s) (p : Fin 196) (l : Fin 512) : s (ix2 p l) = x (ix4 n (row p) (col p) l) := congrFun (h l) p

theorem Same.top (h : Same x n s) (l : Fin 512) : arg (fun p => s (ix2 p l)) = Cert.ReferenceIdeal.Vals.top x n l := by
  rw [h l]; rfl

/-- The input. -/
theorem same_input (x : FVec Ideal Cert.ReferenceIdeal.S128x14x14x512 .f32) (n : Fin 128) :
    Same x n (Sample.flat (F := Ideal) (slice (shapeCast S128x196x512 x shapeCasts_S128x14x14x512_S128x196x512) n)) := by
  intro l
  funext p
  pointwise [Sample.flat]
  show shapeCast S128x196x512 x shapeCasts_S128x14x14x512_S128x196x512 (ix3 n p l) = _
  pointwise
  rfl

/-- A masking. -/
theorem Same.mask (h : Same x n s) : Same (Cert.ReferenceIdeal.Vals.mask (F := Ideal) x) n
    (Sample.mask (F := Ideal) (slice (split (F := Ideal) tableT)) s) := by
  intro l
  funext p
  show _ = Cert.ReferenceIdeal.Vals.mask (F := Ideal) x (ix4 n (row p) (col p) l)
  rw [Sample.mask_at s p l _ (h.top l).symm, Cert.ReferenceIdeal.Vals.mask_at, h.at]

/-- One tap of the convolution. -/
theorem Same.tap (h : Same x n s) (w : FVec Ideal Cert.ReferenceIdeal.S3x3x512x512 .f32) (t : Fin 9) (u v : Fin 3)
    (hu : (u : ℕ) = t / 3) (hv : (v : ℕ) = t % 3) (p : Fin 196) (l : Fin 512) :
    ∑ k, Sample.slab (F := Ideal) (slice (shapeCast S9x196x196 (shift (F := Ideal)) shapeCasts_S3x3x14x14x14x14_S9x196x196) t) s (ix3 0 p k)
        * slice (shapeCast S9x512x512 w shapeCasts_S3x3x512x512_S9x512x512) t (ix3 0 k l)
      = Cert.ReferenceIdeal.Vals.tapSum x w n l (row p) (col p) u v := by
  refine Finset.sum_congr rfl fun k _ => congrArg₂ (· * ·) ?_ ?_
  · conv_lhs => rw [← pos_row_col p]
    rw [Sample.slab_at t u v hu hv, h k]
  · show shapeCast S9x512x512 w shapeCasts_S3x3x512x512_S9x512x512 (ix3 t k l) = _
    pointwise
    congr 2 <;> exact Fin.ext (by first | exact hu.symm | exact hv.symm)

/-- The convolution: the kernel starts from the bias, the reference adds it last. -/
theorem Same.conv (h : Same x n s) (w : FVec Ideal Cert.ReferenceIdeal.S3x3x512x512 .f32) (b : FVec Ideal Cert.ReferenceIdeal.S512 .f32) :
    Same (Cert.ReferenceIdeal.Vals.conv (F := Ideal) x w b) n
      (Sample.conv (F := Ideal) (fun k => Sample.slab (F := Ideal)
          (slice (shapeCast S9x196x196 (shift (F := Ideal)) shapeCasts_S3x3x14x14x14x14_S9x196x196) k) s)
        (slice (shapeCast S9x512x512 w shapeCasts_S3x3x512x512_S9x512x512)) (shapeCast S1x512 b shapeCasts_S512_S1x512)) := by
  intro l
  funext p
  show _ = Cert.ReferenceIdeal.Vals.conv (F := Ideal) x w b (ix4 n (row p) (col p) l)
  rw [Cert.ReferenceIdeal.Vals.conv_at]
  pointwise [Sample.conv, Sample.tap]
  rw [h.tap w 0 0 0 rfl rfl, h.tap w 1 0 1 rfl rfl, h.tap w 2 0 2 rfl rfl, h.tap w 3 1 0 rfl rfl, h.tap w 4 1 1 rfl rfl,
    h.tap w 5 1 2 rfl rfl, h.tap w 6 2 0 rfl rfl, h.tap w 7 2 1 rfl rfl, h.tap w 8 2 2 rfl rfl]
  refine congrArg (max · 0) ?_
  unfold Cert.First.nine
  abel

/-- A masked array as the kernel writes it. -/
theorem Same.out (h : Same x n s) (p : Fin 196) (l : Fin 512) : Sample.lift (F := Ideal) s (ix3 0 p l)
    = shapeCast S128x196x512 x Cert.ReferenceIdeal.Gen.shapeCasts_S128x14x14x512_S128x196x512 (ix3 n p l) := by
  pointwise [Sample.lift]
  exact h.at p l

/-- The pooled array. -/
theorem Same.pool (h : Same x n s) (p : Fin 49) (l : Fin 512) :
    Sample.pool (F := Ideal) (slice (shapeCast S4x49x196 (wins (F := Ideal)) shapeCasts_S2x2x7x7x14x14_S4x49x196)) s (ix3 0 p l)
      = Cert.ReferenceIdeal.Vals.pool (F := Ideal) x (ix3 n p l) := by
  have hi : ((⟨p / 7, by omega⟩ : Fin 7) : ℕ) = p / 7 := rfl
  have hj : ((⟨p % 7, by omega⟩ : Fin 7) : ℕ) = p % 7 := rfl
  rw [Cert.ReferenceIdeal.Vals.pool_at x n p l _ _ hi hj]
  pointwise [Sample.pool, Sample.pick]
  rw [Sample.pick_at 0 0 0 rfl rfl s p _ _ hi hj, Sample.pick_at 1 0 1 rfl rfl s p _ _ hi hj,
    Sample.pick_at 2 1 0 rfl rfl s p _ _ hi hj, Sample.pick_at 3 1 1 rfl rfl s p _ _ hi hj]
  simp only [h.at, row_pos, col_pos]
  exact (max_assoc _ _ _).symm

/-- The mean: a product with 1/196 in the kernel, a division by 196 in the reference. -/
theorem Same.mean (h : Same x n s) (l : Fin 512) :
    Sample.mean (F := Ideal) s (ix3 0 0 l) = Cert.ReferenceIdeal.Vals.mean (F := Ideal) x (ix3 n 0 l) := by
  rw [Cert.ReferenceIdeal.Vals.mean_at, ← h l]
  pointwise [Sample.mean]
  have h196 : Ideal.ofBits .f32 0x43440000#32 = ((196 : ℝ) : EReal) := by
    simp [Ideal.ofBits, Ideal.ieee]; rw [← EReal.coe_mul]; norm_num
  rw [h196, Ideal.div_coe (by norm_num)]
  exact congrArg ((∑ p, s (ix2 p l)) * ·) (IdealRules.named_const.ideal_named_scalar κ "inv_hw" _ _ rfl)

theorem liftI_at (y : IVec S1x512 32) (l : Fin 512) : Sample.liftI y (ix3 0 0 l) = y (ix2 0 l) := by
  pointwise [Sample.liftI]

theorem row_at (y : IVec Cert.ReferenceIdeal.S128x512 32) (n : Fin 128) (l : Fin 512) :
    shapeCast S128x1x512 y Cert.ReferenceIdeal.Gen.shapeCasts_S128x512_S128x1x512 (ix3 n 0 l) = y (ix2 n l) := by
  pointwise

/-- The position of the largest activation. -/
theorem Same.first (h : Same x n s) (l : Fin 512) :
    Sample.liftI (Sample.first (F := Ideal) s) (ix3 0 0 l)
      = shapeCast S128x1x512 (Cert.ReferenceIdeal.Vals.best (F := Ideal) x) Cert.ReferenceIdeal.Gen.shapeCasts_S128x512_S128x1x512 (ix3 n 0 l) := by
  rw [liftI_at, row_at, Sample.first_at, Cert.ReferenceIdeal.Vals.best_top, h.top l]

end Cert.Same

end

end
-- ==== Proof.Results.lean ====
module

public import proofs.«01_k».proof.Proof.Same

/-! Each result of the first call, on exact numbers, is the reference's result of the same name. -/

@[expose] public section

noncomputable section

open Cert.KernelIdeal Cert.KernelIdeal.Gen Idealize.ShloMosaic Idealize.ShloMosaic.TcCoe Cert.First Idealize.SL.Sem
open Cert.KernelIdeal.Entry Cert.KernelIdeal.Blocks Cert.Rows Cert.Same
open Idealize.ShloMosaic.Pipeline (Dat)

namespace Cert.Results

theorem stack_eq {e : EltTy} {n a b : ℕ} (f : Fin n → (⟨3, ![1, a, b]⟩ : Shape).Idx → Elt Ideal e)
    (g : (⟨3, ![n, a, b]⟩ : Shape).Idx → Elt Ideal e) (h : ∀ j p q, f j (ix3 (0 : Fin 1) p q) = g (ix3 j p q)) : stack f = g := by
  funext y
  refine (h (y 0) (y 1) (y 2)).trans (congrArg g ?_)
  funext e
  match e with
  | ⟨0, _⟩ => rfl
  | ⟨1, _⟩ => rfl
  | ⟨2, _⟩ => rfl

theorem one_row {e : EltTy} {n b : ℕ} (f : Fin n → (⟨3, ![1, 1, b]⟩ : Shape).Idx → Elt Ideal e)
    (g : (⟨3, ![n, 1, b]⟩ : Shape).Idx → Elt Ideal e)
    (h : ∀ j q, f j (ix3 (0 : Fin 1) (0 : Fin 1) q) = g (ix3 j (0 : Fin 1) q)) : stack f = g :=
  stack_eq f g fun j p q => by rw [Subsingleton.elim p 0]; exact h j q

variable (m : (ℓ : Loc nD τ sig) → Buf (Elt Ideal) ℓ) (ρ : Dev nD → PrngReg) (c : Dev nD)

/-- The inputs. -/
abbrev inp : FVec Ideal Cert.ReferenceIdeal.S128x14x14x512 .f32 := m ((c : Thread nD τ).loc main_arg0)

/-- The weights. -/
abbrev wts : FVec Ideal Cert.ReferenceIdeal.S3x3x512x512 .f32 := m ((c : Thread nD τ).loc main_arg2)

/-- The bias. -/
abbrev bia : FVec Ideal Cert.ReferenceIdeal.S512 .f32 := m ((c : Thread nD τ).loc main_arg3)

theorem first_same (j : Fin 128) : Same (Cert.ReferenceIdeal.Vals.mask (F := Ideal) (inp m c)) j
    (first1 (F := Ideal) (V1 m ρ c main_v72) (V1 m ρ c main_v71) j) := by
  unfold first1
  rw [V71, V72]
  exact (same_input (inp m c) j).mask

theorem middle_same (j : Fin 128) : Same (Cert.ReferenceIdeal.Vals.mid (F := Ideal) (inp m c) (wts m c) (bia m c)) j
    (middle (F := Ideal) (V1 m ρ c main_v72) (V1 m ρ c main_v71) (V1 m ρ c main_v44) (V1 m ρ c main_v73) (V1 m ρ c main_v74) j) := by
  unfold middle
  rw [V44, V73, V74]
  exact (first_same m ρ c j).conv (wts m c) (bia m c)

theorem second_same (j : Fin 128) : Same (Cert.ReferenceIdeal.Vals.mask (F := Ideal) (Cert.ReferenceIdeal.Vals.mid (F := Ideal) (inp m c) (wts m c) (bia m c))) j
    (second (F := Ideal) (V1 m ρ c main_v72) (V1 m ρ c main_v71) (V1 m ρ c main_v44) (V1 m ρ c main_v73) (V1 m ρ c main_v74) j) := by
  unfold second
  have h := (middle_same m ρ c j).mask
  rw [← V71 m ρ c] at h
  exact h

theorem res0 : (dat0 (V1 m ρ) c).arrAt 6 cfg0.N
    = shapeCast S128x196x512 (Cert.ReferenceIdeal.Vals.mask (F := Ideal) (inp m c)) Cert.ReferenceIdeal.Gen.shapeCasts_S128x14x14x512_S128x196x512 :=
  (fin6 (V1 m ρ) c).trans (stack_eq _ _ fun j p l => (first_same m ρ c j).out p l)

theorem res1 : (dat0 (V1 m ρ) c).arrAt 7 cfg0.N
    = shapeCast S128x196x512 (Cert.ReferenceIdeal.Vals.mask (F := Ideal) (Cert.ReferenceIdeal.Vals.mid (F := Ideal) (inp m c) (wts m c) (bia m c)))
        Cert.ReferenceIdeal.Gen.shapeCasts_S128x14x14x512_S128x196x512 :=
  (fin7 (V1 m ρ) c).trans (stack_eq _ _ fun j p l => (second_same m ρ c j).out p l)

theorem res2 : (dat0 (V1 m ρ) c).arrAt 8 cfg0.N
    = Cert.ReferenceIdeal.Vals.pool (F := Ideal) (Cert.ReferenceIdeal.Vals.mask (F := Ideal) (Cert.ReferenceIdeal.Vals.mid (F := Ideal) (inp m c) (wts m c) (bia m c))) := by
  refine (fin8 (V1 m ρ) c).trans ?_
  rw [V61]
  exact stack_eq _ _ fun j p l => (second_same m ρ c j).pool p l

theorem res3 : (dat0 (V1 m ρ) c).arrAt 9 cfg0.N = Cert.ReferenceIdeal.Vals.mean (F := Ideal) (Cert.ReferenceIdeal.Vals.mask (F := Ideal) (inp m c)) :=
  (fin9 (V1 m ρ) c).trans (one_row _ _ fun j l => (first_same m ρ c j).mean l)

theorem res4 : (dat0 (V1 m ρ) c).arrAt 10 cfg0.N
    = Cert.ReferenceIdeal.Vals.mean (F := Ideal) (Cert.ReferenceIdeal.Vals.mask (F := Ideal) (Cert.ReferenceIdeal.Vals.mid (F := Ideal) (inp m c) (wts m c) (bia m c))) :=
  (fin10 (V1 m ρ) c).trans (one_row _ _ fun j l => (second_same m ρ c j).mean l)

theorem res5 : (dat0 (V1 m ρ) c).arrAt 11 cfg0.N
    = shapeCast S128x1x512 (Cert.ReferenceIdeal.Vals.best (F := Ideal) (inp m c)) Cert.ReferenceIdeal.Gen.shapeCasts_S128x512_S128x1x512 := by
  refine (fin11 (V1 m ρ) c).trans ?_
  rw [V72]
  refine one_row (e := .i32) (n := 128) (b := 512) _ _ ?_
  intro j l
  exact (same_input (inp m c) j).first l

theorem res6 : (dat0 (V1 m ρ) c).arrAt 12 cfg0.N
    = shapeCast S128x1x512 (Cert.ReferenceIdeal.Vals.best (F := Ideal) (Cert.ReferenceIdeal.Vals.mid (F := Ideal) (inp m c) (wts m c) (bia m c)))
        Cert.ReferenceIdeal.Gen.shapeCasts_S128x512_S128x1x512 := by
  refine (fin12 (V1 m ρ) c).trans ?_
  refine one_row (e := .i32) (n := 128) (b := 512) _ _ ?_
  intro j l
  exact (middle_same m ρ c j).first l

end Cert.Results

end

end
-- ==== Proof.Loss.lean ====
/- The third call's result arrays after the launch, each as one function of the arrays at the launch's entry. -/
module

public import proofs.«01_k».proof.Proof.Gen.Kernel3Ideal.Frame
public import proofs.«01_k».proof.Proof.Blocks

@[expose] public section

set_option maxRecDepth 16384

noncomputable section

namespace Cert.Kernel3Ideal.Loss

open Cert.Kernel3Ideal Cert.Kernel3Ideal.Gen Cert.Rows
open Idealize.ShloMosaic Idealize.ShloMosaic.TcCoe Idealize.SL.Sem
open Idealize.ShloMosaic.Pipeline (Dat)
open Cert.KernelIdeal.Blocks (slice zero_idx)

variable {F : FTy → Type} [FloatOps F]

/-- The one-hot columns at given positions. -/
def hot (f : Vec F S1x1x512 .i32) : FVec F S196x512 .f32 :=
  sitofp .f32 (extui 32 (cmpi .eq (iota .tc S196x512 32 [0] iota_S196x512_d0_w32)
    (broadcastTo S196x512 (shapeCast S1x512 f shapeCasts_S1x1x512_S1x512) broadcasts_S1x512_S196x512)) natLt_1_32)

/-- A slice of the position table times one-hot columns. -/
def tab (t : Vec F S1x196x196 .f32) (x : FVec F S196x512 .f32) : FVec F S196x512 .f32 :=
  matmul dot_S196x196_S196x512_S196x512_1_0_0_1_n_n none (shapeCast S196x196 t shapeCasts_S1x196x196_S196x196) x
    (constant S196x512 .f32 0x00000000#32)

/-- The templates at given positions. -/
def tpl (t : Fin 3 → Vec F S1x196x196 .f32) (f : Vec F S1x1x512 .i32) : FVec F S196x512 .f32 :=
  addf (addf (tab (t 0) (hot f)) (tab (t 1) (hot f))) (tab (t 2) (hot f))

/-- The positive part of the columns whose class is `g`, zero in the others. -/
def keep (g : Elt F .i32) (k : Vec F S1x512 .i32) (x : FVec F S196x512 .f32) : FVec F S196x512 .f32 :=
  select (broadcastTo S196x512 (shapeCast S1x512 (cmpi .eq k (broadcast S1x512 g)) shapeCasts_S1x512_S1x512) broadcasts_S1x512_S196x512)
    (maximumf x (broadcast S196x512 (Scalar.ofBits .f32 0x00000000#32))) (broadcast S196x512 (Scalar.ofBits .f32 0x00000000#32))

/-- A sample with its leading unit axis. -/
def lift (x : FVec F S196x512 .f32) : FVec F S1x196x512 .f32 := shapeCast S1x196x512 x shapeCasts_S196x512_S1x196x512

/-- The positions and the classes, as the body loads them whole. -/
theorem ld_pos (arg : Memref sig .tc .vmem S1x1x512 .i32) (harg : arg.IsWhole) (x : Vec F S1x1x512 .i32) :
    View.readAt (Elt F) arg.view (Rect.unit ![0, 0, 0] S1x1x512.size inb_S1x1x512_S1x1x512_0_0_0).toLoadRect (harg.unread x) = x := by
  show View.ld (arg.view.read (Elt F) (harg.unread x)) (Rect.unit ![0, 0, 0] S1x1x512.size inb_S1x1x512_S1x1x512_0_0_0) = x
  rw [harg.read_unread]
  exact View.ld_unit_zero (S := S1x1x512) (funext fun d => match d with | ⟨0, _⟩ => rfl | ⟨1, _⟩ => rfl | ⟨2, _⟩ => rfl) _ x

theorem ld_cls (arg : Memref sig .tc .vmem S1x512 .i32) (harg : arg.IsWhole) (x : Vec F S1x512 .i32) :
    View.readAt (Elt F) arg.view (Rect.unit ![0, 0] S1x512.size inb_S1x512_S1x512_0_0).toLoadRect (harg.unread x) = x := by
  show View.ld (arg.view.read (Elt F) (harg.unread x)) (Rect.unit ![0, 0] S1x512.size inb_S1x512_S1x512_0_0) = x
  rw [harg.read_unread]
  exact View.ld_unit_zero (S := S1x512) (funext fun d => match d with | ⟨0, _⟩ => rfl | ⟨1, _⟩ => rfl) _ x

/-- One store of a whole block leaves what it stored. -/
theorem canon_one (f : Vec F S1x196x512 .f32) :
    View.canon [(⟨Rect.unit (s := S1x196x512) ![0, 0, 0] S1x196x512.size inb_S1x196x512_S1x196x512_0_0_0, f⟩ : View.Piece (Elt F) S1x196x512 .f32)] = f :=
  (canon_upto (Val := Elt F) (e := .f32) (n := 1) (a := 196) (b := 512) (fun _ => f) []).trans
    (funext fun y => congrArg f (eq_one (a := 196) (b := 512) y).symm)

/-- A slice of the table block, as the body loads it. -/
theorem row_ld {n a b : ℕ} (arg : Memref sig .tc .vmem ⟨3, ![n, a, b]⟩ .f32) (harg : arg.IsWhole) (x : Vec F ⟨3, ![n, a, b]⟩ .f32) (j : Fin n) :
    View.readAt (Elt F) arg.view (row (a := a) (b := b) j.val j.isLt).toLoadRect (harg.unread x) = slice x j := by
  funext y
  show (arg.view.read (Elt F) (harg.unread x)) ((row j.val j.isLt).toLoadRect.idx y) = _
  rw [harg.read_unread]
  exact congrArg x (emb_row (a := a) (b := b) j.val j.isLt y)

/-- The three slices of the table block, as the body loads them. -/
theorem ld_row0 (arg : Memref sig .tc .vmem S3x196x196 .f32) (harg : arg.IsWhole) (x : Vec F S3x196x196 .f32) :
    View.readAt (Elt F) arg.view (Rect.unit (s := S3x196x196) ![0, 0, 0] S1x196x196.size inb_S3x196x196_S1x196x196_0_0_0).toLoadRect (harg.unread x) = slice x 0 :=
  row_ld arg harg x 0

theorem ld_row1 (arg : Memref sig .tc .vmem S3x196x196 .f32) (harg : arg.IsWhole) (x : Vec F S3x196x196 .f32) :
    View.readAt (Elt F) arg.view (Rect.unit (s := S3x196x196) ![1, 0, 0] S1x196x196.size inb_S3x196x196_S1x196x196_1_0_0).toLoadRect (harg.unread x) = slice x 1 :=
  row_ld arg harg x 1

theorem ld_row2 (arg : Memref sig .tc .vmem S3x196x196 .f32) (harg : arg.IsWhole) (x : Vec F S3x196x196 .f32) :
    View.readAt (Elt F) arg.view (Rect.unit (s := S3x196x196) ![2, 0, 0] S1x196x196.size inb_S3x196x196_S1x196x196_2_0_0).toLoadRect (harg.unread x) = slice x 2 :=
  row_ld arg harg x 2

/-- The class of a point's sample. -/
abbrev label (i : grid0.Coords) (g : Vec F S128 .i32) : Elt F .i32 := g (ix1 (i 0))

theorem read_eq (c : Dev nD) (i : grid0.Coords) (g : Vec F S128 .i32) : kernelRun0_A.sl.r c i g = label i g := by
  refine congrArg g ?_
  funext d
  match d with
  | ⟨0, _⟩ =>
    apply Fin.ext
    show (BitVec.ofNat 32 (i 0).val).toNat + 1 * 0 = (i 0).val
    have : (i 0).val < 128 := (i 0).isLt
    rw [BitVec.toNat_ofNat, Nat.mod_eq_of_lt (by omega)]
    rfl

section
variable (c : Dev nD) (i : grid0.Coords)
    (arg2 : Memref sig .tc .vmem S1x1x512 .i32) (harg2 : arg2.IsWhole) (arg3 : Memref sig .tc .vmem S1x1x512 .i32) (harg3 : arg3.IsWhole) (arg4 : Memref sig .tc .vmem S1x512 .i32) (harg4 : arg4.IsWhole) (arg5 : Memref sig .tc .vmem S1x512 .i32) (harg5 : arg5.IsWhole) (arg6 : Memref sig .tc .vmem S3x196x196 .f32) (harg6 : arg6.IsWhole) (arg7 : Memref sig .tc .vmem S1x196x512 .f32) (harg7 : arg7.IsWhole) (arg8 : Memref sig .tc .vmem S1x196x512 .f32) (harg8 : arg8.IsWhole) (arg9 : Memref sig .tc .vmem S1x196x512 .f32) (harg9 : arg9.IsWhole)
    (x0 x1 : Vec F S1x1x512 .i32) (x2 x3 : Vec F S1x512 .i32) (x4 : Vec F S3x196x196 .f32) (g : Vec F S128 .i32)

/-- The templates as the body computes them from its loads. -/
def made (e : Memref sig .tc .vmem S1x1x512 .i32) (he : e.IsWhole) (x : Vec F S1x1x512 .i32) : FVec F S196x512 .f32 :=
  tpl (fun j : Fin 3 => View.readAt (Elt F) arg6.view (row (a := 196) (b := 196) j.val j.isLt).toLoadRect (harg6.unread x4))
    (View.readAt (Elt F) e.view (Rect.unit ![0, 0, 0] S1x1x512.size inb_S1x1x512_S1x1x512_0_0_0).toLoadRect (he.unread x))

theorem made_eq (e : Memref sig .tc .vmem S1x1x512 .i32) (he : e.IsWhole) (x : Vec F S1x1x512 .i32) :
    made arg6 harg6 x4 e he x = tpl (slice x4) x := by
  unfold made
  rw [ld_pos]
  exact congrArg (fun t => tpl t x) (funext fun j => row_ld arg6 harg6 x4 j)

theorem out5 : out0_A_5 c i arg2 harg2 arg3 harg3 arg4 harg4 arg5 harg5 arg6 harg6 arg7 harg7 arg8 harg8 arg9 harg9 x0 x1 x2 x3 x4 g = lift (tpl (slice x4) x0) := by
  unfold out0_A_5 kernelRun0_A
  rw [View.read_writes_junk_eq_canon]
  refine (canon_one (lift (made arg6 harg6 x4 arg2 harg2 x0))).trans ?_
  rw [made_eq]

theorem pay6 : k0_pay1 (kernelRun0_A.sl.r_1 c i arg2 harg2 arg4 harg4 arg6 harg6 x0 x2 x4 g)
    = lift (keep (kernelRun0_A.sl.r c i g) (View.readAt (Elt F) arg4.view (Rect.unit ![0, 0] S1x512.size inb_S1x512_S1x512_0_0).toLoadRect (harg4.unread x2)) (made arg6 harg6 x4 arg2 harg2 x0)) := by
  unfold k0_pay1 kernelRun0_A.sl.r_1 k0_pay5 made
  generalize kernelRun0_A.sl.r c i g = w
  generalize (View.readAt (Elt F) arg4.view (Rect.unit ![0, 0] S1x512.size inb_S1x512_S1x512_0_0).toLoadRect (harg4.unread x2)) = u
  rfl

theorem out6 : out0_A_6 c i arg2 harg2 arg3 harg3 arg4 harg4 arg5 harg5 arg6 harg6 arg7 harg7 arg8 harg8 arg9 harg9 x0 x1 x2 x3 x4 g = lift (keep (label i g) x2 (tpl (slice x4) x0)) := by
  unfold out0_A_6 kernelRun0_A
  rw [View.read_writes_junk_eq_canon]
  dsimp only
  rw [pay6, made_eq, ld_cls, read_eq]
  exact canon_one _

theorem pay7 (w : Elt F .i32) (f : Vec F S1x1x512 .i32) (t : Fin 3 → Vec F S1x196x196 .f32) (k : Vec F S1x512 .i32) :
    k0_pay2 w (iota .tc S196x512 32 [0] iota_S196x512_d0_w32) f (t 0) (t 1) (t 2) k = lift (keep w k (tpl t f)) := rfl

theorem out7 : out0_A_7 c i arg2 harg2 arg3 harg3 arg4 harg4 arg5 harg5 arg6 harg6 arg7 harg7 arg8 harg8 arg9 harg9 x0 x1 x2 x3 x4 g = lift (keep (label i g) x3 (tpl (slice x4) x1)) := by
  unfold out0_A_7 kernelRun0_A
  rw [View.read_writes_junk_eq_canon]
  dsimp only
  rw [show (kernelRun0_A.sl.v2 : IVec S196x512 32) = iota .tc S196x512 32 [0] iota_S196x512_d0_w32 from rfl,
    ld_pos, ld_cls, ld_row0, ld_row1, ld_row2, read_eq, pay7 _ _ (slice x4)]
  exact canon_one _

end

variable (m : (ℓ : Loc nD τ sig) → Buf (Elt F) ℓ) (hO : Ok m)

/-- The launch's index maps: point `t` takes and gives sample `t`; the classes and the table are whole. -/
theorem idx : ∀ t : Fin grid0.N, cc0_transform_0 (grid0.coords t) = ![t.val, 0, 0] ∧ cc0_transform_1 (grid0.coords t) = ![t.val, 0, 0]
    ∧ cc0_transform_2 (grid0.coords t) = (fun _ => 0) ∧ cc0_transform_3 (grid0.coords t) = (fun _ => 0)
    ∧ cc0_transform_4 (grid0.coords t) = (fun _ => 0) ∧ cc0_transform_5 (grid0.coords t) = ![t.val, 0, 0]
    ∧ cc0_transform_6 (grid0.coords t) = ![t.val, 0, 0] ∧ cc0_transform_7 (grid0.coords t) = ![t.val, 0, 0]
    ∧ (grid0.coords t 0).val = t.val := by decide +kernel

/-- The sample of a point. -/
def samp (t : Fin (cfgM m hO).N) : Fin 128 := ⟨t.val, t.isLt⟩

theorem one_idx {a b : ℕ} (n : Fin 128) (i : Fin 3 → ℕ) (hi : i = ![n.val, 0, 0]) (y : (⟨3, ![1, a, b]⟩ : Shape).Idx)
    (z : (⟨3, ![128, a, b]⟩ : Shape).Idx) (hz : ∀ d : Fin 3, (z d).val = i d * (![1, a, b] : Fin 3 → ℕ) d + 1 * (y d).val) :
    z = ix3 n (y 1) (y 2) := by
  subst hi
  have h0 : (y 0).val < 1 := (y 0).isLt
  funext d
  apply Fin.ext
  rw [hz d]
  match d with
  | ⟨0, _⟩ => show n.val * 1 + 1 * (y 0).val = n.val; omega
  | ⟨1, _⟩ => show 0 * a + 1 * (y 1).val = (y 1).val; omega
  | ⟨2, _⟩ => show 0 * b + 1 * (y 2).val = (y 2).val; omega

theorem blk0 (c : Dev nD) (t : Fin (cfgM m hO).N) : iblk m hO c 0 t = slice (V m c main_arg1) (samp m hO t) :=
  funext fun y => congrArg (V m c main_arg1) (one_idx (a := 1) (b := 512) (samp m hO t) (cc0_transform_0 (grid0.coords t)) (idx t).1 y _ fun _ => rfl)

theorem blk1 (c : Dev nD) (t : Fin (cfgM m hO).N) : iblk m hO c 1 t = slice (V m c main_arg2) (samp m hO t) :=
  funext fun y => congrArg (V m c main_arg2) (one_idx (a := 1) (b := 512) (samp m hO t) (cc0_transform_1 (grid0.coords t)) (idx t).2.1 y _ fun _ => rfl)

theorem blk2 (c : Dev nD) (t : Fin (cfgM m hO).N) : iblk m hO c 2 t = V m c main_arg3 :=
  funext fun y => congrArg (V m c main_arg3) (funext fun d => Fin.ext
    (zero_idx (i := cc0_transform_2 (grid0.coords t)) (s := S1x512.size) (y := fun d => (y d).val)
      (z := fun d => ((((cfgM m hO).win 2).blk t).view.emb y d).val) (idx t).2.2.1 (fun _ => rfl) d))

theorem blk3 (c : Dev nD) (t : Fin (cfgM m hO).N) : iblk m hO c 3 t = V m c main_arg4 :=
  funext fun y => congrArg (V m c main_arg4) (funext fun d => Fin.ext
    (zero_idx (i := cc0_transform_3 (grid0.coords t)) (s := S1x512.size) (y := fun d => (y d).val)
      (z := fun d => ((((cfgM m hO).win 3).blk t).view.emb y d).val) (idx t).2.2.2.1 (fun _ => rfl) d))

theorem blk4 (c : Dev nD) (t : Fin (cfgM m hO).N) : iblk m hO c 4 t = V m c main_v71 :=
  funext fun y => congrArg (V m c main_v71) (funext fun d => Fin.ext
    (zero_idx (i := cc0_transform_4 (grid0.coords t)) (s := S3x196x196.size) (y := fun d => (y d).val)
      (z := fun d => ((((cfgM m hO).win 4).blk t).view.emb y d).val) (idx t).2.2.2.2.1 (fun _ => rfl) d))

/-- The class of a point's sample, from the launch's labels. -/
theorem label_at (t : Fin (cfgM m hO).N) : label (grid0.coords t) (tbl m 0) = V m 0 main_arg0 (ix1 (samp m hO t)) := by
  show V m 0 main_arg0 (ix1 (grid0.coords t 0)) = _
  exact congrArg (V m 0 main_arg0) (congrArg ix1 (Fin.ext (idx t).2.2.2.2.2.2.2.2))

theorem points : (128 + 1 - 1) / 1 = grid0.N := by decide +kernel

theorem pos3 : ∀ a : Fin 3, 0 < (![1, 196, 512] : Fin 3 → ℕ) a
  | ⟨0, _⟩ => Nat.one_pos
  | ⟨1, _⟩ => Nat.succ_pos 195
  | ⟨2, _⟩ => Nat.succ_pos 511

theorem at_block (β : (a : Fin 3) → Fin (((![128, 196, 512] : Fin 3 → ℕ) a + (![1, 196, 512] : Fin 3 → ℕ) a - 1) / (![1, 196, 512] : Fin 3 → ℕ) a))
    (i : Fin 3 → ℕ) (hi : i = ![(β 0).val, 0, 0]) (a : Fin 3) : i a = β a := by
  subst hi
  match a with
  | ⟨0, _⟩ => rfl
  | ⟨1, _⟩ =>
    have : (β 1).val < (196 + 196 - 1) / 196 := (β 1).isLt
    show 0 = (β 1).val
    omega
  | ⟨2, _⟩ =>
    have : (β 2).val < (512 + 512 - 1) / 512 := (β 2).isLt
    show 0 = (β 2).val
    omega

theorem block_stack (f : Fin 128 → Vec F S1x196x512 .f32) (n : Fin 128) (i : Fin 3 → ℕ) (hi : i = ![n.val, 0, 0]) (y : S1x196x512.Idx)
    (z : S128x196x512.Idx) (hz : ∀ d : Fin 3, (z d).val = i d * (![1, 196, 512] : Fin 3 → ℕ) d + 1 * (y d).val) :
    f n y = stack (Val := Elt F) (e := .f32) f z := by
  rw [one_idx (a := 196) (b := 512) n i hi y z hz]
  exact congrArg (f n) (eq_one (a := 196) (b := 512) y)

theorem covers5 : ((cfgM m hO).win 5).Covers :=
  ⟨fun a => pos3 a, fun β => ⟨⟨(β (0 : Fin 3)).val, lt_of_lt_of_eq (β (0 : Fin 3)).isLt points⟩, flush0_5 _ _, fun a => ⟨at_block β _ (idx _).2.2.2.2.2.1 a, .inl rfl⟩⟩⟩

theorem fin5 (c : Dev nD) : (dats m hO 0 c).arrAt 5 (cfgM m hO).N = stack fun n : Fin 128 => lift (tpl (slice (V m c main_v71)) (slice (V m c main_arg1) n)) := by
  refine (dats m hO 0 c).arrAt_eq_of_covers 5 _ (covers5 m hO) fun t _ y => ?_
  blk_simp
  rw [after0_5]
  simp only [outsAt0]
  refine (congrFun (out5 c _ _ _ _ _ _ _ _ _ _ _ _ _ _ _ _ _ _ _ _ _ _ _) y).trans ?_
  rw [blk4, blk0]
  exact block_stack (fun n => lift (tpl (slice (V m c main_v71)) (slice (V m c main_arg1) n))) (samp m hO t) (cc0_transform_5 (grid0.coords t)) (idx t).2.2.2.2.2.1 y _ fun _ => rfl

theorem covers6 : ((cfgM m hO).win 6).Covers :=
  ⟨fun a => pos3 a, fun β => ⟨⟨(β (0 : Fin 3)).val, lt_of_lt_of_eq (β (0 : Fin 3)).isLt points⟩, flush0_6 _ _, fun a => ⟨at_block β _ (idx _).2.2.2.2.2.2.1 a, .inl rfl⟩⟩⟩

theorem fin6 (c : Dev nD) : (dats m hO 0 c).arrAt 6 (cfgM m hO).N = stack fun n : Fin 128 => lift (keep (V m 0 main_arg0 (ix1 n)) (V m c main_arg3) (tpl (slice (V m c main_v71)) (slice (V m c main_arg1) n))) := by
  refine (dats m hO 0 c).arrAt_eq_of_covers 6 _ (covers6 m hO) fun t _ y => ?_
  blk_simp
  rw [after0_6]
  simp only [outsAt0]
  refine (congrFun (out6 c _ _ _ _ _ _ _ _ _ _ _ _ _ _ _ _ _ _ _ _ _ _ _) y).trans ?_
  rw [label_at, blk2, blk4, blk0]
  exact block_stack (fun n => lift (keep (V m 0 main_arg0 (ix1 n)) (V m c main_arg3) (tpl (slice (V m c main_v71)) (slice (V m c main_arg1) n)))) (samp m hO t) (cc0_transform_6 (grid0.coords t)) (idx t).2.2.2.2.2.2.1 y _ fun _ => rfl

theorem covers7 : ((cfgM m hO).win 7).Covers :=
  ⟨fun a => pos3 a, fun β => ⟨⟨(β (0 : Fin 3)).val, lt_of_lt_of_eq (β (0 : Fin 3)).isLt points⟩, flush0_7 _ _, fun a => ⟨at_block β _ (idx _).2.2.2.2.2.2.2.1 a, .inl rfl⟩⟩⟩

theorem fin7 (c : Dev nD) : (dats m hO 0 c).arrAt 7 (cfgM m hO).N = stack fun n : Fin 128 => lift (keep (V m 0 main_arg0 (ix1 n)) (V m c main_arg4) (tpl (slice (V m c main_v71)) (slice (V m c main_arg2) n))) := by
  refine (dats m hO 0 c).arrAt_eq_of_covers 7 _ (covers7 m hO) fun t _ y => ?_
  blk_simp
  rw [after0_7]
  simp only [outsAt0]
  refine (congrFun (out7 c _ _ _ _ _ _ _ _ _ _ _ _ _ _ _ _ _ _ _ _ _ _ _) y).trans ?_
  rw [label_at, blk3, blk4, blk1]
  exact block_stack (fun n => lift (keep (V m 0 main_arg0 (ix1 n)) (V m c main_arg4) (tpl (slice (V m c main_v71)) (slice (V m c main_arg2) n)))) (samp m hO t) (cc0_transform_7 (grid0.coords t)) (idx t).2.2.2.2.2.2.2.1 y _ fun _ => rfl

end Cert.Kernel3Ideal.Loss

end
-- ==== Proof.LossAt.lean ====
module

public import proofs.«01_k».proof.Proof.Loss
public import proofs.«01_k».proof.Proof.KerAt
public import proofs.«01_k».proof.Proof.Results
public import proofs.«01_k».proof.Proof.Gen.Reference3Ideal.Run
public import proofs.«01_k».proof.Defs
public import Idealize.ShloMosaic.Lib.ReduceAll

/-! The third call on exact numbers: its three results are those of its reference, when the positions are positions. -/

@[expose] public section

set_option maxRecDepth 16384

noncomputable section

open Idealize.ShloMosaic Idealize.ShloMosaic.TcCoe Idealize.SL.Sem Cert.First

namespace Cert.Kernel3Ideal.Loss

open Cert.Kernel3Ideal Cert.Kernel3Ideal.Gen Cert.Rows
open Cert.KernelIdeal.Blocks (slice)
open Cert.KernelIdeal.Entry (tableT split)

section
variable {F : FTy → Type} [FloatOps F] (m : (ℓ : Loc nD τ sig) → Buf (Elt F) ℓ) (c : Dev nD)

theorem V71 : V m c main_v71 = split (tableT (F := F)) := by
  unfold V
  simp only [hostOps0]
  after_results_simp
  all_goals rfl

end

/-- The labels, the positions and the classes. -/
theorem hot_at (f : Vec Ideal S1x1x512 .i32) (k a : Fin 196) (l : Fin 512) (h : f (ix3 0 0 l) = word a) :
    hot (F := Ideal) f (ix2 k l) = if k = a then 1 else 0 := by
  pointwise [hot]
  rw [h]
  by_cases e : k = a
  · rw [if_pos e, ← e]
    simp [IntOp.cmpi, FloatOps.sitofp]
  · rw [if_neg e]
    have h' : ¬ BitVec.ofNat 32 (k : ℕ) = word a := fun q => e (word_inj q)
    simp [IntOp.cmpi, FloatOps.sitofp, beq_eq_false_iff_ne.mpr h']

theorem tab_hot (t : Vec Ideal S1x196x196 .f32) (f : Vec Ideal S1x1x512 .i32) (p a : Fin 196) (l : Fin 512) (h : f (ix3 0 0 l) = word a) :
    ∑ k, t (ix3 0 p k) * hot (F := Ideal) f (ix2 k l) = t (ix3 0 p a) := by
  rw [← sum_one (fun k => k = a) (fun k => t (ix3 0 p k)) a fun k => Iff.rfl]
  refine Finset.sum_congr rfl fun k _ => ?_
  rw [hot_at f k a l h, mul_comm]

theorem tpl_at (f : Vec Ideal S1x1x512 .i32) (p a : Fin 196) (l : Fin 512) (h : f (ix3 0 0 l) = word a) :
    tpl (F := Ideal) (slice (split (F := Ideal) tableT)) f (ix2 p l)
      = Cert.ReferenceIdeal.Vals.table (F := Ideal) (ix4 (row a) (col a) (row p) (col p)) := by
  pointwise [tpl, tab]
  rw [tab_hot _ f p a l h, tab_hot _ f p a l h, tab_hot _ f p a l h]
  have hr : IsReal (tableT (F := Ideal) (ix2 p a)) := by
    rw [Cert.KernelIdeal.Entry.table_at]; exact table_real _ _ _ _
  show split (F := Ideal) tableT (ix3 0 p a) + split (F := Ideal) tableT (ix3 1 p a) + split (F := Ideal) tableT (ix3 2 p a) = _
  rw [Cert.KernelIdeal.Entry.split0, Cert.KernelIdeal.Entry.split1 _ _ _ hr, Cert.KernelIdeal.Entry.split2 _ _ _ hr, add_zero, add_zero,
    Cert.KernelIdeal.Entry.table_at]

theorem keep_at (g : BitVec 32) (k : Vec Ideal S1x512 .i32) (x : FVec Ideal S196x512 .f32) (p : Fin 196) (l : Fin 512) :
    keep (F := Ideal) g k x (ix2 p l) = if IntOp.cmpi .eq (k (ix2 0 l)) g = 1#1 then max (x (ix2 p l)) 0 else 0 := by
  pointwise [keep]
  rfl

end Cert.Kernel3Ideal.Loss

namespace Cert.Reference3Ideal.Loss

open Cert.Reference3Ideal Cert.Reference3Ideal.Gen

/-- The templates of the reference at given positions. -/
def tpl (f : IVec S128x1x512 32) : FVec Ideal S128x14x14x512 .f32 :=
  transpose S128x14x14x512 [0, 2, 3, 1] (Cert.ReferenceIdeal.Vals.look (F := Ideal) (Cert.ReferenceIdeal.Vals.table (F := Ideal))
    (Cert.ReferenceIdeal.Vals.quot (F := Ideal) (shapeCast S128x512 f shapeCasts_S128x1x512_S128x512))
    (Cert.ReferenceIdeal.Vals.rem (F := Ideal) (shapeCast S128x512 f shapeCasts_S128x1x512_S128x512)))
    transposes_S128x512x14x14_S128x14x14x512_0_2_3_1

/-- The positive part of the channels of a sample's own class, zero in the others. -/
def keep (g : IVec S128 32) (k : IVec S1x512 32) (x : FVec Ideal S128x14x14x512 .f32) : FVec Ideal S128x14x14x512 .f32 :=
  select (broadcastInDim S128x14x14x512 ![0, 1, 2, 3] bcast_S128x1x1x512_S128x14x14x512_0_1_2_3
      (broadcastInDim S128x1x1x512 ![0, 3] bcast_S128x512_S128x1x1x512_0_3
        (cmpi .eq (broadcastInDim S128x512 ![0, 1] bcast_S1x512_S128x512_0_1 (broadcastInDim S1x512 ![1] bcast_S512_S1x512_1 (shapeCast _ k shapeCasts_S1x512_S512)))
          (broadcastInDim S128x512 ![0, 1] bcast_S128x1_S128x512_0_1 (broadcastInDim S128x1 ![0] bcast_S128_S128x1_0 g)))))
    (maximumf x (broadcastInDim S128x14x14x512 ![] bcast_S_S128x14x14x512 (constant S_ .f32 0x00000000#32)))
    (broadcastInDim S128x14x14x512 ![] bcast_S_S128x14x14x512 (id (constant S_ .f32 0x00000000#32)))

theorem v25_eq (V0 : Valuation τ sig (Elt Ideal)) : Cert.Reference3Ideal.Value.res_main_v25 V0 = Cert.ReferenceIdeal.Vals.table (F := Ideal) := rfl

theorem v43_eq (V0 : Valuation τ sig (Elt Ideal)) : Cert.Reference3Ideal.Value.res_main_v43 V0 = tpl (V0 (Proc.devRef .tc main_arg1)) := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = shapeCast S128x196x512 (tpl (m ((c.tc : Thread nD τ).loc main_arg1))) shapeCasts_S128x14x14x512_S128x196x512
      ∧ r.2.mem ((c.tc : Thread nD τ).loc main_v81) = shapeCast S128x196x512 (keep (m ((c.tc : Thread nD τ).loc main_arg0)) (m ((c.tc : Thread nD τ).loc main_arg3)) (tpl (m ((c.tc : Thread nD τ).loc main_arg1)))) shapeCasts_S128x14x14x512_S128x196x512
      ∧ r.2.mem ((c.tc : Thread nD τ).loc main_v82) = shapeCast S128x196x512 (keep (m ((c.tc : Thread nD τ).loc main_arg0)) (m ((c.tc : Thread nD τ).loc main_arg4)) (tpl (m ((c.tc : Thread nD τ).loc main_arg2)))) shapeCasts_S128x14x14x512_S128x196x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run (F := Ideal) m ρ

theorem tpl_at (f : IVec S128x1x512 32) (n : Fin 128) (l : Fin 512) (a b : Fin 14) (p : Fin 196) (h : f (ix3 n 0 l) = word p) :
    tpl f (ix4 n a b l) = Cert.ReferenceIdeal.Vals.table (F := Ideal) (ix4 (row p) (col p) a b) := by
  unfold tpl
  have hf : shapeCast S128x512 f shapeCasts_S128x1x512_S128x512 (ix2 n l) = word p := by
    rw [← h]; pointwise
  generalize shapeCast S128x512 f shapeCasts_S128x1x512_S128x512 = F at hf
  pointwise
  exact Cert.ReferenceIdeal.Vals.look_at _ _ _ _ _ _ _ _ _ (Cert.ReferenceIdeal.Vals.quot_at _ _ _ _ hf) (Cert.ReferenceIdeal.Vals.rem_at _ _ _ _ hf)

theorem keep_at (g : IVec S128 32) (k : IVec S1x512 32) (x : FVec Ideal S128x14x14x512 .f32) (n : Fin 128) (l : Fin 512) (a b : Fin 14) :
    keep g k x (ix4 n a b l) = if IntOp.cmpi .eq (k (ix2 0 l)) (g (ix1 n)) = 1#1 then max (x (ix4 n a b l)) 0 else 0 := by
  pointwise [keep]
  simp only [id]
  pointwise
  rfl

/-- The templates and the losses as results. -/
theorem out_at (x : FVec Ideal S128x14x14x512 .f32) (n : Fin 128) (p : Fin 196) (l : Fin 512) :
    shapeCast S128x196x512 x shapeCasts_S128x14x14x512_S128x196x512 (ix3 n p l) = x (ix4 n (row p) (col p) l) := by
  pointwise

end Cert.Reference3Ideal.Loss

namespace Cert.Positions

open Cert.Pre_positions

theorem facts : Cert.Pre_positions.Facts := ⟨by decide +kernel, by decide +kernel, by decide⟩

/-- A word that lies from 0 up to 195 is one of the positions. -/
theorem word_of (x : BitVec 32) (h : IntOp.andi (IntOp.cmpi .sge x 0#32) (IntOp.cmpi .slt x 196#32) = 1#1) : ∃ a : Fin 196, x = word a := by
  obtain ⟨h0, h1⟩ := IntOp.andi_eq_one.1 h
  simp only [IntOp.cmpi] at h0 h1
  have l0 : (0#32).sle x = true := by revert h0; cases (0#32).sle x <;> simp
  have l1 : x.slt 196#32 = true := by revert h1; cases x.slt 196#32 <;> simp
  rw [BitVec.sle_eq_decide] at l0
  rw [BitVec.slt_eq_decide] at l1
  have e0 := of_decide_eq_true l0
  have e1 := of_decide_eq_true l1
  have k0 : (0#32).toInt = 0 := rfl
  have k1 : (196#32).toInt = 196 := rfl
  rw [k0] at e0
  rw [k1] at e1
  have e : x.toInt = (x.toNat : ℤ) := by
    rw [BitVec.toInt_eq_toNat_cond] at e0 e1 ⊢
    have := x.isLt
    split_ifs at * <;> omega
  have lt : x.toNat < 196 := by omega
  refine ⟨⟨x.toNat, lt⟩, ?_⟩
  show x = BitVec.ofNat 32 x.toNat
  simp

/-- Under the precondition every entry of the two arrays of positions is a position. -/
theorem all [Cert.Pre_positions.Facts] (g : IVec S128 32) (f1 f2 : IVec S128x1x512 32) (k1 k2 : IVec S1x512 32)
    (h : Cert.Pre_positions.fn (F := Ideal) g f1 f2 k1 k2 = fun _ => 1#1) (n : Fin 128) (l : Fin 512) :
    (∃ a : Fin 196, f1 (ix3 n 0 l) = word a) ∧ ∃ a : Fin 196, f2 (ix3 n 0 l) = word a := by
  have h0 := congrFun h ix0
  obtain ⟨a, b⟩ := IntOp.andi_eq_one.1 h0
  exact ⟨word_of _ (Host.reduce_andi_all _ _ _ _ _ a (ix3 n 0 l)), word_of _ (Host.reduce_andi_all _ _ _ _ _ b (ix3 n 0 l))⟩

end Cert.Positions

namespace Cert.Kernel3Ideal.Loss

open Cert.Kernel3Ideal Cert.Kernel3Ideal.Gen Cert.Rows
open Cert.KernelIdeal.Blocks (slice)
open Cert.KernelIdeal.Entry (tableT split)

variable (m : (ℓ : Loc nD τ sig) → Buf (Elt Ideal) ℓ)

/-- There is nothing to ask of the arguments. -/
theorem ok : Ok m := trivial

/-- The kernel and the reference at one sample, whose positions are positions. -/
theorem tpl_same (f : IVec S128x1x512 32) (n : Fin 128) (p : Fin 196) (l : Fin 512) (h : ∃ a : Fin 196, f (ix3 n 0 l) = word a) :
    tpl (F := Ideal) (slice (split (F := Ideal) tableT)) (slice f n) (ix2 p l) = Cert.Reference3Ideal.Loss.tpl f (ix4 n (row p) (col p) l) := by
  obtain ⟨a, h⟩ := h
  exact (tpl_at _ p a l h).trans (Cert.Reference3Ideal.Loss.tpl_at f n l _ _ a h).symm

theorem keep_same (g : IVec S128 32) (k : IVec S1x512 32) (f : IVec S128x1x512 32) (n : Fin 128) (p : Fin 196) (l : Fin 512) (h : ∃ a : Fin 196, f (ix3 n 0 l) = word a) :
    keep (F := Ideal) (g (ix1 n)) k (tpl (F := Ideal) (slice (split (F := Ideal) tableT)) (slice f n)) (ix2 p l)
      = Cert.Reference3Ideal.Loss.keep g k (Cert.Reference3Ideal.Loss.tpl f) (ix4 n (row p) (col p) l) := by
  rw [keep_at, Cert.Reference3Ideal.Loss.keep_at, tpl_same f n p l h]

theorem lift_at (x : FVec Ideal S196x512 .f32) (p : Fin 196) (l : Fin 512) : lift (F := Ideal) x (ix3 0 p l) = x (ix2 p l) := by
  pointwise [lift]

/-- The run, by its three results and its arguments. -/
theorem run_of (ρ : Dev nD → PrngReg) (hO : Ok m)
    (D : (p : Fin 1) → (c : Dev nD) → Idealize.ShloMosaic.Pipeline.Dat τ (Elt Ideal) Unit ℕ (UR sig nD τ) ℕ ((Pipeline.pin pcfgs fun _ => adm m hO) p) c)
    (hA : ∀ c w, (D 0 c).A w = V m c (Pipeline.arrRef spec0 w))
    (h : θ_run defs (onTc (τ := τ) (main (F := Ideal))) (s₀ m ρ) (Pipeline.FramePost (Pipeline.pin pcfgs fun _ => adm m hO) D 0 (V m))) :
    θ_run defs (onTc (τ := τ) (main (F := Ideal))) ⟨m, fun _ => 0, ρ⟩ fun r => ∀ c : Dev nD,
      r.2.mem ((c.tc : Thread nD τ).loc main_v72_0) = (D 0 c).arrAt 5 (cfgM m hO).N
      ∧ r.2.mem ((c.tc : Thread nD τ).loc main_v72_1) = (D 0 c).arrAt 6 (cfgM m hO).N
      ∧ r.2.mem ((c.tc : Thread nD τ).loc main_v72_2) = (D 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 5, (h c).1 6, (h c).1 7,
    ((h c).2 main_arg0 (by decide : main_arg0 ∈ Pipeline.restRefs sig spec0)).trans (V_main_arg0 m c),
    ((h c).1 0).trans (((D 0 c).arrAt_in 0 rfl _).trans ((hA c 0).trans (V_main_arg1 m c))),
    ((h c).1 1).trans (((D 0 c).arrAt_in 1 rfl _).trans ((hA c 1).trans (V_main_arg2 m c))),
    ((h c).1 2).trans (((D 0 c).arrAt_in 2 rfl _).trans ((hA c 2).trans (V_main_arg3 m c))),
    ((h c).1 3).trans (((D 0 c).arrAt_in 3 rfl _).trans ((hA c 3).trans (V_main_arg4 m c)))⟩) h

def run (ρ : Dev nD → PrngReg) := run_of m ρ (ok m) (dats m (ok m)) (fun c w => A_eq m (ok m) c w) (run_main (F := Ideal) m ρ (ok m))

variable (c : Dev nD)

/-- The arguments, by their names. -/
abbrev gts : IVec S128 32 := m ((c : Thread nD τ).loc main_arg0)
abbrev pos1 : IVec S128x1x512 32 := m ((c : Thread nD τ).loc main_arg1)
abbrev pos2 : IVec S128x1x512 32 := m ((c : Thread nD τ).loc main_arg2)
abbrev cls1 : IVec S1x512 32 := m ((c : Thread nD τ).loc main_arg3)
abbrev cls2 : IVec S1x512 32 := m ((c : Thread nD τ).loc main_arg4)

/-- The three results. -/
theorem res0 (h : ∀ (n : Fin 128) (l : Fin 512), ∃ a : Fin 196, pos1 m c (ix3 n 0 l) = word a) :
    (dats m (ok m) 0 c).arrAt 5 (cfgM m (ok m)).N
      = shapeCast Cert.Reference3Ideal.S128x196x512 (Cert.Reference3Ideal.Loss.tpl (pos1 m c)) Cert.Reference3Ideal.Gen.shapeCasts_S128x14x14x512_S128x196x512 := by
  refine (fin5 m (ok m) c).trans ?_
  rw [V71, V_main_arg1]
  refine Cert.Results.stack_eq _ _ fun n p l => ?_
  rw [Cert.Reference3Ideal.Loss.out_at, lift_at]
  exact tpl_same (pos1 m c) n p l (h n l)

theorem res1 (h : ∀ (n : Fin 128) (l : Fin 512), ∃ a : Fin 196, pos1 m c (ix3 n 0 l) = word a) :
    (dats m (ok m) 0 c).arrAt 6 (cfgM m (ok m)).N
      = shapeCast Cert.Reference3Ideal.S128x196x512 (Cert.Reference3Ideal.Loss.keep (gts m c) (cls1 m c) (Cert.Reference3Ideal.Loss.tpl (pos1 m c)))
          Cert.Reference3Ideal.Gen.shapeCasts_S128x14x14x512_S128x196x512 := by
  obtain rfl : c = 0 := Subsingleton.elim _ _
  refine (fin6 m (ok m) 0).trans ?_
  rw [V71, V_main_arg1, V_main_arg3, V_main_arg0]
  refine Cert.Results.stack_eq _ _ fun n p l => ?_
  rw [Cert.Reference3Ideal.Loss.out_at, lift_at]
  exact keep_same (gts m 0) (cls1 m 0) (pos1 m 0) n p l (h n l)

theorem res2 (h : ∀ (n : Fin 128) (l : Fin 512), ∃ a : Fin 196, pos2 m c (ix3 n 0 l) = word a) :
    (dats m (ok m) 0 c).arrAt 7 (cfgM m (ok m)).N
      = shapeCast Cert.Reference3Ideal.S128x196x512 (Cert.Reference3Ideal.Loss.keep (gts m c) (cls2 m c) (Cert.Reference3Ideal.Loss.tpl (pos2 m c)))
          Cert.Reference3Ideal.Gen.shapeCasts_S128x14x14x512_S128x196x512 := by
  obtain rfl : c = 0 := Subsingleton.elim _ _
  refine (fin7 m (ok m) 0).trans ?_
  rw [V71, V_main_arg2, V_main_arg4, V_main_arg0]
  refine Cert.Results.stack_eq _ _ fun n p l => ?_
  rw [Cert.Reference3Ideal.Loss.out_at, lift_at]
  exact keep_same (gts m 0) (cls2 m 0) (pos2 m 0) n p l (h n l)

end Cert.Kernel3Ideal.Loss

end

end
-- ==== Proof.StatVals.lean ====
module

public import proofs.«01_k».proof.Proof.RefVals

/-! The second half of the reference: the dense layer and the classes of the filters, read as functions of the first
half's arrays, and the whole run. -/

@[expose] public section

set_option Elab.async false

noncomputable section

namespace Cert.ReferenceIdeal.Vals

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The dense layer: one product and the bias. -/
def logit (x : C S128x49x512 .f32 (F := F)) (w : C S25088x10 .f32 (F := F)) (b : C S10 .f32 (F := F)) : C S128x10 .f32 (F := F) :=
  addf (Host.dotGeneral dot_S128x25088_S25088x10_S128x10_1_0_0_1_n_n none (shapeCast _ x shapeCasts_S128x49x512_S128x25088) w)
    (broadcastInDim S128x10 ![0, 1] bcast_S1x10_S128x10_0_1 (broadcastInDim S1x10 ![1] bcast_S10_S1x10_1 b))

/-- One number of each row, along its classes. -/
def along {e : EltTy} (x : C S128 e (F := F)) : C S128x10 e (F := F) :=
  broadcastInDim S128x10 ![0, 1] bcast_S128x1_S128x10_0_1 (broadcastInDim S128x1 ![0] bcast_S128_S128x1_0 x)

/-- The exponentials of a row's distances from its maximum. -/
def expo (l : C S128x10 .f32 (F := F)) : C S128x10 .f32 (F := F) :=
  Host.exp (subf l (along (maximumf (broadcastInDim S128 ![] bcast_S_S128 (constant S_ .f32 0xFF800000#32))
    (Host.reduce FloatOps.maximumf l (constant S_ .f32 0xFF800000#32) reducesTo_S128x10_S128_d1 h_S_))))

/-- The softmax of every row. -/
def soft (l : C S128x10 .f32 (F := F)) : C S128x10 .f32 (F := F) :=
  Host.divf (expo l) (along (Host.reduceAdd (expo l) (constant S_ .f32 0x00000000#32) reducesTo_S128x10_S128_d1 h_S_))

/-- The one-hot rows of the labels. -/
def oneHot (g : C S128 .i32 (F := F)) : C S128x10 .f32 (F := F) :=
  uitofp .f32 (cmpi .eq (along (F := F) g) (broadcastInDim S128x10 ![0, 1] bcast_S1x10_S128x10_0_1 (iotaInDim S1x10 32 1)))

/-- How often each class has been seen. -/
def seen (c : C S10 .f32 (F := F)) (g : C S128 .i32 (F := F)) : C S1x10 .f32 (F := F) :=
  broadcastInDim S1x10 ![1] bcast_S10_S1x10_1 (addf c (Host.reduceAdd (oneHot g) (constant S_ .f32 0x00000000#32) reducesTo_S128x10_S10_d0 h_S_))

/-- The activation sums of every filter and class. -/
def sums (x : C S128x1x512 .f32 (F := F)) (a : C S512x10 .f32 (F := F)) (g : C S128 .i32 (F := F)) : C S512x10 .f32 (F := F) :=
  addf a (Host.dotGeneral dot_S512x128_S128x10_S512x10_1_0_0_1_n_n none
    (transpose S512x128 [1, 0] (shapeCast _ x shapeCasts_S128x1x512_S128x512) transposes_S128x512_S512x128_1_0) (oneHot g))

/-- One number for every class. -/
def all1 (w : BitVec 32) : C S1x10 .f32 (F := F) := broadcastInDim S1x10 ![] bcast_S_S1x10 (constant S_ .f32 w)

/-- Quotients of the sums by the counts, zero where a count is zero. -/
def means (s : C S512x10 .f32 (F := F)) (k : C S1x10 .f32 (F := F)) : C S512x10 .f32 (F := F) :=
  select (broadcastInDim S512x10 ![0, 1] bcast_S1x10_S512x10_0_1 (cmpf .oeq k (all1 0x00000000#32)))
    (broadcastInDim S512x10 ![] bcast_S_S512x10 (constant S_ .f32 0x00000000#32))
    (Host.divf s (broadcastInDim S512x10 ![0, 1] bcast_S1x10_S512x10_0_1 (select (cmpf .oeq k (all1 0x00000000#32)) (all1 0x3F800000#32) k)))

/-- The class of the largest mean activation of each filter. -/
def pick (x : C S128x1x512 .f32 (F := F)) (a : C S512x10 .f32 (F := F)) (c : C S10 .f32 (F := F)) (g : C S128 .i32 (F := F)) : C S512 .i32 (F := F) :=
  argmaxIdx2 (means (sums x a g) (seen c g)) (iotaInDim S512x10 32 1) (constant S_ .f32 0xFF800000#32) (constantI S_ 32 0#32)

section
variable (V : Valuation τ sig (Elt F))

set_option maxRecDepth 8192 in
set_option maxHeartbeats 2000000 in
theorem den_v149 : after den V (no_index (Proc.devRef .tc main_v149)) = soft (logit (V (Proc.devRef .tc main_v123)) (V (Proc.devRef .tc main_arg4)) (V (Proc.devRef .tc main_arg5))) := by
  simp only [den]
  after_results_simp
  all_goals rfl

/-- What this stretch leaves as it was. -/
theorem den_keep :
      after den V (no_index (Proc.devRef .tc main_arg0)) = V (Proc.devRef .tc main_arg0) ∧
      after den V (no_index (Proc.devRef .tc main_arg1)) = V (Proc.devRef .tc main_arg1) ∧
      after den V (no_index (Proc.devRef .tc main_arg2)) = V (Proc.devRef .tc main_arg2) ∧
      after den V (no_index (Proc.devRef .tc main_arg3)) = V (Proc.devRef .tc main_arg3) ∧
      after den V (no_index (Proc.devRef .tc main_arg4)) = V (Proc.devRef .tc main_arg4) ∧
      after den V (no_index (Proc.devRef .tc main_arg5)) = V (Proc.devRef .tc main_arg5) ∧
      after den V (no_index (Proc.devRef .tc main_arg6)) = V (Proc.devRef .tc main_arg6) ∧
      after den V (no_index (Proc.devRef .tc main_arg7)) = V (Proc.devRef .tc main_arg7) ∧
      after den V (no_index (Proc.devRef .tc main_arg8)) = V (Proc.devRef .tc main_arg8) ∧
      after den V (no_index (Proc.devRef .tc main_arg9)) = V (Proc.devRef .tc main_arg9) ∧
      after den V (no_index (Proc.devRef .tc main_v121)) = V (Proc.devRef .tc main_v121) ∧
      after den V (no_index (Proc.devRef .tc main_v122)) = V (Proc.devRef .tc main_v122) ∧
      after den V (no_index (Proc.devRef .tc main_v123)) = V (Proc.devRef .tc main_v123) ∧
      after den V (no_index (Proc.devRef .tc main_v127)) = V (Proc.devRef .tc main_v127) ∧
      after den V (no_index (Proc.devRef .tc main_v131)) = V (Proc.devRef .tc main_v131) ∧
      after den V (no_index (Proc.devRef .tc main_v132)) = V (Proc.devRef .tc main_v132) ∧
      after den V (no_index (Proc.devRef .tc main_v133)) = V (Proc.devRef .tc main_v133) := by
  simp only [den]
  refine ⟨?_, ?_, ?_, ?_, ?_, ?_, ?_, ?_, ?_, ?_, ?_, ?_, ?_, ?_, ?_, ?_, ?_⟩ <;> after_results_simp

/-- The stretch of the first classes. -/
abbrev fst : List (HloOp τ sig (Elt F)) := fstA ++ fstB

set_option maxRecDepth 8192 in
set_option maxHeartbeats 2000000 in
theorem fst_v169 : after fst V (no_index (Proc.devRef .tc main_v169)) = shapeCast _ (pick (V (Proc.devRef .tc main_v127)) (V (Proc.devRef .tc main_arg6)) (V (Proc.devRef .tc main_arg8)) (V (Proc.devRef .tc main_arg1))) shapeCasts_S512_S1x512 := by
  simp only [fst, fstA, fstB, List.cons_append, List.nil_append]
  after_results_simp
  all_goals rfl

/-- What this stretch leaves as it was. -/
theorem fst_keep :
      after fst V (no_index (Proc.devRef .tc main_arg0)) = V (Proc.devRef .tc main_arg0) ∧
      after fst V (no_index (Proc.devRef .tc main_arg1)) = V (Proc.devRef .tc main_arg1) ∧
      after fst V (no_index (Proc.devRef .tc main_arg2)) = V (Proc.devRef .tc main_arg2) ∧
      after fst V (no_index (Proc.devRef .tc main_arg3)) = V (Proc.devRef .tc main_arg3) ∧
      after fst V (no_index (Proc.devRef .tc main_arg4)) = V (Proc.devRef .tc main_arg4) ∧
      after fst V (no_index (Proc.devRef .tc main_arg5)) = V (Proc.devRef .tc main_arg5) ∧
      after fst V (no_index (Proc.devRef .tc main_arg6)) = V (Proc.devRef .tc main_arg6) ∧
      after fst V (no_index (Proc.devRef .tc main_arg7)) = V (Proc.devRef .tc main_arg7) ∧
      after fst V (no_index (Proc.devRef .tc main_arg8)) = V (Proc.devRef .tc main_arg8) ∧
      after fst V (no_index (Proc.devRef .tc main_arg9)) = V (Proc.devRef .tc main_arg9) ∧
      after fst V (no_index (Proc.devRef .tc main_v121)) = V (Proc.devRef .tc main_v121) ∧
      after fst V (no_index (Proc.devRef .tc main_v122)) = V (Proc.devRef .tc main_v122) ∧
      after fst V (no_index (Proc.devRef .tc main_v123)) = V (Proc.devRef .tc main_v123) ∧
      after fst V (no_index (Proc.devRef .tc main_v127)) = V (Proc.devRef .tc main_v127) ∧
      after fst V (no_index (Proc.devRef .tc main_v131)) = V (Proc.devRef .tc main_v131) ∧
      after fst V (no_index (Proc.devRef .tc main_v132)) = V (Proc.devRef .tc main_v132) ∧
      after fst V (no_index (Proc.devRef .tc main_v133)) = V (Proc.devRef .tc main_v133) ∧
      after fst V (no_index (Proc.devRef .tc main_v149)) = V (Proc.devRef .tc main_v149) := by
  simp only [fst, fstA, fstB, List.cons_append, List.nil_append]
  refine ⟨?_, ?_, ?_, ?_, ?_, ?_, ?_, ?_, ?_, ?_, ?_, ?_, ?_, ?_, ?_, ?_, ?_, ?_⟩ <;> after_results_simp

set_option maxRecDepth 8192 in
set_option maxHeartbeats 2000000 in
theorem snd_v189 : after sndO V (no_index (Proc.devRef .tc main_v189)) = shapeCast _ (pick (V (Proc.devRef .tc main_v131)) (V (Proc.devRef .tc main_arg7)) (V (Proc.devRef .tc main_arg9)) (V (Proc.devRef .tc main_arg1))) shapeCasts_S512_S1x512 := by
  simp only [sndO]
  after_results_simp
  all_goals rfl

/-- What this stretch leaves as it was. -/
theorem snd_keep :
      after sndO V (no_index (Proc.devRef .tc main_arg0)) = V (Proc.devRef .tc main_arg0) ∧
      after sndO V (no_index (Proc.devRef .tc main_arg1)) = V (Proc.devRef .tc main_arg1) ∧
      after sndO V (no_index (Proc.devRef .tc main_arg2)) = V (Proc.devRef .tc main_arg2) ∧
      after sndO V (no_index (Proc.devRef .tc main_arg3)) = V (Proc.devRef .tc main_arg3) ∧
      after sndO V (no_index (Proc.devRef .tc main_arg4)) = V (Proc.devRef .tc main_arg4) ∧
      after sndO V (no_index (Proc.devRef .tc main_arg5)) = V (Proc.devRef .tc main_arg5) ∧
      after sndO V (no_index (Proc.devRef .tc main_arg6)) = V (Proc.devRef .tc main_arg6) ∧
      after sndO V (no_index (Proc.devRef .tc main_arg7)) = V (Proc.devRef .tc main_arg7) ∧
      after sndO V (no_index (Proc.devRef .tc main_arg8)) = V (Proc.devRef .tc main_arg8) ∧
      after sndO V (no_index (Proc.devRef .tc main_arg9)) = V (Proc.devRef .tc main_arg9) ∧
      after sndO V (no_index (Proc.devRef .tc main_v121)) = V (Proc.devRef .tc main_v121) ∧
      after sndO V (no_index (Proc.devRef .tc main_v122)) = V (Proc.devRef .tc main_v122) ∧
      after sndO V (no_index (Proc.devRef .tc main_v123)) = V (Proc.devRef .tc main_v123) ∧
      after sndO V (no_index (Proc.devRef .tc main_v127)) = V (Proc.devRef .tc main_v127) ∧
      after sndO V (no_index (Proc.devRef .tc main_v131)) = V (Proc.devRef .tc main_v131) ∧
      after sndO V (no_index (Proc.devRef .tc main_v132)) = V (Proc.devRef .tc main_v132) ∧
      after sndO V (no_index (Proc.devRef .tc main_v133)) = V (Proc.devRef .tc main_v133) ∧
      after sndO V (no_index (Proc.devRef .tc main_v149)) = V (Proc.devRef .tc main_v149) ∧
      after sndO V (no_index (Proc.devRef .tc main_v169)) = V (Proc.devRef .tc main_v169) := by
  simp only [sndO]
  refine ⟨?_, ?_, ?_, ?_, ?_, ?_, ?_, ?_, ?_, ?_, ?_, ?_, ?_, ?_, ?_, ?_, ?_, ?_, ?_⟩ <;> after_results_simp

theorem after_ops : after ops V = after sndO (after fst (after den (half V))) := by
  unfold half
  simp only [ops, fst, win0, win1, win2, win3, after_append]

/-- The results and the arguments at the end. -/
theorem ends :
    after ops V (Proc.devRef .tc main_v149) = soft (logit (pool (mask (mid (V (Proc.devRef .tc main_arg0)) (V (Proc.devRef .tc main_arg2)) (V (Proc.devRef .tc main_arg3))))) (V (Proc.devRef .tc main_arg4)) (V (Proc.devRef .tc main_arg5))) ∧
    after ops V (Proc.devRef .tc main_v121) = shapeCast _ (mask (V (Proc.devRef .tc main_arg0))) shapeCasts_S128x14x14x512_S128x196x512 ∧
    after ops V (Proc.devRef .tc main_v122) = shapeCast _ (mask (mid (V (Proc.devRef .tc main_arg0)) (V (Proc.devRef .tc main_arg2)) (V (Proc.devRef .tc main_arg3)))) shapeCasts_S128x14x14x512_S128x196x512 ∧
    after ops V (Proc.devRef .tc main_v123) = pool (mask (mid (V (Proc.devRef .tc main_arg0)) (V (Proc.devRef .tc main_arg2)) (V (Proc.devRef .tc main_arg3)))) ∧
    after ops V (Proc.devRef .tc main_v127) = mean (mask (V (Proc.devRef .tc main_arg0))) ∧
    after ops V (Proc.devRef .tc main_v131) = mean (mask (mid (V (Proc.devRef .tc main_arg0)) (V (Proc.devRef .tc main_arg2)) (V (Proc.devRef .tc main_arg3)))) ∧
    after ops V (Proc.devRef .tc main_v132) = shapeCast _ (best (V (Proc.devRef .tc main_arg0))) shapeCasts_S128x512_S128x1x512 ∧
    after ops V (Proc.devRef .tc main_v133) = shapeCast _ (best (mid (V (Proc.devRef .tc main_arg0)) (V (Proc.devRef .tc main_arg2)) (V (Proc.devRef .tc main_arg3)))) shapeCasts_S128x512_S128x1x512 ∧
    after ops V (Proc.devRef .tc main_v169) = shapeCast _ (pick (mean (mask (V (Proc.devRef .tc main_arg0)))) (V (Proc.devRef .tc main_arg6)) (V (Proc.devRef .tc main_arg8)) (V (Proc.devRef .tc main_arg1))) shapeCasts_S512_S1x512 ∧
    after ops V (Proc.devRef .tc main_v189) = shapeCast _ (pick (mean (mask (mid (V (Proc.devRef .tc main_arg0)) (V (Proc.devRef .tc main_arg2)) (V (Proc.devRef .tc main_arg3))))) (V (Proc.devRef .tc main_arg7)) (V (Proc.devRef .tc main_arg9)) (V (Proc.devRef .tc main_arg1))) shapeCasts_S512_S1x512 ∧
    after ops V (Proc.devRef .tc main_arg0) = V (Proc.devRef .tc main_arg0) ∧
    after ops V (Proc.devRef .tc main_arg1) = V (Proc.devRef .tc main_arg1) ∧
    after ops V (Proc.devRef .tc main_arg2) = V (Proc.devRef .tc main_arg2) ∧
    after ops V (Proc.devRef .tc main_arg3) = V (Proc.devRef .tc main_arg3) ∧
    after ops V (Proc.devRef .tc main_arg4) = V (Proc.devRef .tc main_arg4) ∧
    after ops V (Proc.devRef .tc main_arg5) = V (Proc.devRef .tc main_arg5) ∧
    after ops V (Proc.devRef .tc main_arg6) = V (Proc.devRef .tc main_arg6) ∧
    after ops V (Proc.devRef .tc main_arg7) = V (Proc.devRef .tc main_arg7) ∧
    after ops V (Proc.devRef .tc main_arg8) = V (Proc.devRef .tc main_arg8) ∧
    after ops V (Proc.devRef .tc main_arg9) = V (Proc.devRef .tc main_arg9) := by
  rw [after_ops]
  simp only [den_v149, den_keep, fst_v169, fst_keep, snd_v189, snd_keep, half_vals, and_self]

end

/-- On every device, from any memory with zero counters, every run ends with the results at these terms of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = soft (logit (pool (mask (mid (m ((c.tc : Thread nD τ).loc main_arg0)) (m ((c.tc : Thread nD τ).loc main_arg2)) (m ((c.tc : Thread nD τ).loc main_arg3))))) (m ((c.tc : Thread nD τ).loc main_arg4)) (m ((c.tc : Thread nD τ).loc main_arg5))) ∧
      r.2.mem ((c.tc : Thread nD τ).loc main_v121) = shapeCast _ (mask (m ((c.tc : Thread nD τ).loc main_arg0))) shapeCasts_S128x14x14x512_S128x196x512 ∧
      r.2.mem ((c.tc : Thread nD τ).loc main_v122) = shapeCast _ (mask (mid (m ((c.tc : Thread nD τ).loc main_arg0)) (m ((c.tc : Thread nD τ).loc main_arg2)) (m ((c.tc : Thread nD τ).loc main_arg3)))) shapeCasts_S128x14x14x512_S128x196x512 ∧
      r.2.mem ((c.tc : Thread nD τ).loc main_v123) = pool (mask (mid (m ((c.tc : Thread nD τ).loc main_arg0)) (m ((c.tc : Thread nD τ).loc main_arg2)) (m ((c.tc : Thread nD τ).loc main_arg3)))) ∧
      r.2.mem ((c.tc : Thread nD τ).loc main_v127) = mean (mask (m ((c.tc : Thread nD τ).loc main_arg0))) ∧
      r.2.mem ((c.tc : Thread nD τ).loc main_v131) = mean (mask (mid (m ((c.tc : Thread nD τ).loc main_arg0)) (m ((c.tc : Thread nD τ).loc main_arg2)) (m ((c.tc : Thread nD τ).loc main_arg3)))) ∧
      r.2.mem ((c.tc : Thread nD τ).loc main_v132) = shapeCast _ (best (m ((c.tc : Thread nD τ).loc main_arg0))) shapeCasts_S128x512_S128x1x512 ∧
      r.2.mem ((c.tc : Thread nD τ).loc main_v133) = shapeCast _ (best (mid (m ((c.tc : Thread nD τ).loc main_arg0)) (m ((c.tc : Thread nD τ).loc main_arg2)) (m ((c.tc : Thread nD τ).loc main_arg3)))) shapeCasts_S128x512_S128x1x512 ∧
      r.2.mem ((c.tc : Thread nD τ).loc main_v169) = shapeCast _ (pick (mean (mask (m ((c.tc : Thread nD τ).loc main_arg0)))) (m ((c.tc : Thread nD τ).loc main_arg6)) (m ((c.tc : Thread nD τ).loc main_arg8)) (m ((c.tc : Thread nD τ).loc main_arg1))) shapeCasts_S512_S1x512 ∧
      r.2.mem ((c.tc : Thread nD τ).loc main_v189) = shapeCast _ (pick (mean (mask (mid (m ((c.tc : Thread nD τ).loc main_arg0)) (m ((c.tc : Thread nD τ).loc main_arg2)) (m ((c.tc : Thread nD τ).loc main_arg3))))) (m ((c.tc : Thread nD τ).loc main_arg7)) (m ((c.tc : Thread nD τ).loc main_arg9)) (m ((c.tc : Thread nD τ).loc main_arg1))) shapeCasts_S512_S1x512 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  (θ_run defs _ _).mono (fun _ h c => by
    obtain ⟨h0, h1, h2, h3, h4, h5, h6, h7, h8, h9, h10, h11, h12, h13, h14, h15, h16, h17, h18, h19⟩ := ends (F := F) (launchContents m c)
    exact ⟨(h c main_v149).trans h0,
      (h c main_v121).trans h1,
      (h c main_v122).trans h2,
      (h c main_v123).trans h3,
      (h c main_v127).trans h4,
      (h c main_v131).trans h5,
      (h c main_v132).trans h6,
      (h c main_v133).trans h7,
      (h c main_v169).trans h8,
      (h c main_v189).trans h9,
      (h c main_arg0).trans h10,
      (h c main_arg1).trans h11,
      (h c main_arg2).trans h12,
      (h c main_arg3).trans h13,
      (h c main_arg4).trans h14,
      (h c main_arg5).trans h15,
      (h c main_arg6).trans h16,
      (h c main_arg7).trans h17,
      (h c main_arg8).trans h18,
      (h c main_arg9).trans h19⟩)
    (run_seq scopedRefs_eq scopedSems_eq defs main (fun _ => ops) main_eq (fun _ => ops_plain.1) m ρ fun _ => ops_fresh)

end Cert.ReferenceIdeal.Vals

end

end
-- ==== Proof.Stats.lean ====
/- The second call's result arrays after the launch, each as one function of the arrays at the launch's entry. -/
module

public import proofs.«01_k».proof.Proof.Gen.KernelIdeal.Frame
public import Idealize.ShloMosaic.Lib.Pipeline.ValueKit

@[expose] public section

set_option maxRecDepth 16384

noncomputable section

namespace Cert.KernelIdeal.Stats

open Cert.KernelIdeal Cert.KernelIdeal.Gen
open Idealize.ShloMosaic Idealize.ShloMosaic.TcCoe Idealize.SL.Sem
open Idealize.ShloMosaic.Pipeline (Dat)

variable {F : FTy → Type} [FloatOps F] [Named F]

/-- Where a count is zero. -/
def none (k : FVec F S10x1 .f32) : IVec S10x1 1 := cmpf .oeq k (broadcast S10x1 (Scalar.ofBits .f32 0x00000000#32))

/-- Quotients of sums by counts, zero where a count is zero. -/
def means (s : FVec F S10x512 .f32) (k : FVec F S10x1 .f32) : FVec F S10x512 .f32 :=
  select (broadcastTo S10x512 (shapeCast S10x1 (none k) shapeCasts_S10x1_S10x1) broadcasts_S10x1_S10x512)
    (broadcast S10x512 (Scalar.ofBits .f32 0x00000000#32))
    (divf s (broadcastTo S10x512 (select (none k) (broadcast S10x1 (Scalar.ofBits .f32 0x3F800000#32)) k) broadcasts_S10x1_S10x512))

/-- The first class with the largest value of each filter. -/
def first (x : FVec F S10x512 .f32) : IVec S1x512 32 :=
  shapeCast S1x512 (multiReductionI .minsi [0] S512
    (select (cmpf .oeq x (broadcastTo S10x512 (shapeCast S1x512 (multiReduction .maximumf [0] S512 x 0xFF800000#32 reduces_S10x512_S512 (.inl rfl) rfl)
        shapeCasts_S512_S1x512) broadcasts_S1x512_S10x512))
      (iota .tc S10x512 32 [0] iota_S10x512_d0_w32) (broadcast S10x512 10#32))
    2147483647#32 reduces_S10x512_S512 rfl) shapeCasts_S512_S1x512

/-- The class of each filter, from the labels, the means, the sums and the counts. -/
def pick (g : Vec F S1x128 .f32) (x : Vec F S128x512 .f32) (a : Vec F S10x512 .f32) (k : Vec F S10x1 .f32) : IVec S1x512 32 :=
  first (means (k1_pay5 g a x) (k1_pay6 g k))

theorem zero2 : (![0, 0] : Fin 2 → ℕ) = fun _ => 0 := funext fun d => match d with | ⟨0, _⟩ => rfl | ⟨1, _⟩ => rfl

/-- A load of a whole block. -/
theorem ld_whole {e : EltTy} {n k : ℕ} (h) (x : Vec F ⟨2, ![n, k]⟩ e) :
    View.ld x (Rect.unit (s := ⟨2, ![n, k]⟩) ![0, 0] (![n, k] : Fin 2 → ℕ) h) = x :=
  View.ld_unit_zero (S := ⟨2, ![n, k]⟩) zero2 _ x

/-- One store of a whole block leaves what it stored. -/
theorem canon_whole {e : EltTy} {n k : ℕ} (h) (f : Vec F ⟨2, ![n, k]⟩ e) :
    View.canon [(⟨Rect.unit (s := ⟨2, ![n, k]⟩) ![0, 0] (![n, k] : Fin 2 → ℕ) h, f⟩ : View.Piece (Elt F) ⟨2, ![n, k]⟩ e)] = f :=
  View.canon_unit_zero (S := ⟨2, ![n, k]⟩) zero2 _ f

section
variable (x0 : Vec F S128x25088 .f32) (x1 : Vec F S25088x10 .f32) (x2 : Vec F S1x10 .f32) (x3 : Vec F S1x128 .f32) (x4 x5 : Vec F S128x512 .f32)
  (x6 x7 : Vec F S10x512 .f32) (x8 x9 : Vec F S10x1 .f32)

theorem out10 : out1_10 x0 x1 x2 x3 x4 x5 x6 x7 x8 x9 = k1_pay2 x0 x1 x2 := by
  unfold out1_10
  refine (canon_whole _ _).trans ?_
  unfold r1_0 r1_1 r1_2
  rw [ld_whole, ld_whole, ld_whole]

theorem out11 : out1_11 x0 x1 x2 x3 x4 x5 x6 x7 x8 x9 = pick x3 x4 x6 x8 := by
  unfold out1_11
  refine (canon_whole _ _).trans ?_
  unfold r1_4 r1_5 r1_6 r1_7
  rw [ld_whole, ld_whole, ld_whole, ld_whole]
  rfl

theorem out12 : out1_12 x0 x1 x2 x3 x4 x5 x6 x7 x8 x9 = pick x3 x5 x7 x9 := by
  unfold out1_12 k1_pay11
  refine (canon_whole _ _).trans ?_
  unfold r1_4 r1_5 r1_6 r1_7
  rw [ld_whole, ld_whole, ld_whole, ld_whole]
  rfl

end

variable (V : (c : Dev nD) → (b : Ref sig .tc) → Buf (Elt F) ((c : Thread nD τ).loc b))

/-- A block at index zero that is its whole array. -/
theorem whole {α : Type} {s : Shape} (f : s.Idx → α) (emb : s.Idx → s.Idx) (h : ∀ y d, (emb y d).val = 0 * s.size d + 1 * (y d).val) :
    (fun y => f (emb y)) = f :=
  funext fun y => congrArg f (funext fun d => Fin.ext (by rw [h y d, Nat.zero_mul, Nat.zero_add, Nat.one_mul]))

theorem blk0 (c : Dev nD) (t : Fin cfg1.N) : iblk1 V c 0 t = V c main_v76 := whole (V c main_v76) (((cfg1.win 0).blk t).view.emb) fun _ _ => rfl
theorem blk1 (c : Dev nD) (t : Fin cfg1.N) : iblk1 V c 1 t = V c main_arg4 := whole (V c main_arg4) (((cfg1.win 1).blk t).view.emb) fun _ _ => rfl
theorem blk2 (c : Dev nD) (t : Fin cfg1.N) : iblk1 V c 2 t = V c main_v77 := whole (V c main_v77) (((cfg1.win 2).blk t).view.emb) fun _ _ => rfl
theorem blk3 (c : Dev nD) (t : Fin cfg1.N) : iblk1 V c 3 t = V c main_v79 := whole (V c main_v79) (((cfg1.win 3).blk t).view.emb) fun _ _ => rfl
theorem blk4 (c : Dev nD) (t : Fin cfg1.N) : iblk1 V c 4 t = V c main_v80 := whole (V c main_v80) (((cfg1.win 4).blk t).view.emb) fun _ _ => rfl
theorem blk5 (c : Dev nD) (t : Fin cfg1.N) : iblk1 V c 5 t = V c main_v81 := whole (V c main_v81) (((cfg1.win 5).blk t).view.emb) fun _ _ => rfl
theorem blk6 (c : Dev nD) (t : Fin cfg1.N) : iblk1 V c 6 t = V c main_v82 := whole (V c main_v82) (((cfg1.win 6).blk t).view.emb) fun _ _ => rfl
theorem blk7 (c : Dev nD) (t : Fin cfg1.N) : iblk1 V c 7 t = V c main_v83 := whole (V c main_v83) (((cfg1.win 7).blk t).view.emb) fun _ _ => rfl
theorem blk8 (c : Dev nD) (t : Fin cfg1.N) : iblk1 V c 8 t = V c main_v84 := whole (V c main_v84) (((cfg1.win 8).blk t).view.emb) fun _ _ => rfl
theorem blk9 (c : Dev nD) (t : Fin cfg1.N) : iblk1 V c 9 t = V c main_v85 := whole (V c main_v85) (((cfg1.win 9).blk t).view.emb) fun _ _ => rfl

theorem fin10 (c : Dev nD) : (dat1 V c).arrAt 10 cfg1.N = k1_pay2 (V c main_v76) (V c main_arg4) (V c main_v77) := by
  refine (dat1 V c).arrAt_eq_of_covers 10 _ (by decide +kernel) fun t _ y => ?_
  blk_simp
  rw [after1_10, out10, blk0, blk1, blk2]
  exact (congrFun (whole (k1_pay2 (V c main_v76) (V c main_arg4) (V c main_v77)) (((cfg1.win 10).blk t).view.emb) fun _ _ => rfl) y).symm

theorem fin11 (c : Dev nD) : (dat1 V c).arrAt 11 cfg1.N = pick (V c main_v79) (V c main_v80) (V c main_v82) (V c main_v84) := by
  refine (dat1 V c).arrAt_eq_of_covers 11 _ (by decide +kernel) fun t _ y => ?_
  blk_simp
  rw [after1_11, out11, blk3, blk4, blk6, blk8]
  exact (congrFun (whole (pick (V c main_v79) (V c main_v80) (V c main_v82) (V c main_v84)) (((cfg1.win 11).blk t).view.emb) fun _ _ => rfl) y).symm

theorem fin12 (c : Dev nD) : (dat1 V c).arrAt 12 cfg1.N = pick (V c main_v79) (V c main_v81) (V c main_v83) (V c main_v85) := by
  refine (dat1 V c).arrAt_eq_of_covers 12 _ (by decide +kernel) fun t _ y => ?_
  blk_simp
  rw [after1_12, out12, blk3, blk5, blk7, blk9]
  exact (congrFun (whole (pick (V c main_v79) (V c main_v81) (V c main_v83) (V c main_v85)) (((cfg1.win 12).blk t).view.emb) fun _ _ => rfl) y).symm

end Cert.KernelIdeal.Stats

end

end
-- ==== Proof.StatAt.lean ====
module

public import proofs.«01_k».proof.Proof.First
public import proofs.«01_k».proof.Proof.StatVals
public import proofs.«01_k».proof.Proof.Stats

/-! The second call on exact numbers: the kernel's and the reference's stages, read at one sample, filter and class. -/

@[expose] public section

set_option maxRecDepth 16384

noncomputable section

namespace Cert.KernelIdeal.Stats

open Cert.KernelIdeal Cert.KernelIdeal.Gen Idealize.ShloMosaic Idealize.ShloMosaic.TcCoe Idealize.SL.Sem Cert.First Idealize.ShloMosaic.StableHlo

section
variable {F : FTy → Type} [FloatOps F] [Named F] (m : (ℓ : Loc nD τ sig) → Buf (Elt F) ℓ) (ρ : Dev nD → PrngReg) (c : Dev nD)

theorem E76 : V3 m ρ c main_v76 = shapeCast S128x25088 ((dat0 (V1 m ρ) c).arrAt 8 cfg0.N) shapeCasts_S128x49x512_S128x25088 := by
  show StableHlo.after hostOps1 (W2 m ρ c) (Proc.devRef .tc main_v76) = _
  simp only [hostOps1]
  after_results_simp
  exact congrArg (fun x => shapeCast _ x _) (W2_arr m ρ c 8)

theorem E77 : V3 m ρ c main_v77 = shapeCast S1x10 (m ((c : Thread nD τ).loc main_arg5)) shapeCasts_S10_S1x10 := by
  show StableHlo.after hostOps1 (W2 m ρ c) (Proc.devRef .tc main_v77) = _
  simp only [hostOps1]
  after_results_simp
  rw [W2_args m ρ c main_arg5 (by decide)]
  rfl

theorem E79 : V3 m ρ c main_v79 = shapeCast S1x128 (sitofp .f32 (m ((c : Thread nD τ).loc main_arg1)) : FVec F S128 .f32) shapeCasts_S128_S1x128 := by
  show StableHlo.after hostOps1 (W2 m ρ c) (Proc.devRef .tc main_v79) = _
  simp only [hostOps1]
  after_results_simp
  rw [W2_args m ρ c main_arg1 (by decide)]
  rfl

theorem E80 : V3 m ρ c main_v80 = shapeCast S128x512 ((dat0 (V1 m ρ) c).arrAt 9 cfg0.N) shapeCasts_S128x1x512_S128x512 := by
  show StableHlo.after hostOps1 (W2 m ρ c) (Proc.devRef .tc main_v80) = _
  simp only [hostOps1]
  after_results_simp
  exact congrArg (fun x => shapeCast _ x _) (W2_arr m ρ c 9)

theorem E81 : V3 m ρ c main_v81 = shapeCast S128x512 ((dat0 (V1 m ρ) c).arrAt 10 cfg0.N) shapeCasts_S128x1x512_S128x512 := by
  show StableHlo.after hostOps1 (W2 m ρ c) (Proc.devRef .tc main_v81) = _
  simp only [hostOps1]
  after_results_simp
  exact congrArg (fun x => shapeCast _ x _) (W2_arr m ρ c 10)

theorem E82 : V3 m ρ c main_v82 = transpose S10x512 [1, 0] (m ((c : Thread nD τ).loc main_arg6)) transposes_S512x10_S10x512_1_0 := by
  show StableHlo.after hostOps1 (W2 m ρ c) (Proc.devRef .tc main_v82) = _
  simp only [hostOps1]
  after_results_simp
  rw [W2_args m ρ c main_arg6 (by decide)]

theorem E83 : V3 m ρ c main_v83 = transpose S10x512 [1, 0] (m ((c : Thread nD τ).loc main_arg7)) transposes_S512x10_S10x512_1_0 := by
  show StableHlo.after hostOps1 (W2 m ρ c) (Proc.devRef .tc main_v83) = _
  simp only [hostOps1]
  after_results_simp
  rw [W2_args m ρ c main_arg7 (by decide)]

theorem E84 : V3 m ρ c main_v84 = shapeCast S10x1 (m ((c : Thread nD τ).loc main_arg8)) shapeCasts_S10_S10x1 := by
  show StableHlo.after hostOps1 (W2 m ρ c) (Proc.devRef .tc main_v84) = _
  simp only [hostOps1]
  after_results_simp
  rw [W2_args m ρ c main_arg8 (by decide)]
  rfl

theorem E85 : V3 m ρ c main_v85 = shapeCast S10x1 (m ((c : Thread nD τ).loc main_arg9)) shapeCasts_S10_S10x1 := by
  show StableHlo.after hostOps1 (W2 m ρ c) (Proc.devRef .tc main_v85) = _
  simp only [hostOps1]
  after_results_simp
  rw [W2_args m ρ c main_arg9 (by decide)]
  rfl

end

/-- Two words are one number exactly if they are one word. -/
theorem same_word (u v : BitVec 32) : BitVec.ofBool (decide ((FloatOps.sitofp (F := Ideal) .f32 v : EReal) = FloatOps.sitofp (F := Ideal) .f32 u)) = IntOp.cmpi .eq u v := by
  by_cases h : u = v
  · subst h; simp [IntOp.cmpi]
  · have k : ¬ ((FloatOps.sitofp (F := Ideal) .f32 v : EReal) = FloatOps.sitofp (F := Ideal) .f32 u) := fun e => h (by
      apply BitVec.eq_of_toInt_eq
      have : ((v.toInt : ℝ) : EReal) = ((u.toInt : ℝ) : EReal) := e
      exact_mod_cast this.symm)
    simp [IntOp.cmpi, beq_eq_false_iff_ne.mpr h, k]

theorem hot_at (g : IVec S128 32) (k : Fin 10) (n : Fin 128) :
    k1_pay3 (F := Ideal) (shapeCast S1x128 (sitofp .f32 g : FVec Ideal S128 .f32) shapeCasts_S128_S1x128) (ix2 k n) = Cert.ReferenceIdeal.Vals.oneHot (F := Ideal) g (ix2 n k) := by
  pointwise [k1_pay3, Cert.ReferenceIdeal.Vals.oneHot, Cert.ReferenceIdeal.Vals.along]
  rw [same_word]
  have e : ∀ b : BitVec 1, (BitVec.setWidth 32 b).toInt = b.toNat := by decide
  show (((BitVec.setWidth 32 (IntOp.cmpi .eq (g (ix1 n)) (BitVec.ofNat 32 (k : ℕ)))).toInt : ℝ) : EReal)
    = (((IntOp.cmpi .eq (g (ix1 n)) (BitVec.ofNat 32 (k : ℕ))).toNat : ℝ) : EReal)
  rw [e, Int.cast_natCast]

/-- The dense layer on a flat array. -/
def logit {F : FTy → Type} [FloatOps F] (y : FVec F S128x25088 .f32) (w : FVec F S25088x10 .f32) (b : FVec F S1x10 .f32) : FVec F S128x10 .f32 :=
  addf (matmul dot_S128x25088_S25088x10_S128x10_1_0_0_1_n_n Option.none y w (constant S128x10 .f32 0x00000000#32)) (broadcastTo S128x10 b broadcasts_S1x10_S128x10)

/-- The maximum of every row. -/
def rowMax {F : FTy → Type} [FloatOps F] (l : FVec F S128x10 .f32) : FVec F S128 .f32 :=
  multiReduction .maximumf [1] S128 l 0xFF800000#32 reduces_S128x10_S128 (.inl rfl) rfl

/-- One number of each row, along its classes. -/
def along {F : FTy → Type} [FloatOps F] (x : FVec F S128 .f32) : FVec F S128x10 .f32 :=
  broadcastTo S128x10 (shapeCast S128x1 x shapeCasts_S128_S128x1) broadcasts_S128x1_S128x10

/-- The softmax of every row. -/
def soft {F : FTy → Type} [FloatOps F] (l : FVec F S128x10 .f32) : FVec F S128x10 .f32 :=
  divf (exp (subf l (along (rowMax l))))
    (along (multiReduction .add [1] S128 (exp (subf l (along (rowMax l)))) 0x00000000#32 reduces_S128x10_S128 (.inl rfl) rfl))

theorem pay2_eq {F : FTy → Type} [FloatOps F] (y : FVec F S128x25088 .f32) (w : FVec F S25088x10 .f32) (b : FVec F S1x10 .f32) :
    k1_pay2 y w b = soft (logit y w b) := by
  unfold k1_pay2
  rw [shapeCast_id, shapeCast_id]
  rfl

theorem logit_at (y : FVec Ideal S128x25088 .f32) (w : FVec Ideal S25088x10 .f32) (b : FVec Ideal S1x10 .f32) (n : Fin 128) (k : Fin 10) :
    logit (F := Ideal) y w b (ix2 n k) = ∑ p : Fin 25088, y (ix2 n p) * w (ix2 p k) + b (ix2 0 k) := by
  pointwise [logit]

theorem soft_at (l : FVec Ideal S128x10 .f32) (n : Fin 128) (k : Fin 10) :
    soft (F := Ideal) l (ix2 n k) = Cert.ReferenceIdeal.Vals.soft (F := Ideal) l (ix2 n k) := by
  pointwise [soft, rowMax, along, Cert.ReferenceIdeal.Vals.soft, Cert.ReferenceIdeal.Vals.expo, Cert.ReferenceIdeal.Vals.along]
  rw [negInf]
  simp only [show ∀ z : EReal, max ⊥ z = z from fun z => max_eq_right bot_le]

theorem count_at (g : FVec Ideal S1x128 .f32) (a : FVec Ideal S10x1 .f32) (k : Fin 10) :
    k1_pay6 (F := Ideal) g a (ix2 k 0) = a (ix2 k 0) + ∑ n : Fin 128, k1_pay3 (F := Ideal) g (ix2 k n) := by
  pointwise [k1_pay6, k1_pay4]

theorem sum_at (g : FVec Ideal S1x128 .f32) (a : FVec Ideal S10x512 .f32) (x : FVec Ideal S128x512 .f32) (k : Fin 10) (l : Fin 512) :
    k1_pay5 (F := Ideal) g a x (ix2 k l) = a (ix2 k l) + ∑ n : Fin 128, k1_pay3 (F := Ideal) g (ix2 k n) * x (ix2 n l) := by
  pointwise [k1_pay5]

theorem means_at (s : FVec Ideal S10x512 .f32) (q : FVec Ideal S10x1 .f32) (k : Fin 10) (l : Fin 512) :
    means (F := Ideal) s q (ix2 k l) = if q (ix2 k 0) = 0 then 0 else Ideal.div (s (ix2 k l)) (if q (ix2 k 0) = 0 then 1 else q (ix2 k 0)) := by
  pointwise [means, none]

theorem first_at (x : FVec Ideal S10x512 .f32) (l : Fin 512) :
    first (F := Ideal) x (ix2 0 l) = word (arg fun p => x (ix2 p l)) := by
  pointwise [first]
  rw [negInf, fold_max fun p => x (ix2 p l)]
  exact fold_min fun p => x (ix2 p l)

end Cert.KernelIdeal.Stats

namespace Cert.ReferenceIdeal.Vals

open Cert.ReferenceIdeal Cert.ReferenceIdeal.Gen Cert.ReferenceIdeal.Ops Idealize.ShloMosaic Cert.First

theorem logit_at (x : FVec Ideal S128x49x512 .f32) (w : FVec Ideal S25088x10 .f32) (b : FVec Ideal S10 .f32) (n : Fin 128) (k : Fin 10) :
    logit (F := Ideal) x w b (ix2 n k)
      = ∑ p : Fin 25088, shapeCast S128x25088 x shapeCasts_S128x49x512_S128x25088 (ix2 n p) * w (ix2 p k) + b (ix1 k) := by
  unfold logit
  generalize shapeCast S128x25088 x shapeCasts_S128x49x512_S128x25088 = y
  pointwise

theorem pick_at (x : FVec Ideal S128x1x512 .f32) (a : FVec Ideal S512x10 .f32) (q : FVec Ideal S10 .f32) (g : IVec S128 32) (l : Fin 512) :
    pick (F := Ideal) x a q g (ix1 l) = word (arg fun k => means (F := Ideal) (sums (F := Ideal) x a g) (seen (F := Ideal) q g) (ix2 l k)) := by
  unfold pick argmaxIdx2
  exact Cert.ReferenceIdeal.Vals.search_along (reducer_argmax_f32_i32 (F := Ideal)) Cert.ReferenceIdeal.Vals.keeps
    (means (F := Ideal) (sums (F := Ideal) x a g) (seen (F := Ideal) q g))
    (iotaInDim S512x10 32 1) (constant (F := Ideal) S_ .f32 0xFF800000#32) (constantI S_ 32 0#32) reducesTo_S512x10_S512_d1 h_S_
    (ix1 l) (fun p => ix2 l p) (Shape.ReducesTo.fiber_r2_a1 _ _) (fun _ => negInf) (fun _ => rfl) (fun p => by pointwise)

theorem seen_at (a : FVec Ideal S10 .f32) (g : IVec S128 32) (k : Fin 10) :
    seen (F := Ideal) a g (ix2 0 k) = a (ix1 k) + ∑ n : Fin 128, oneHot (F := Ideal) g (ix2 n k) := by
  pointwise [seen]

theorem sums_at (x : FVec Ideal S128x1x512 .f32) (a : FVec Ideal S512x10 .f32) (g : IVec S128 32) (l : Fin 512) (k : Fin 10) :
    sums (F := Ideal) x a g (ix2 l k) = a (ix2 l k) + ∑ n : Fin 128, x (ix3 n 0 l) * oneHot (F := Ideal) g (ix2 n k) := by
  pointwise [sums]

theorem means_at (s : FVec Ideal S512x10 .f32) (q : FVec Ideal S1x10 .f32) (k : Fin 10) (l : Fin 512) :
    means (F := Ideal) s q (ix2 l k) = if q (ix2 0 k) = 0 then 0 else Ideal.div (s (ix2 l k)) (if q (ix2 0 k) = 0 then 1 else q (ix2 0 k)) := by
  pointwise [means, all1]

end Cert.ReferenceIdeal.Vals

namespace Cert.Stats

open Cert.KernelIdeal Cert.KernelIdeal.Gen Idealize.ShloMosaic Cert.First

/-- The softmax of the dense layer is the same on both sides. -/
theorem soft_same (x : FVec Ideal S128x49x512 .f32) (w : FVec Ideal S25088x10 .f32) (b : FVec Ideal S10 .f32) :
    k1_pay2 (F := Ideal) (shapeCast S128x25088 x shapeCasts_S128x49x512_S128x25088) w (shapeCast S1x10 b shapeCasts_S10_S1x10)
      = Cert.ReferenceIdeal.Vals.soft (F := Ideal) (Cert.ReferenceIdeal.Vals.logit (F := Ideal) x w b) := by
  rw [Cert.KernelIdeal.Stats.pay2_eq,
    show Cert.KernelIdeal.Stats.logit (F := Ideal) (shapeCast S128x25088 x shapeCasts_S128x49x512_S128x25088) w (shapeCast S1x10 b shapeCasts_S10_S1x10)
      = Cert.ReferenceIdeal.Vals.logit (F := Ideal) x w b from by
        funext i
        obtain ⟨n, k, rfl⟩ : ∃ (n : Fin 128) (k : Fin 10), i = ix2 n k := ⟨i 0, i 1, eq_ix2 i⟩
        rw [Cert.KernelIdeal.Stats.logit_at, Cert.ReferenceIdeal.Vals.logit_at]
        congr 1
        pointwise]
  funext i
  obtain ⟨n, k, rfl⟩ : ∃ (n : Fin 128) (k : Fin 10), i = ix2 n k := ⟨i 0, i 1, eq_ix2 i⟩
  exact Cert.KernelIdeal.Stats.soft_at _ _ _

/-- The class of every filter is the same on both sides. -/
theorem pick_same (x : FVec Ideal S128x1x512 .f32) (a : FVec Ideal S512x10 .f32) (q : FVec Ideal S10 .f32) (g : IVec S128 32) :
    Cert.KernelIdeal.Stats.pick (F := Ideal) (shapeCast S1x128 (sitofp .f32 g : FVec Ideal S128 .f32) shapeCasts_S128_S1x128)
        (shapeCast S128x512 x shapeCasts_S128x1x512_S128x512) (transpose S10x512 [1, 0] a transposes_S512x10_S10x512_1_0)
        (shapeCast S10x1 q shapeCasts_S10_S10x1)
      = shapeCast S1x512 (Cert.ReferenceIdeal.Vals.pick (F := Ideal) x a q g) shapeCasts_S512_S1x512 := by
  funext i
  obtain ⟨l, rfl⟩ : ∃ l : Fin 512, i = ix2 0 l := ⟨i 1, (eq_ix2 i).trans (congrArg (fun z : Fin 1 => ix2 z (i 1 : Fin 512)) (Subsingleton.elim _ _))⟩
  have hq : ∀ k : Fin 10, k1_pay6 (F := Ideal) (shapeCast S1x128 (sitofp .f32 g : FVec Ideal S128 .f32) shapeCasts_S128_S1x128)
      (shapeCast S10x1 q shapeCasts_S10_S10x1) (ix2 k 0) = Cert.ReferenceIdeal.Vals.seen (F := Ideal) q g (ix2 0 k) := fun k => by
    rw [Cert.KernelIdeal.Stats.count_at, Cert.ReferenceIdeal.Vals.seen_at]
    congr 1
    · pointwise
    · exact Finset.sum_congr rfl fun n _ => Cert.KernelIdeal.Stats.hot_at g k n
  have hs : ∀ k : Fin 10, k1_pay5 (F := Ideal) (shapeCast S1x128 (sitofp .f32 g : FVec Ideal S128 .f32) shapeCasts_S128_S1x128)
      (transpose S10x512 [1, 0] a transposes_S512x10_S10x512_1_0) (shapeCast S128x512 x shapeCasts_S128x1x512_S128x512) (ix2 k l)
        = Cert.ReferenceIdeal.Vals.sums (F := Ideal) x a g (ix2 l k) := fun k => by
    rw [Cert.KernelIdeal.Stats.sum_at, Cert.ReferenceIdeal.Vals.sums_at]
    congr 1
    · pointwise
    · refine Finset.sum_congr rfl fun n _ => ?_
      rw [mul_comm]
      refine congrArg₂ (· * ·) ?_ (Cert.KernelIdeal.Stats.hot_at g k n)
      pointwise
  have hp : shapeCast S1x512 (Cert.ReferenceIdeal.Vals.pick (F := Ideal) x a q g) shapeCasts_S512_S1x512 (ix2 0 l)
      = Cert.ReferenceIdeal.Vals.pick (F := Ideal) x a q g (ix1 l) := by
    generalize Cert.ReferenceIdeal.Vals.pick (F := Ideal) x a q g = z
    pointwise
  rw [hp, Cert.ReferenceIdeal.Vals.pick_at]
  unfold Cert.KernelIdeal.Stats.pick
  rw [Cert.KernelIdeal.Stats.first_at]
  congr 2
  funext k
  rw [Cert.KernelIdeal.Stats.means_at, Cert.ReferenceIdeal.Vals.means_at, hq, hs]

section
open Cert.KernelIdeal.Stats Idealize.ShloMosaic.TcCoe Idealize.SL.Sem

variable (m : (ℓ : Loc nD τ sig) → Buf (Elt Ideal) ℓ) (ρ : Dev nD → PrngReg) (c : Dev nD)

/-- The three results of the second call, from the first call's results. -/
theorem res0 : (dat1 (F := Ideal) (V3 m ρ) c).arrAt 10 cfg1.N
    = Cert.ReferenceIdeal.Vals.soft (F := Ideal) (Cert.ReferenceIdeal.Vals.logit (F := Ideal) ((dat0 (F := Ideal) (V1 m ρ) c).arrAt 8 cfg0.N) (m ((c : Thread nD τ).loc main_arg4)) (m ((c : Thread nD τ).loc main_arg5))) := by
  rw [fin10, E76, E77, show V3 m ρ c main_arg4 = m ((c : Thread nD τ).loc main_arg4) from W3_args m ρ c main_arg4 (by decide)]
  exact soft_same _ _ _

theorem res1 : (dat1 (F := Ideal) (V3 m ρ) c).arrAt 11 cfg1.N
    = shapeCast S1x512 (Cert.ReferenceIdeal.Vals.pick (F := Ideal) ((dat0 (F := Ideal) (V1 m ρ) c).arrAt 9 cfg0.N) (m ((c : Thread nD τ).loc main_arg6)) (m ((c : Thread nD τ).loc main_arg8)) (m ((c : Thread nD τ).loc main_arg1))) shapeCasts_S512_S1x512 := by
  rw [fin11, E79, E80, E82, E84]
  exact pick_same _ _ _ _

theorem res2 : (dat1 (F := Ideal) (V3 m ρ) c).arrAt 12 cfg1.N
    = shapeCast S1x512 (Cert.ReferenceIdeal.Vals.pick (F := Ideal) ((dat0 (F := Ideal) (V1 m ρ) c).arrAt 10 cfg0.N) (m ((c : Thread nD τ).loc main_arg7)) (m ((c : Thread nD τ).loc main_arg9)) (m ((c : Thread nD τ).loc main_arg1))) shapeCasts_S512_S1x512 := by
  rw [fin12, E79, E81, E83, E85]
  exact pick_same _ _ _ _

end

end Cert.Stats

end

end
-- ==== Proof.Both.lean ====
module

public import proofs.«01_k».proof.Proof.Results
public import proofs.«01_k».proof.Proof.StatAt

/-! The second call's results in terms of the arguments: the first call's results put into them. -/

@[expose] public section

noncomputable section

namespace Cert.Both

open Cert.KernelIdeal Cert.KernelIdeal.Gen Idealize.ShloMosaic Idealize.ShloMosaic.TcCoe Idealize.SL.Sem
open Cert.ReferenceIdeal.Vals (soft logit pick pool mean mask mid)
open Cert.Results (inp wts bia)

variable (m : (ℓ : Loc nD τ sig) → Buf (Elt Ideal) ℓ) (ρ : Dev nD → PrngReg) (c : Dev nD)

theorem probs : (dat1 (F := Ideal) (V3 m ρ) c).arrAt 10 cfg1.N
    = soft (F := Ideal) (logit (F := Ideal) (pool (F := Ideal) (mask (F := Ideal) (mid (F := Ideal) (inp m c) (wts m c) (bia m c))))
        (m ((c : Thread nD τ).loc main_arg4)) (m ((c : Thread nD τ).loc main_arg5))) :=
  (Cert.Stats.res0 m ρ c).trans (congrArg (fun x => soft (F := Ideal) (logit (F := Ideal) x (m ((c : Thread nD τ).loc main_arg4))
    (m ((c : Thread nD τ).loc main_arg5)))) (Cert.Results.res2 m ρ c))

theorem class1 : (dat1 (F := Ideal) (V3 m ρ) c).arrAt 11 cfg1.N
    = shapeCast S1x512 (pick (F := Ideal) (mean (F := Ideal) (mask (F := Ideal) (inp m c))) (m ((c : Thread nD τ).loc main_arg6))
        (m ((c : Thread nD τ).loc main_arg8)) (m ((c : Thread nD τ).loc main_arg1))) Cert.ReferenceIdeal.Gen.shapeCasts_S512_S1x512 :=
  (Cert.Stats.res1 m ρ c).trans (congrArg (fun x => shapeCast S1x512 (pick (F := Ideal) x (m ((c : Thread nD τ).loc main_arg6))
    (m ((c : Thread nD τ).loc main_arg8)) (m ((c : Thread nD τ).loc main_arg1))) Cert.ReferenceIdeal.Gen.shapeCasts_S512_S1x512) (Cert.Results.res3 m ρ c))

theorem class2 : (dat1 (F := Ideal) (V3 m ρ) c).arrAt 12 cfg1.N
    = shapeCast S1x512 (pick (F := Ideal) (mean (F := Ideal) (mask (F := Ideal) (mid (F := Ideal) (inp m c) (wts m c) (bia m c))))
        (m ((c : Thread nD τ).loc main_arg7)) (m ((c : Thread nD τ).loc main_arg9)) (m ((c : Thread nD τ).loc main_arg1)))
        Cert.ReferenceIdeal.Gen.shapeCasts_S512_S1x512 :=
  (Cert.Stats.res2 m ρ c).trans (congrArg (fun x => shapeCast S1x512 (pick (F := Ideal) x (m ((c : Thread nD τ).loc main_arg7))
    (m ((c : Thread nD τ).loc main_arg9)) (m ((c : Thread nD τ).loc main_arg1))) Cert.ReferenceIdeal.Gen.shapeCasts_S512_S1x512) (Cert.Results.res4 m ρ c))

end Cert.Both

end

end
-- ==== Proof.Alone.lean ====
module

public import proofs.«01_k».proof.Proof.Gen.Kernel2Ideal.Value
public import proofs.«01_k».proof.Proof.StatAt

/-! The second call alone, from any arrays: its three results on exact numbers. Its stages are those that it has behind the
first call, so that the equalities with the reference's stages carry over. -/

@[expose] public section

set_option maxRecDepth 16384

noncomputable section

namespace Cert.Alone

open Cert.Kernel2Ideal Cert.Kernel2Ideal.Gen Idealize.ShloMosaic Idealize.ShloMosaic.TcCoe Idealize.SL.Sem Idealize.ShloMosaic.StableHlo
open Cert.KernelIdeal.Stats (pick canon_whole ld_whole whole)
open Cert.KernelIdeal.Gen (k1_pay2)

section
variable (x0 : Vec Ideal S128x25088 .f32) (x1 : Vec Ideal S25088x10 .f32) (x2 : Vec Ideal S1x10 .f32) (x3 : Vec Ideal S1x128 .f32) (x4 x5 : Vec Ideal S128x512 .f32)
  (x6 x7 : Vec Ideal S10x512 .f32) (x8 x9 : Vec Ideal S10x1 .f32)

theorem out10 : out0_10 (F := Ideal) x0 x1 x2 x3 x4 x5 x6 x7 x8 x9 = k1_pay2 (F := Ideal) x0 x1 x2 := by
  unfold out0_10
  refine (canon_whole _ _).trans ?_
  unfold r0_0 r0_1 r0_2
  rw [ld_whole, ld_whole, ld_whole]
  rfl

theorem out11 : out0_11 (F := Ideal) x0 x1 x2 x3 x4 x5 x6 x7 x8 x9 = pick x3 x4 x6 x8 := by
  unfold out0_11
  refine (canon_whole _ _).trans ?_
  unfold r0_4 r0_5 r0_6 r0_7
  rw [ld_whole, ld_whole, ld_whole, ld_whole]
  rfl

theorem out12 : out0_12 (F := Ideal) x0 x1 x2 x3 x4 x5 x6 x7 x8 x9 = pick x3 x5 x7 x9 := by
  unfold out0_12 k0_pay11
  refine (canon_whole _ _).trans ?_
  unfold r0_4 r0_5 r0_6 r0_7
  rw [ld_whole, ld_whole, ld_whole, ld_whole]
  rfl

end

variable (m : (ℓ : Loc nD τ sig) → Buf (Elt Ideal) ℓ)

section
variable (c : Dev nD)

theorem V0 : V m c main_v0 = shapeCast S128x25088 (m ((c : Thread nD τ).loc main_arg0)) shapeCasts_S128x49x512_S128x25088 := by
  unfold V; simp only [hostOps0]; after_results_simp; all_goals rfl

theorem V1 : V m c main_v1 = shapeCast S1x10 (m ((c : Thread nD τ).loc main_arg5)) shapeCasts_S10_S1x10 := by
  unfold V; simp only [hostOps0]; after_results_simp; all_goals rfl

theorem V3 : V m c main_v3 = shapeCast S1x128 (sitofp .f32 (m ((c : Thread nD τ).loc main_arg1)) : FVec Ideal S128 .f32) shapeCasts_S128_S1x128 := by
  unfold V; simp only [hostOps0]; after_results_simp; all_goals rfl

theorem V4 : V m c main_v4 = shapeCast S128x512 (m ((c : Thread nD τ).loc main_arg2)) shapeCasts_S128x1x512_S128x512 := by
  unfold V; simp only [hostOps0]; after_results_simp; all_goals rfl

theorem V5 : V m c main_v5 = shapeCast S128x512 (m ((c : Thread nD τ).loc main_arg3)) shapeCasts_S128x1x512_S128x512 := by
  unfold V; simp only [hostOps0]; after_results_simp; all_goals rfl

theorem V6 : V m c main_v6 = transpose S10x512 [1, 0] (m ((c : Thread nD τ).loc main_arg6)) transposes_S512x10_S10x512_1_0 := by
  unfold V; simp only [hostOps0]; after_results_simp; all_goals rfl

theorem V7 : V m c main_v7 = transpose S10x512 [1, 0] (m ((c : Thread nD τ).loc main_arg7)) transposes_S512x10_S10x512_1_0 := by
  unfold V; simp only [hostOps0]; after_results_simp; all_goals rfl

theorem V8 : V m c main_v8 = shapeCast S10x1 (m ((c : Thread nD τ).loc main_arg8)) shapeCasts_S10_S10x1 := by
  unfold V; simp only [hostOps0]; after_results_simp; all_goals rfl

theorem V9 : V m c main_v9 = shapeCast S10x1 (m ((c : Thread nD τ).loc main_arg9)) shapeCasts_S10_S10x1 := by
  unfold V; simp only [hostOps0]; after_results_simp; all_goals rfl

end

theorem blk0 (c : Dev nD) (t : Fin cfg0.N) : iblk m c 0 t = V m c main_v0 := whole (V m c main_v0) (((cfg0.win 0).blk t).view.emb) fun _ _ => rfl
theorem blk1 (c : Dev nD) (t : Fin cfg0.N) : iblk m c 1 t = V m c main_arg4 := whole (V m c main_arg4) (((cfg0.win 1).blk t).view.emb) fun _ _ => rfl
theorem blk2 (c : Dev nD) (t : Fin cfg0.N) : iblk m c 2 t = V m c main_v1 := whole (V m c main_v1) (((cfg0.win 2).blk t).view.emb) fun _ _ => rfl
theorem blk3 (c : Dev nD) (t : Fin cfg0.N) : iblk m c 3 t = V m c main_v3 := whole (V m c main_v3) (((cfg0.win 3).blk t).view.emb) fun _ _ => rfl
theorem blk4 (c : Dev nD) (t : Fin cfg0.N) : iblk m c 4 t = V m c main_v4 := whole (V m c main_v4) (((cfg0.win 4).blk t).view.emb) fun _ _ => rfl
theorem blk5 (c : Dev nD) (t : Fin cfg0.N) : iblk m c 5 t = V m c main_v5 := whole (V m c main_v5) (((cfg0.win 5).blk t).view.emb) fun _ _ => rfl
theorem blk6 (c : Dev nD) (t : Fin cfg0.N) : iblk m c 6 t = V m c main_v6 := whole (V m c main_v6) (((cfg0.win 6).blk t).view.emb) fun _ _ => rfl
theorem blk7 (c : Dev nD) (t : Fin cfg0.N) : iblk m c 7 t = V m c main_v7 := whole (V m c main_v7) (((cfg0.win 7).blk t).view.emb) fun _ _ => rfl
theorem blk8 (c : Dev nD) (t : Fin cfg0.N) : iblk m c 8 t = V m c main_v8 := whole (V m c main_v8) (((cfg0.win 8).blk t).view.emb) fun _ _ => rfl
theorem blk9 (c : Dev nD) (t : Fin cfg0.N) : iblk m c 9 t = V m c main_v9 := whole (V m c main_v9) (((cfg0.win 9).blk t).view.emb) fun _ _ => rfl

theorem fin10 (c : Dev nD) : (dats m 0 c).arrAt 10 cfg0.N = k1_pay2 (F := Ideal) (V m c main_v0) (V m c main_arg4) (V m c main_v1) := by
  refine (dats m 0 c).arrAt_eq_of_covers 10 _ (by decide +kernel) fun t _ y => ?_
  blk_simp
  rw [after0_10, out10, blk0, blk1, blk2]
  exact (congrFun (whole (k1_pay2 (F := Ideal) (V m c main_v0) (V m c main_arg4) (V m c main_v1)) (((cfg0.win 10).blk t).view.emb) fun _ _ => rfl) y).symm

theorem fin11 (c : Dev nD) : (dats m 0 c).arrAt 11 cfg0.N = pick (V m c main_v3) (V m c main_v4) (V m c main_v6) (V m c main_v8) := by
  refine (dats m 0 c).arrAt_eq_of_covers 11 _ (by decide +kernel) fun t _ y => ?_
  blk_simp
  rw [after0_11, out11, blk3, blk4, blk6, blk8]
  exact (congrFun (whole (pick (V m c main_v3) (V m c main_v4) (V m c main_v6) (V m c main_v8)) (((cfg0.win 11).blk t).view.emb) fun _ _ => rfl) y).symm

theorem fin12 (c : Dev nD) : (dats m 0 c).arrAt 12 cfg0.N = pick (V m c main_v3) (V m c main_v5) (V m c main_v7) (V m c main_v9) := by
  refine (dats m 0 c).arrAt_eq_of_covers 12 _ (by decide +kernel) fun t _ y => ?_
  blk_simp
  rw [after0_12, out12, blk3, blk5, blk7, blk9]
  exact (congrFun (whole (pick (V m c main_v3) (V m c main_v5) (V m c main_v7) (V m c main_v9)) (((cfg0.win 12).blk t).view.emb) fun _ _ => rfl) y).symm

section
variable (c : Dev nD)

/-- The three results of the call are the reference's. -/
theorem res0 : (dats (F := Ideal) m 0 c).arrAt 10 cfg0.N
    = Cert.ReferenceIdeal.Vals.soft (F := Ideal) (Cert.ReferenceIdeal.Vals.logit (F := Ideal) (m ((c : Thread nD τ).loc main_arg0))
        (m ((c : Thread nD τ).loc main_arg4)) (m ((c : Thread nD τ).loc main_arg5))) := by
  rw [fin10, V0, V1, V_main_arg4]
  exact Cert.Stats.soft_same _ _ _

theorem res1 : (dats (F := Ideal) m 0 c).arrAt 11 cfg0.N
    = shapeCast S1x512 (Cert.ReferenceIdeal.Vals.pick (F := Ideal) (m ((c : Thread nD τ).loc main_arg2)) (m ((c : Thread nD τ).loc main_arg6))
        (m ((c : Thread nD τ).loc main_arg8)) (m ((c : Thread nD τ).loc main_arg1))) shapeCasts_S512_S1x512 := by
  rw [fin11, V3, V4, V6, V8]
  exact Cert.Stats.pick_same _ _ _ _

theorem res2 : (dats (F := Ideal) m 0 c).arrAt 12 cfg0.N
    = shapeCast S1x512 (Cert.ReferenceIdeal.Vals.pick (F := Ideal) (m ((c : Thread nD τ).loc main_arg3)) (m ((c : Thread nD τ).loc main_arg7))
        (m ((c : Thread nD τ).loc main_arg9)) (m ((c : Thread nD τ).loc main_arg1))) shapeCasts_S512_S1x512 := by
  rw [fin12, V3, V5, V7, V9]
  exact Cert.Stats.pick_same _ _ _ _

end

end Cert.Alone

end

end
-- ==== Proof.AloneOps.lean ====
module

public import proofs.«01_k».proof.Proof.Gen.Reference2Ideal
public import Idealize.ShloMosaic.Lib.StableHlo.Run
public import Idealize.ShloMosaic.Lib.Pipeline.Frame

/-! The operations of the reference of the second call alone in four stretches, in the order of its program, and the facts that the
run theorem asks of them: the program is the sequence of these operations, and they touch only the core's own buffers. -/

@[expose] public section

set_option Elab.async false

noncomputable section

namespace Cert.Reference2Ideal.Ops

open Cert.Reference2Ideal Cert.Reference2Ideal.Gen Idealize.ShloMosaic Idealize.ShloMosaic.TcCoe Idealize.SL.Sem Idealize.ShloMosaic.StableHlo

variable {F : FTy → Type} [FloatOps F]

/-- Arrays of a shape and an element type. -/
abbrev C (s : Shape) (e : EltTy) {F : FTy → Type} : Type := (⟨s, e⟩ : BufTy).Contents (Elt F)

/-- The value part of the class search. -/
def argmaxVal : C S512x10 .f32 (F := F) → C S512x10 .i32 (F := F) → C S_ .f32 (F := F) → C S_ .i32 (F := F) → C S512 .f32 (F := F) :=
  fun x y u v j => (Host.argReduce reducer_argmax_f32_i32 x y u v reducesTo_S512x10_S512_d1 h_S_ j).1

/-- The class part of the class search. -/
def argmaxIdx : C S512x10 .f32 (F := F) → C S512x10 .i32 (F := F) → C S_ .f32 (F := F) → C S_ .i32 (F := F) → C S512 .i32 (F := F) :=
  fun x y u v j => (Host.argReduce reducer_argmax_f32_i32 x y u v reducesTo_S512x10_S512_d1 h_S_ j).2

/-- The dense layer and its softmax. -/
abbrev den : List (HloOp τ sig (Elt F)) :=
  [ reshape main_arg0 main_v0 (rfl : (.f32 : EltTy) = .f32) shapeCasts_S128x49x512_S128x25088,
    binary main_v0 main_arg4 main_v1 ((fun l r => Host.dotGeneral dot_S128x25088_S25088x10_S128x10_1_0_0_1_n_n none l r) : C S128x25088 .f32 (F := F) → C S25088x10 .f32 (F := F) → C S128x10 .f32 (F := F)),
    unary main_arg5 main_v2 (broadcastInDim S1x10 ![1] bcast_S10_S1x10_1 : C S10 .f32 (F := F) → C S1x10 .f32 (F := F)),
    unary main_v2 main_v3 (broadcastInDim S128x10 ![0, 1] bcast_S1x10_S128x10_0_1 : C S1x10 .f32 (F := F) → C S128x10 .f32 (F := F)),
    binary main_v1 main_v3 main_v4 (addf : C S128x10 .f32 (F := F) → C S128x10 .f32 (F := F) → C S128x10 .f32 (F := F)),
    nullary main_cst (constant S_ .f32 0xFF800000#32),
    binary main_v4 main_cst main_v5 ((fun x v => Host.reduce FloatOps.maximumf x v reducesTo_S128x10_S128_d1 h_S_) : C S128x10 .f32 (F := F) → C S_ .f32 (F := F) → C S128 .f32 (F := F)),
    nullary main_cst_0 (constant S_ .f32 0xFF800000#32),
    unary main_cst_0 main_v6 (broadcastInDim S128 ![] bcast_S_S128 : C S_ .f32 (F := F) → C S128 .f32 (F := F)),
    binary main_v6 main_v5 main_v7 (maximumf : C S128 .f32 (F := F) → C S128 .f32 (F := F) → C S128 .f32 (F := F)),
    unary main_v7 main_v8 (broadcastInDim S128x1 ![0] bcast_S128_S128x1_0 : C S128 .f32 (F := F) → C S128x1 .f32 (F := F)),
    unary main_v8 main_v9 (broadcastInDim S128x10 ![0, 1] bcast_S128x1_S128x10_0_1 : C S128x1 .f32 (F := F) → C S128x10 .f32 (F := F)),
    binary main_v4 main_v9 main_v10 (subf : C S128x10 .f32 (F := F) → C S128x10 .f32 (F := F) → C S128x10 .f32 (F := F)),
    unary main_v10 main_v11 (Host.exp : C S128x10 .f32 (F := F) → C S128x10 .f32 (F := F)),
    nullary main_cst_1 (constant S_ .f32 0x00000000#32),
    binary main_v11 main_cst_1 main_v12 ((fun x v => Host.reduceAdd x v reducesTo_S128x10_S128_d1 h_S_) : C S128x10 .f32 (F := F) → C S_ .f32 (F := F) → C S128 .f32 (F := F)),
    unary main_v12 main_v13 (broadcastInDim S128x1 ![0] bcast_S128_S128x1_0 : C S128 .f32 (F := F) → C S128x1 .f32 (F := F)),
    unary main_v13 main_v14 (broadcastInDim S128x10 ![0, 1] bcast_S128x1_S128x10_0_1 : C S128x1 .f32 (F := F) → C S128x10 .f32 (F := F)),
    binary main_v11 main_v14 main_v15 (Host.divf : C S128x10 .f32 (F := F) → C S128x10 .f32 (F := F) → C S128x10 .f32 (F := F)) ]

/-- The first classes of the filters. -/
abbrev fst : List (HloOp τ sig (Elt F)) :=
  [ reshape main_arg2 main_v16 (rfl : (.f32 : EltTy) = .f32) shapeCasts_S128x1x512_S128x512,
    unary main_arg1 main_call0_v0 ((broadcastInDim S128x1 ![0] bcast_S128_S128x1_0) : C S128 .i32 (F := F) → C S128x1 .i32 (F := F)),
    nullary main_call0_v1 ((iotaInDim S1x10 32 1) : C S1x10 .i32 (F := F)),
    unary main_call0_v0 main_call0_v2 ((broadcastInDim S128x10 ![0, 1] bcast_S128x1_S128x10_0_1) : C S128x1 .i32 (F := F) → C S128x10 .i32 (F := F)),
    unary main_call0_v1 main_call0_v3 ((broadcastInDim S128x10 ![0, 1] bcast_S1x10_S128x10_0_1) : C S1x10 .i32 (F := F) → C S128x10 .i32 (F := F)),
    binary main_call0_v2 main_call0_v3 main_call0_v4 ((cmpi .eq) : C S128x10 .i32 (F := F) → C S128x10 .i32 (F := F) → C S128x10 .i1 (F := F)),
    unary main_call0_v4 main_v17 ((uitofp .f32) : C S128x10 .i1 (F := F) → C S128x10 .f32 (F := F)),
    nullary main_cst_2 (constant S_ .f32 0x00000000#32),
    binary main_v17 main_cst_2 main_v18 ((fun x v => Host.reduceAdd x v reducesTo_S128x10_S10_d0 h_S_) : C S128x10 .f32 (F := F) → C S_ .f32 (F := F) → C S10 .f32 (F := F)),
    binary main_arg8 main_v18 main_v19 (addf : C S10 .f32 (F := F) → C S10 .f32 (F := F) → C S10 .f32 (F := F)),
    unary main_v16 main_v20 ((transpose S512x128 [1, 0] · transposes_S128x512_S512x128_1_0) : C S128x512 .f32 (F := F) → C S512x128 .f32 (F := F)),
    binary main_v20 main_v17 main_v21 ((fun l r => Host.dotGeneral dot_S512x128_S128x10_S512x10_1_0_0_1_n_n none l r) : C S512x128 .f32 (F := F) → C S128x10 .f32 (F := F) → C S512x10 .f32 (F := F)),
    binary main_arg6 main_v21 main_v22 (addf : C S512x10 .f32 (F := F) → C S512x10 .f32 (F := F) → C S512x10 .f32 (F := F)),
    unary main_v19 main_v23 (broadcastInDim S1x10 ![1] bcast_S10_S1x10_1 : C S10 .f32 (F := F) → C S1x10 .f32 (F := F)),
    nullary main_cst_3 (constant S_ .f32 0x00000000#32),
    unary main_cst_3 main_v24 (broadcastInDim S1x10 ![] bcast_S_S1x10 : C S_ .f32 (F := F) → C S1x10 .f32 (F := F)),
    binary main_v23 main_v24 main_v25 (cmpf .oeq : C S1x10 .f32 (F := F) → C S1x10 .f32 (F := F) → C S1x10 .i1 (F := F)),
    unary main_v19 main_v26 (broadcastInDim S1x10 ![1] bcast_S10_S1x10_1 : C S10 .f32 (F := F) → C S1x10 .f32 (F := F)),
    nullary main_cst_4 (constant S_ .f32 0x00000000#32),
    unary main_cst_4 main_v27 (broadcastInDim S1x10 ![] bcast_S_S1x10 : C S_ .f32 (F := F) → C S1x10 .f32 (F := F)),
    binary main_v26 main_v27 main_v28 (cmpf .oeq : C S1x10 .f32 (F := F) → C S1x10 .f32 (F := F) → C S1x10 .i1 (F := F)),
    unary main_v19 main_v29 (broadcastInDim S1x10 ![1] bcast_S10_S1x10_1 : C S10 .f32 (F := F) → C S1x10 .f32 (F := F)),
    nullary main_cst_5 (constant S_ .f32 0x3F800000#32),
    unary main_cst_5 main_call1_v0 (id : C S_ .f32 (F := F) → C S_ .f32 (F := F)),
    unary main_call1_v0 main_call1_v1 ((broadcastInDim S1x10 ![] bcast_S_S1x10) : C S_ .f32 (F := F) → C S1x10 .f32 (F := F)),
    ternary main_v28 main_call1_v1 main_v29 main_v30 (select : C S1x10 .i1 (F := F) → C S1x10 .f32 (F := F) → C S1x10 .f32 (F := F) → C S1x10 .f32 (F := F)),
    unary main_v30 main_v31 (broadcastInDim S512x10 ![0, 1] bcast_S1x10_S512x10_0_1 : C S1x10 .f32 (F := F) → C S512x10 .f32 (F := F)),
    binary main_v22 main_v31 main_v32 (Host.divf : C S512x10 .f32 (F := F) → C S512x10 .f32 (F := F) → C S512x10 .f32 (F := F)),
    nullary main_cst_6 (constant S_ .f32 0x00000000#32),
    unary main_cst_6 main_call2_v0 (id : C S_ .f32 (F := F) → C S_ .f32 (F := F)),
    unary main_v25 main_call2_v1 ((broadcastInDim S512x10 ![0, 1] bcast_S1x10_S512x10_0_1) : C S1x10 .i1 (F := F) → C S512x10 .i1 (F := F)),
    unary main_call2_v0 main_call2_v2 ((broadcastInDim S512x10 ![] bcast_S_S512x10) : C S_ .f32 (F := F) → C S512x10 .f32 (F := F)),
    ternary main_call2_v1 main_call2_v2 main_v32 main_v33 (select : C S512x10 .i1 (F := F) → C S512x10 .f32 (F := F) → C S512x10 .f32 (F := F) → C S512x10 .f32 (F := F)),
    nullary main_call3_v0 ((iotaInDim S512x10 32 1) : C S512x10 .i32 (F := F)),
    nullary main_call3_cst ((constant S_ .f32 0xFF800000#32) : C S_ .f32 (F := F)),
    nullary main_call3_c ((constantI S_ 32 0#32) : C S_ .i32 (F := F)),
    quaternary main_v33 main_call3_v0 main_call3_cst main_call3_c main_call3_v1_0 (argmaxVal : C S512x10 .f32 (F := F) → C S512x10 .i32 (F := F) → C S_ .f32 (F := F) → C S_ .i32 (F := F) → C S512 .f32 (F := F)),
    quaternary main_v33 main_call3_v0 main_call3_cst main_call3_c main_v34 (argmaxIdx : C S512x10 .f32 (F := F) → C S512x10 .i32 (F := F) → C S_ .f32 (F := F) → C S_ .i32 (F := F) → C S512 .i32 (F := F)) ]

/-- The second classes of the filters, first operations. -/
abbrev sndA : List (HloOp τ sig (Elt F)) :=
  [ reshape main_arg3 main_v35 (rfl : (.f32 : EltTy) = .f32) shapeCasts_S128x1x512_S128x512,
    unary main_arg1 main_call4_v0 ((broadcastInDim S128x1 ![0] bcast_S128_S128x1_0) : C S128 .i32 (F := F) → C S128x1 .i32 (F := F)),
    nullary main_call4_v1 ((iotaInDim S1x10 32 1) : C S1x10 .i32 (F := F)),
    unary main_call4_v0 main_call4_v2 ((broadcastInDim S128x10 ![0, 1] bcast_S128x1_S128x10_0_1) : C S128x1 .i32 (F := F) → C S128x10 .i32 (F := F)),
    unary main_call4_v1 main_call4_v3 ((broadcastInDim S128x10 ![0, 1] bcast_S1x10_S128x10_0_1) : C S1x10 .i32 (F := F) → C S128x10 .i32 (F := F)),
    binary main_call4_v2 main_call4_v3 main_call4_v4 ((cmpi .eq) : C S128x10 .i32 (F := F) → C S128x10 .i32 (F := F) → C S128x10 .i1 (F := F)),
    unary main_call4_v4 main_v36 ((uitofp .f32) : C S128x10 .i1 (F := F) → C S128x10 .f32 (F := F)),
    nullary main_cst_7 (constant S_ .f32 0x00000000#32),
    binary main_v36 main_cst_7 main_v37 ((fun x v => Host.reduceAdd x v reducesTo_S128x10_S10_d0 h_S_) : C S128x10 .f32 (F := F) → C S_ .f32 (F := F) → C S10 .f32 (F := F)),
    binary main_arg9 main_v37 main_v38 (addf : C S10 .f32 (F := F) → C S10 .f32 (F := F) → C S10 .f32 (F := F)),
    unary main_v35 main_v39 ((transpose S512x128 [1, 0] · transposes_S128x512_S512x128_1_0) : C S128x512 .f32 (F := F) → C S512x128 .f32 (F := F)),
    binary main_v39 main_v36 main_v40 ((fun l r => Host.dotGeneral dot_S512x128_S128x10_S512x10_1_0_0_1_n_n none l r) : C S512x128 .f32 (F := F) → C S128x10 .f32 (F := F) → C S512x10 .f32 (F := F)),
    binary main_arg7 main_v40 main_v41 (addf : C S512x10 .f32 (F := F) → C S512x10 .f32 (F := F) → C S512x10 .f32 (F := F)),
    unary main_v38 main_v42 (broadcastInDim S1x10 ![1] bcast_S10_S1x10_1 : C S10 .f32 (F := F) → C S1x10 .f32 (F := F)),
    nullary main_cst_8 (constant S_ .f32 0x00000000#32),
    unary main_cst_8 main_v43 (broadcastInDim S1x10 ![] bcast_S_S1x10 : C S_ .f32 (F := F) → C S1x10 .f32 (F := F)),
    binary main_v42 main_v43 main_v44 (cmpf .oeq : C S1x10 .f32 (F := F) → C S1x10 .f32 (F := F) → C S1x10 .i1 (F := F)),
    unary main_v38 main_v45 (broadcastInDim S1x10 ![1] bcast_S10_S1x10_1 : C S10 .f32 (F := F) → C S1x10 .f32 (F := F)),
    nullary main_cst_9 (constant S_ .f32 0x00000000#32),
    unary main_cst_9 main_v46 (broadcastInDim S1x10 ![] bcast_S_S1x10 : C S_ .f32 (F := F) → C S1x10 .f32 (F := F)),
    binary main_v45 main_v46 main_v47 (cmpf .oeq : C S1x10 .f32 (F := F) → C S1x10 .f32 (F := F) → C S1x10 .i1 (F := F)),
    unary main_v38 main_v48 (broadcastInDim S1x10 ![1] bcast_S10_S1x10_1 : C S10 .f32 (F := F) → C S1x10 .f32 (F := F)) ]

/-- The second classes of the filters, the other operations, and the two reshapes. -/
abbrev sndB : List (HloOp τ sig (Elt F)) :=
  [ nullary main_cst_10 (constant S_ .f32 0x3F800000#32),
    unary main_cst_10 main_call5_v0 (id : C S_ .f32 (F := F) → C S_ .f32 (F := F)),
    unary main_call5_v0 main_call5_v1 ((broadcastInDim S1x10 ![] bcast_S_S1x10) : C S_ .f32 (F := F) → C S1x10 .f32 (F := F)),
    ternary main_v47 main_call5_v1 main_v48 main_v49 (select : C S1x10 .i1 (F := F) → C S1x10 .f32 (F := F) → C S1x10 .f32 (F := F) → C S1x10 .f32 (F := F)),
    unary main_v49 main_v50 (broadcastInDim S512x10 ![0, 1] bcast_S1x10_S512x10_0_1 : C S1x10 .f32 (F := F) → C S512x10 .f32 (F := F)),
    binary main_v41 main_v50 main_v51 (Host.divf : C S512x10 .f32 (F := F) → C S512x10 .f32 (F := F) → C S512x10 .f32 (F := F)),
    nullary main_cst_11 (constant S_ .f32 0x00000000#32),
    unary main_cst_11 main_call6_v0 (id : C S_ .f32 (F := F) → C S_ .f32 (F := F)),
    unary main_v44 main_call6_v1 ((broadcastInDim S512x10 ![0, 1] bcast_S1x10_S512x10_0_1) : C S1x10 .i1 (F := F) → C S512x10 .i1 (F := F)),
    unary main_call6_v0 main_call6_v2 ((broadcastInDim S512x10 ![] bcast_S_S512x10) : C S_ .f32 (F := F) → C S512x10 .f32 (F := F)),
    ternary main_call6_v1 main_call6_v2 main_v51 main_v52 (select : C S512x10 .i1 (F := F) → C S512x10 .f32 (F := F) → C S512x10 .f32 (F := F) → C S512x10 .f32 (F := F)),
    nullary main_call7_v0 ((iotaInDim S512x10 32 1) : C S512x10 .i32 (F := F)),
    nullary main_call7_cst ((constant S_ .f32 0xFF800000#32) : C S_ .f32 (F := F)),
    nullary main_call7_c ((constantI S_ 32 0#32) : C S_ .i32 (F := F)),
    quaternary main_v52 main_call7_v0 main_call7_cst main_call7_c main_call7_v1_0 (argmaxVal : C S512x10 .f32 (F := F) → C S512x10 .i32 (F := F) → C S_ .f32 (F := F) → C S_ .i32 (F := F) → C S512 .f32 (F := F)),
    quaternary main_v52 main_call7_v0 main_call7_cst main_call7_c main_v53 (argmaxIdx : C S512x10 .f32 (F := F) → C S512x10 .i32 (F := F) → C S_ .f32 (F := F) → C S_ .i32 (F := F) → C S512 .i32 (F := F)),
    reshape main_v34 main_v54 (rfl : (.i32 : EltTy) = .i32) shapeCasts_S512_S1x512,
    reshape main_v53 main_v55 (rfl : (.i32 : EltTy) = .i32) shapeCasts_S512_S1x512 ]

/-- The program's first window. -/
def win0 : List (HloOp τ sig (Elt F)) := den ++ (fst ++ sndA)

/-- All operations. -/
abbrev ops : List (HloOp τ sig (Elt F)) := win0 ++ sndB

set_option maxRecDepth 8192 in
set_option maxHeartbeats 4000000 in
theorem win0_eq (c : Dev nD) : main_part0 (F := F) c = seq win0 := rfl

set_option maxRecDepth 8192 in
set_option maxHeartbeats 4000000 in
theorem win1_eq (c : Dev nD) : main_part1 (F := F) c = seq sndB := rfl

set_option maxRecDepth 8192 in
theorem main_eq (c : Dev nD) : main (F := F) c = seq ops := by
  simp only [ops, seq_append, ← win0_eq c, ← win1_eq c]
  rfl

theorem scopedRefs_eq : (Finset.univ.filter fun b : Ref sig .tc => b.isScoped) = ∅ := by decide

theorem scopedSems_eq : (Finset.univ.filter fun sm : SemLoc sig => sm.isScoped .tc) = ∅ := by decide

/-- What the run theorem asks of a list of operations. -/
def Plain (l : List (HloOp τ sig (Elt F))) : Prop :=
  (l.Forall fun op => op.bufs ⊆ tcRefs τ sig) ∧ l.Forall fun op => op.fresh = ∅

theorem Plain.append {l k : List (HloOp τ sig (Elt F))} (hl : Plain l) (hk : Plain k) : Plain (l ++ k) :=
  ⟨List.forall_append.mpr ⟨hl.1, hk.1⟩, List.forall_append.mpr ⟨hl.2, hk.2⟩⟩

set_option maxRecDepth 8192 in
theorem den_plain : Plain (F := F) den :=
  ⟨⟨reshape_bufs_sub .., binary_bufs_sub .., unary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub ..⟩,
   by simp only [List.Forall]; repeat' constructor⟩

set_option maxRecDepth 8192 in
theorem fst_plain : Plain (F := F) fst :=
  ⟨⟨reshape_bufs_sub .., unary_bufs_sub .., nullary_bufs_sub .., unary_bufs_sub .., unary_bufs_sub ..,
    binary_bufs_sub .., unary_bufs_sub .., nullary_bufs_sub .., binary_bufs_sub .., binary_bufs_sub ..,
    unary_bufs_sub .., binary_bufs_sub .., binary_bufs_sub .., unary_bufs_sub .., nullary_bufs_sub ..,
    unary_bufs_sub .., binary_bufs_sub .., unary_bufs_sub .., nullary_bufs_sub .., unary_bufs_sub ..,
    binary_bufs_sub .., unary_bufs_sub .., nullary_bufs_sub .., unary_bufs_sub .., unary_bufs_sub ..,
    ternary_bufs_sub .., unary_bufs_sub .., binary_bufs_sub .., nullary_bufs_sub .., unary_bufs_sub ..,
    unary_bufs_sub .., unary_bufs_sub .., ternary_bufs_sub .., nullary_bufs_sub .., nullary_bufs_sub ..,
    nullary_bufs_sub .., quaternary_bufs_sub .., quaternary_bufs_sub ..⟩,
   by simp only [List.Forall]; repeat' constructor⟩

set_option maxRecDepth 8192 in
theorem sndA_plain : Plain (F := F) sndA :=
  ⟨⟨reshape_bufs_sub .., unary_bufs_sub .., nullary_bufs_sub .., unary_bufs_sub .., unary_bufs_sub ..,
    binary_bufs_sub .., unary_bufs_sub .., nullary_bufs_sub .., binary_bufs_sub .., binary_bufs_sub ..,
    unary_bufs_sub .., binary_bufs_sub .., binary_bufs_sub .., unary_bufs_sub .., nullary_bufs_sub ..,
    unary_bufs_sub .., binary_bufs_sub .., unary_bufs_sub .., nullary_bufs_sub .., unary_bufs_sub ..,
    binary_bufs_sub .., unary_bufs_sub ..⟩,
   by simp only [List.Forall]; repeat' constructor⟩

set_option maxRecDepth 8192 in
theorem sndB_plain : Plain (F := F) sndB :=
  ⟨⟨nullary_bufs_sub .., unary_bufs_sub .., unary_bufs_sub .., ternary_bufs_sub .., unary_bufs_sub ..,
    binary_bufs_sub .., nullary_bufs_sub .., unary_bufs_sub .., unary_bufs_sub .., unary_bufs_sub ..,
    ternary_bufs_sub .., nullary_bufs_sub .., nullary_bufs_sub .., nullary_bufs_sub .., quaternary_bufs_sub
    .., quaternary_bufs_sub .., reshape_bufs_sub .., reshape_bufs_sub ..⟩,
   by simp only [List.Forall]; repeat' constructor⟩

theorem ops_plain : Plain (F := F) ops := (den_plain.append (fst_plain.append sndA_plain)).append sndB_plain

theorem ops_fresh : ∀ op ∈ (ops : List (HloOp τ sig (Elt F))), op.fresh = ∅ :=
  List.forall_iff_forall_mem.mp ops_plain.2

end Cert.Reference2Ideal.Ops

end

end
-- ==== Proof.AloneVals.lean ====
module

public import proofs.«01_k».proof.Proof.StatVals
public import proofs.«01_k».proof.Proof.AloneOps

/-! What the reference of the second call alone leaves in its results: the functions of the whole reference's second half,
of arrays given as arguments. -/

@[expose] public section

set_option Elab.async false

noncomputable section

namespace Cert.Reference2Ideal.Vals

open Cert.Reference2Ideal Cert.Reference2Ideal.Gen Cert.Reference2Ideal.Ops Idealize.ShloMosaic Idealize.ShloMosaic.TcCoe Idealize.SL.Sem Idealize.ShloMosaic.StableHlo

open Cert.ReferenceIdeal.Vals (soft logit pick)

variable {F : FTy → Type} [FloatOps F]

section
variable (V : Valuation τ sig (Elt F))

set_option maxRecDepth 8192 in
set_option maxHeartbeats 2000000 in
theorem den_v15 : after den V (no_index (Proc.devRef .tc main_v15)) = soft (logit (V (Proc.devRef .tc main_arg0)) (V (Proc.devRef .tc main_arg4)) (V (Proc.devRef .tc main_arg5))) := by
  simp only [den]
  after_results_simp
  all_goals rfl

/-- What this stretch leaves as it was. -/
theorem den_keep :
      after den V (no_index (Proc.devRef .tc main_arg0)) = V (Proc.devRef .tc main_arg0) ∧
      after den V (no_index (Proc.devRef .tc main_arg1)) = V (Proc.devRef .tc main_arg1) ∧
      after den V (no_index (Proc.devRef .tc main_arg2)) = V (Proc.devRef .tc main_arg2) ∧
      after den V (no_index (Proc.devRef .tc main_arg3)) = V (Proc.devRef .tc main_arg3) ∧
      after den V (no_index (Proc.devRef .tc main_arg4)) = V (Proc.devRef .tc main_arg4) ∧
      after den V (no_index (Proc.devRef .tc main_arg5)) = V (Proc.devRef .tc main_arg5) ∧
      after den V (no_index (Proc.devRef .tc main_arg6)) = V (Proc.devRef .tc main_arg6) ∧
      after den V (no_index (Proc.devRef .tc main_arg7)) = V (Proc.devRef .tc main_arg7) ∧
      after den V (no_index (Proc.devRef .tc main_arg8)) = V (Proc.devRef .tc main_arg8) ∧
      after den V (no_index (Proc.devRef .tc main_arg9)) = V (Proc.devRef .tc main_arg9) := by
  simp only [den]
  refine ⟨?_, ?_, ?_, ?_, ?_, ?_, ?_, ?_, ?_, ?_⟩ <;> after_results_simp

set_option maxRecDepth 8192 in
set_option maxHeartbeats 2000000 in
theorem fst_v34 : after fst V (no_index (Proc.devRef .tc main_v34)) = pick (V (Proc.devRef .tc main_arg2)) (V (Proc.devRef .tc main_arg6)) (V (Proc.devRef .tc main_arg8)) (V (Proc.devRef .tc main_arg1)) := by
  simp only [fst]
  after_results_simp
  all_goals rfl

/-- What this stretch leaves as it was. -/
theorem fst_keep :
      after fst V (no_index (Proc.devRef .tc main_arg0)) = V (Proc.devRef .tc main_arg0) ∧
      after fst V (no_index (Proc.devRef .tc main_arg1)) = V (Proc.devRef .tc main_arg1) ∧
      after fst V (no_index (Proc.devRef .tc main_arg2)) = V (Proc.devRef .tc main_arg2) ∧
      after fst V (no_index (Proc.devRef .tc main_arg3)) = V (Proc.devRef .tc main_arg3) ∧
      after fst V (no_index (Proc.devRef .tc main_arg4)) = V (Proc.devRef .tc main_arg4) ∧
      after fst V (no_index (Proc.devRef .tc main_arg5)) = V (Proc.devRef .tc main_arg5) ∧
      after fst V (no_index (Proc.devRef .tc main_arg6)) = V (Proc.devRef .tc main_arg6) ∧
      after fst V (no_index (Proc.devRef .tc main_arg7)) = V (Proc.devRef .tc main_arg7) ∧
      after fst V (no_index (Proc.devRef .tc main_arg8)) = V (Proc.devRef .tc main_arg8) ∧
      after fst V (no_index (Proc.devRef .tc main_arg9)) = V (Proc.devRef .tc main_arg9) ∧
      after fst V (no_index (Proc.devRef .tc main_v15)) = V (Proc.devRef .tc main_v15) := by
  simp only [fst]
  refine ⟨?_, ?_, ?_, ?_, ?_, ?_, ?_, ?_, ?_, ?_, ?_⟩ <;> after_results_simp

/-- The stretch of the second classes. -/
abbrev snd : List (HloOp τ sig (Elt F)) := sndA ++ sndB

set_option maxRecDepth 8192 in
set_option maxHeartbeats 2000000 in
theorem snd_v54 : after snd V (no_index (Proc.devRef .tc main_v54)) = shapeCast _ (V (Proc.devRef .tc main_v34)) shapeCasts_S512_S1x512 := by
  simp only [snd, sndA, sndB, List.cons_append, List.nil_append]
  after_results_simp
  all_goals rfl

set_option maxRecDepth 8192 in
set_option maxHeartbeats 2000000 in
theorem snd_v55 : after snd V (no_index (Proc.devRef .tc main_v55)) = shapeCast _ (pick (V (Proc.devRef .tc main_arg3)) (V (Proc.devRef .tc main_arg7)) (V (Proc.devRef .tc main_arg9)) (V (Proc.devRef .tc main_arg1))) shapeCasts_S512_S1x512 := by
  simp only [snd, sndA, sndB, List.cons_append, List.nil_append]
  after_results_simp
  all_goals rfl

/-- What this stretch leaves as it was. -/
theorem snd_keep :
      after snd V (no_index (Proc.devRef .tc main_arg0)) = V (Proc.devRef .tc main_arg0) ∧
      after snd V (no_index (Proc.devRef .tc main_arg1)) = V (Proc.devRef .tc main_arg1) ∧
      after snd V (no_index (Proc.devRef .tc main_arg2)) = V (Proc.devRef .tc main_arg2) ∧
      after snd V (no_index (Proc.devRef .tc main_arg3)) = V (Proc.devRef .tc main_arg3) ∧
      after snd V (no_index (Proc.devRef .tc main_arg4)) = V (Proc.devRef .tc main_arg4) ∧
      after snd V (no_index (Proc.devRef .tc main_arg5)) = V (Proc.devRef .tc main_arg5) ∧
      after snd V (no_index (Proc.devRef .tc main_arg6)) = V (Proc.devRef .tc main_arg6) ∧
      after snd V (no_index (Proc.devRef .tc main_arg7)) = V (Proc.devRef .tc main_arg7) ∧
      after snd V (no_index (Proc.devRef .tc main_arg8)) = V (Proc.devRef .tc main_arg8) ∧
      after snd V (no_index (Proc.devRef .tc main_arg9)) = V (Proc.devRef .tc main_arg9) ∧
      after snd V (no_index (Proc.devRef .tc main_v15)) = V (Proc.devRef .tc main_v15) := by
  simp only [snd, sndA, sndB, List.cons_append, List.nil_append]
  refine ⟨?_, ?_, ?_, ?_, ?_, ?_, ?_, ?_, ?_, ?_, ?_⟩ <;> after_results_simp

theorem after_ops : after ops V = after snd (after fst (after den V)) := by
  simp only [ops, snd, win0, after_append]

/-- The arguments and the results at the end. -/
theorem ends :
    after ops V (Proc.devRef .tc main_v15) = soft (logit (V (Proc.devRef .tc main_arg0)) (V (Proc.devRef .tc main_arg4)) (V (Proc.devRef .tc main_arg5))) ∧
    after ops V (Proc.devRef .tc main_v54) = shapeCast _ (pick (V (Proc.devRef .tc main_arg2)) (V (Proc.devRef .tc main_arg6)) (V (Proc.devRef .tc main_arg8)) (V (Proc.devRef .tc main_arg1))) shapeCasts_S512_S1x512 ∧
    after ops V (Proc.devRef .tc main_v55) = shapeCast _ (pick (V (Proc.devRef .tc main_arg3)) (V (Proc.devRef .tc main_arg7)) (V (Proc.devRef .tc main_arg9)) (V (Proc.devRef .tc main_arg1))) shapeCasts_S512_S1x512 ∧
    after ops V (Proc.devRef .tc main_arg0) = V (Proc.devRef .tc main_arg0) ∧
    after ops V (Proc.devRef .tc main_arg1) = V (Proc.devRef .tc main_arg1) ∧
    after ops V (Proc.devRef .tc main_arg2) = V (Proc.devRef .tc main_arg2) ∧
    after ops V (Proc.devRef .tc main_arg3) = V (Proc.devRef .tc main_arg3) ∧
    after ops V (Proc.devRef .tc main_arg4) = V (Proc.devRef .tc main_arg4) ∧
    after ops V (Proc.devRef .tc main_arg5) = V (Proc.devRef .tc main_arg5) ∧
    after ops V (Proc.devRef .tc main_arg6) = V (Proc.devRef .tc main_arg6) ∧
    after ops V (Proc.devRef .tc main_arg7) = V (Proc.devRef .tc main_arg7) ∧
    after ops V (Proc.devRef .tc main_arg8) = V (Proc.devRef .tc main_arg8) ∧
    after ops V (Proc.devRef .tc main_arg9) = V (Proc.devRef .tc main_arg9) := by
  rw [after_ops]
  simp only [den_v15, den_keep, fst_v34, fst_keep, snd_v54, snd_v55, snd_keep, and_self]

end

/-- On every device, from any memory with zero counters, every run ends with the results at these terms of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = soft (logit (m ((c.tc : Thread nD τ).loc main_arg0)) (m ((c.tc : Thread nD τ).loc main_arg4)) (m ((c.tc : Thread nD τ).loc main_arg5))) ∧
      r.2.mem ((c.tc : Thread nD τ).loc main_v54) = shapeCast _ (pick (m ((c.tc : Thread nD τ).loc main_arg2)) (m ((c.tc : Thread nD τ).loc main_arg6)) (m ((c.tc : Thread nD τ).loc main_arg8)) (m ((c.tc : Thread nD τ).loc main_arg1))) shapeCasts_S512_S1x512 ∧
      r.2.mem ((c.tc : Thread nD τ).loc main_v55) = shapeCast _ (pick (m ((c.tc : Thread nD τ).loc main_arg3)) (m ((c.tc : Thread nD τ).loc main_arg7)) (m ((c.tc : Thread nD τ).loc main_arg9)) (m ((c.tc : Thread nD τ).loc main_arg1))) shapeCasts_S512_S1x512 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  (θ_run defs _ _).mono (fun _ h c => by
    obtain ⟨h0, h1, h2, h3, h4, h5, h6, h7, h8, h9, h10, h11, h12⟩ := ends (F := F) (launchContents m c)
    exact ⟨(h c main_v15).trans h0, (h c main_v54).trans h1, (h c main_v55).trans h2, (h c main_arg0).trans h3, (h c main_arg1).trans h4, (h c main_arg2).trans h5, (h c main_arg3).trans h6, (h c main_arg4).trans h7, (h c main_arg5).trans h8, (h c main_arg6).trans h9, (h c main_arg7).trans h10, (h c main_arg8).trans h11, (h c main_arg9).trans h12⟩)
    (run_seq scopedRefs_eq scopedSems_eq defs main (fun _ => ops) main_eq (fun _ => ops_plain.1) m ρ fun _ => ops_fresh)

end Cert.Reference2Ideal.Vals

end

end
-- ==== Proof.Whole.lean ====
module

public import proofs.«01_k».proof.Proof.Gen.KernelIdeal.Frame

/-! The run of the first two calls as one program: what each result array holds at the end. The second call leaves the
first call's results as they were. -/

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F] [Named F] (m : (ℓ : Loc nD τ sig) → Buf (Elt F) ℓ) (ρ : Dev nD → PrngReg)

theorem end75_0 (c : Dev nD) : W4 m ρ c (Proc.devRef .tc main_v75_0) = (dat0 (V1 m ρ) c).arrAt 6 cfg0.N :=
  (W4_of m ρ c main_v75_0 (by decide)).trans ((W3_of m ρ c main_v75_0 (by decide)).trans (W2_arr m ρ c 6))

theorem end75_1 (c : Dev nD) : W4 m ρ c (Proc.devRef .tc main_v75_1) = (dat0 (V1 m ρ) c).arrAt 7 cfg0.N :=
  (W4_of m ρ c main_v75_1 (by decide)).trans ((W3_of m ρ c main_v75_1 (by decide)).trans (W2_arr m ρ c 7))

theorem end75_2 (c : Dev nD) : W4 m ρ c (Proc.devRef .tc main_v75_2) = (dat0 (V1 m ρ) c).arrAt 8 cfg0.N :=
  (W4_of m ρ c main_v75_2 (by decide)).trans ((W3_of m ρ c main_v75_2 (by decide)).trans (W2_arr m ρ c 8))

theorem end75_3 (c : Dev nD) : W4 m ρ c (Proc.devRef .tc main_v75_3) = (dat0 (V1 m ρ) c).arrAt 9 cfg0.N :=
  (W4_of m ρ c main_v75_3 (by decide)).trans ((W3_of m ρ c main_v75_3 (by decide)).trans (W2_arr m ρ c 9))

theorem end75_4 (c : Dev nD) : W4 m ρ c (Proc.devRef .tc main_v75_4) = (dat0 (V1 m ρ) c).arrAt 10 cfg0.N :=
  (W4_of m ρ c main_v75_4 (by decide)).trans ((W3_of m ρ c main_v75_4 (by decide)).trans (W2_arr m ρ c 10))

theorem end75_5 (c : Dev nD) : W4 m ρ c (Proc.devRef .tc main_v75_5) = (dat0 (V1 m ρ) c).arrAt 11 cfg0.N :=
  (W4_of m ρ c main_v75_5 (by decide)).trans ((W3_of m ρ c main_v75_5 (by decide)).trans (W2_arr m ρ c 11))

theorem end75_6 (c : Dev nD) : W4 m ρ c (Proc.devRef .tc main_v75_6) = (dat0 (V1 m ρ) c).arrAt 12 cfg0.N :=
  (W4_of m ρ c main_v75_6 (by decide)).trans ((W3_of m ρ c main_v75_6 (by decide)).trans (W2_arr m ρ c 12))

theorem end86_0 (c : Dev nD) : W4 m ρ c (Proc.devRef .tc main_v86_0) = (dat1 (V3 m ρ) c).arrAt 10 cfg1.N := W4_arr m ρ c 10

theorem end86_1 (c : Dev nD) : W4 m ρ c (Proc.devRef .tc main_v86_1) = (dat1 (V3 m ρ) c).arrAt 11 cfg1.N := W4_arr m ρ c 11

theorem end86_2 (c : Dev nD) : W4 m ρ c (Proc.devRef .tc main_v86_2) = (dat1 (V3 m ρ) c).arrAt 12 cfg1.N := W4_arr m ρ c 12

set_option maxHeartbeats 2000000 in
set_option backward.isDefEq.respectTransparency.types false in
/-- Every run ends with each result at what its call leaves, and the arguments unchanged. -/
theorem run : θ_run defs (onTc (τ := τ) (main (F := F))) ⟨m, fun _ => 0, ρ⟩ fun r => ∀ c : Dev nD,
      r.2.mem ((c.tc : Thread nD τ).loc main_v86_0) = (dat1 (V3 m ρ) c).arrAt 10 cfg1.N ∧
      r.2.mem ((c.tc : Thread nD τ).loc main_v75_0) = (dat0 (V1 m ρ) c).arrAt 6 cfg0.N ∧
      r.2.mem ((c.tc : Thread nD τ).loc main_v75_1) = (dat0 (V1 m ρ) c).arrAt 7 cfg0.N ∧
      r.2.mem ((c.tc : Thread nD τ).loc main_v75_2) = (dat0 (V1 m ρ) c).arrAt 8 cfg0.N ∧
      r.2.mem ((c.tc : Thread nD τ).loc main_v75_3) = (dat0 (V1 m ρ) c).arrAt 9 cfg0.N ∧
      r.2.mem ((c.tc : Thread nD τ).loc main_v75_4) = (dat0 (V1 m ρ) c).arrAt 10 cfg0.N ∧
      r.2.mem ((c.tc : Thread nD τ).loc main_v75_5) = (dat0 (V1 m ρ) c).arrAt 11 cfg0.N ∧
      r.2.mem ((c.tc : Thread nD τ).loc main_v75_6) = (dat0 (V1 m ρ) c).arrAt 12 cfg0.N ∧
      r.2.mem ((c.tc : Thread nD τ).loc main_v86_1) = (dat1 (V3 m ρ) c).arrAt 11 cfg1.N ∧
      r.2.mem ((c.tc : Thread nD τ).loc main_v86_2) = (dat1 (V3 m ρ) c).arrAt 12 cfg1.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v86_0 (by decide))).trans (end86_0 m ρ c),
       (h c _ (mem_uc main_v75_0 (by decide))).trans (end75_0 m ρ c),
       (h c _ (mem_uc main_v75_1 (by decide))).trans (end75_1 m ρ c),
       (h c _ (mem_uc main_v75_2 (by decide))).trans (end75_2 m ρ c),
       (h c _ (mem_uc main_v75_3 (by decide))).trans (end75_3 m ρ c),
       (h c _ (mem_uc main_v75_4 (by decide))).trans (end75_4 m ρ c),
       (h c _ (mem_uc main_v75_5 (by decide))).trans (end75_5 m ρ c),
       (h c _ (mem_uc main_v75_6 (by decide))).trans (end75_6 m ρ c),
       (h c _ (mem_uc main_v86_1 (by decide))).trans (end86_1 m ρ c),
       (h c _ (mem_uc main_v86_2 (by decide))).trans (end86_2 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end

end
-- ==== Proof.lean ====
module

public import proofs.«01_k».proof.Defs
public import proofs.«01_k».proof.Proof.Gen.Kernel.Frame
public import proofs.«01_k».proof.Proof.Gen.KernelIdeal.Frame
public import proofs.«01_k».proof.Proof.Results
public import proofs.«01_k».proof.Proof.Gen.Kernel3.Frame
public import proofs.«01_k».proof.Proof.Gen.Kernel3Ideal.Frame
public import proofs.«01_k».proof.Proof.LossAt
public import proofs.«01_k».proof.Proof.Both
public import proofs.«01_k».proof.Proof.Gen.Kernel2.Frame
public import proofs.«01_k».proof.Proof.Alone
public import proofs.«01_k».proof.Proof.AloneVals
public import proofs.«01_k».proof.Proof.Whole
public import Idealize.ShloMosaic.Lib.Quiescent

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2.2.2.2.2.2.2.2.2.2, sem_eq_zero_of_no_sems (by decide) r.2⟩)
    (Cert.ReferenceIdeal.Vals.run (F := Ideal) m ρ)

theorem preserves : Cert.preserves_Kernel_KernelIdeal :=
  IdealRules.named_const.statement Cert.KernelIdeal.κ "inv_hw" .f32 0x3BA72F05#32 ((1 / 196 : ℝ) : EReal) rfl

set_option maxHeartbeats 2000000 in
theorem algebraic : Cert.algebraic_KernelIdeal_ReferenceIdeal := by
  intro m g m' g' _ hagree
  refine ⟨_, _, _, _, _, _, _, _, _, _, Cert.KernelIdeal.Whole.run (F := Ideal) m g, ?_⟩
  refine (θ_run Cert.ReferenceIdeal.defs _ _).mono (fun _ h c => ?_) (Cert.ReferenceIdeal.Vals.run (F := Ideal) m' g')
  obtain ⟨a0, a1, a2, a3, a4, a5, a6, a7, a8, a9⟩ := hagree c
  obtain ⟨h0, h1, h2, h3, h4, h5, h6, h7, h8, h9, hk⟩ := h c
  rw [a0, a2, a3, a4, a5] at h0
  rw [a0] at h1 h4 h6
  rw [a0, a2, a3] at h2 h3 h5 h7
  rw [a0, a1, a6, a8] at h8
  rw [a0, a1, a2, a3, a7, a9] at h9
  exact ⟨h0.trans (Cert.Both.probs m g c).symm, h1.trans (Cert.Results.res0 m g c).symm, h2.trans (Cert.Results.res1 m g c).symm,
    h3.trans (Cert.Results.res2 m g c).symm, h4.trans (Cert.Results.res3 m g c).symm, h5.trans (Cert.Results.res4 m g c).symm,
    h6.trans (Cert.Results.res5 m g c).symm, h7.trans (Cert.Results.res6 m g c).symm, h8.trans (Cert.Both.class1 m g c).symm,
    h9.trans (Cert.Both.class2 m g c).symm, hk⟩

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Vals.run (F := Ideal) m ρ)

theorem algebraic_stats : Cert.algebraic_Kernel2Ideal_Reference2Ideal := by
  intro m g m' g' _ hagree
  refine ⟨_, _, _, Cert.Kernel2Ideal.Value.run_blocks (F := Ideal) m g, ?_⟩
  refine (θ_run Cert.Reference2Ideal.defs _ _).mono (fun _ h c => ?_) (Cert.Reference2Ideal.Vals.run (F := Ideal) m' g')
  obtain ⟨a0, a1, a2, a3, a4, a5, a6, a7, a8, a9⟩ := hagree c
  obtain ⟨h0, h1, h2, hk⟩ := h c
  rw [a0, a4, a5] at h0
  rw [a1, a2, a6, a8] at h1
  rw [a1, a3, a7, a9] at h2
  exact ⟨h0.trans (Cert.Alone.res0 m c).symm, h1.trans (Cert.Alone.res1 m c).symm, h2.trans (Cert.Alone.res2 m c).symm, hk⟩

theorem frame_loss : Cert.quiescent_Kernel3Ideal := fun m ρ _ => Cert.Kernel3Ideal.Gen.frame m ρ (Cert.Kernel3Ideal.Loss.ok m)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Loss.run m ρ)

theorem algebraic_loss [Cert.Pre_positions.Facts] : Cert.algebraic_Kernel3Ideal_Reference3Ideal_pre_positions := by
  intro m g m' g' hpre hagree
  refine ⟨_, _, _, Cert.Kernel3Ideal.Loss.run m g, ?_⟩
  refine (θ_run Cert.Reference3Ideal.defs _ _).mono (fun _ h c => ?_) (Cert.Reference3Ideal.Loss.run m' g')
  have hp := Cert.Positions.all _ _ _ _ _ (hpre c)
  obtain ⟨a0, a1, a2, a3, a4⟩ := hagree c
  obtain ⟨h0, h1, h2, hk⟩ := h c
  rw [a1] at h0
  rw [a0, a1, a3] at h1
  rw [a0, a2, a4] at h2
  exact ⟨h0.trans (Cert.Kernel3Ideal.Loss.res0 m c fun n l => (hp n l).1).symm, h1.trans (Cert.Kernel3Ideal.Loss.res1 m c fun n l => (hp n l).1).symm,
    h2.trans (Cert.Kernel3Ideal.Loss.res2 m c fun n l => (hp n l).2).symm, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Positions.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ trivial, frame_loss, fun m ρ _ => frame_loss m ρ trivial,
    frame_reference3, fun m ρ _ => frame_reference3 m ρ trivial,
    preserves, algebraic, trivial, algebraic_stats, trivial, haveI := Cert.Positions.facts; algebraic_loss⟩

end Cert.Proof

end

end
